-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x8192x3072 : Shape := ⟨3, ![4, 8192, 3072]⟩
abbrev S4x8192x8704 : Shape := ⟨3, ![4, 8192, 8704]⟩
abbrev S4x8192x512 : Shape := ⟨3, ![4, 8192, 512]⟩
abbrev S1x2048x128 : Shape := ⟨3, ![1, 2048, 128]⟩
abbrev S2048x128 : Shape := ⟨2, ![2048, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 3
  | .vmem => 38
  | .smem => 0
  | _ => 0

abbrev bufTy : (tb : Table) → Fin (tcTables nBuf tb) → BufTy
  | .hbm, ⟨0, _⟩ => ⟨S4x8192x3072, .f32⟩
  | .hbm, ⟨1, _⟩ => ⟨S4x8192x8704, .f32⟩
  | .hbm, ⟨2, _⟩ => ⟨S4x8192x512, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .f32⟩
  | .local _ .vmem, ⟨19, _⟩ => ⟨S1x2048x128, .f32⟩
  | .local _ .vmem, ⟨20, _⟩ => ⟨S1x2048x128, .f32⟩
  | .local _ .vmem, ⟨21, _⟩ => ⟨S1x2048x128, .f32⟩
  | .local _ .vmem, ⟨22, _⟩ => ⟨S1x2048x128, .f32⟩
  | .local _ .vmem, ⟨23, _⟩ => ⟨S1x2048x128, .f32⟩
  | .local _ .vmem, ⟨24, _⟩ => ⟨S1x2048x128, .f32⟩
  | .local _ .vmem, ⟨25, _⟩ => ⟨S1x2048x128, .f32⟩
  | .local _ .vmem, ⟨26, _⟩ => ⟨S1x2048x128, .f32⟩
  | .local _ .vmem, ⟨27, _⟩ => ⟨S1x2048x128, .f32⟩
  | .local _ .vmem, ⟨28, _⟩ => ⟨S1x2048x128, .f32⟩
  | .local _ .vmem, ⟨29, _⟩ => ⟨S1x2048x128, .f32⟩
  | .local _ .vmem, ⟨30, _⟩ => ⟨S1x2048x128, .f32⟩
  | .local _ .vmem, ⟨31, _⟩ => ⟨S1x2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | _, _ => ⟨S4x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 4, 4], ![false, false, false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_off1 (k0_t1 : Fin k0_t1_loop.trips) : Fin 3 → Nat :=
  let c0_36 : Index := 0#32
  let c0_i32 : BitVec 32 := 0#32
  let c1_i32 : BitVec 32 := 1#32
  let arg25 : BitVec 32 := Scf.iv c0_i32 c1_i32 k0_t1
  let c0_i32_24 : BitVec 32 := 0#32
  let v33 : BitVec 1 := Scalar.cmpi .sgt arg25 c0_i32_24
  let v34 : BitVec 32 := Scalar.extui v33
  let c0_i32_25 : BitVec 32 := 0#32
  let v35 : BitVec 1 := Scalar.cmpi .slt arg25 c0_i32_25
  let v36 : BitVec 32 := Scalar.extui v35
  let v37 : BitVec 32 := Scalar.subi v34 v36
  let c16_i32_23 : BitVec 32 := 16#32
  let c0_i32_26 : BitVec 32 := 0#32
  let v38 : BitVec 1 := Scalar.cmpi .sgt c16_i32_23 c0_i32_26
  let v39 : BitVec 32 := Scalar.extui v38
  let c0_i32_27 : BitVec 32 := 0#32
  let v40 : BitVec 1 := Scalar.cmpi .slt c16_i32_23 c0_i32_27
  let v41 : BitVec 32 := Scalar.extui v40
  let v42 : BitVec 32 := Scalar.subi v39 v41
  let v43 : BitVec 1 := Scalar.cmpi .ne v37 v42
  let v44 : BitVec 32 := Scalar.remsi arg25 c16_i32_23
  let c0_i32_28 : BitVec 32 := 0#32
  let v45 : BitVec 1 := Scalar.cmpi .ne v44 c0_i32_28
  let v46 : BitVec 1 := Scalar.andi v43 v45
  let v32 : BitVec 32 := Scalar.divsi arg25 c16_i32_23
  let c1_i32_29 : BitVec 32 := 1#32
  let v47 : BitVec 32 := Scalar.subi v32 c1_i32_29
  let v48 : BitVec 32 := Scalar.select v46 v47 v32
  let c128_i32 : BitVec 32 := 128#32
  let c16_i32_30 : BitVec 32 := 16#32
  let c0_i32_31 : BitVec 32 := 0#32
  let v49 : BitVec 1 := Scalar.cmpi .eq c16_i32_30 c0_i32_31
  let c1_i32_32 : BitVec 32 := 1#32
  let v50 : BitVec 32 := Scalar.select v49 c1_i32_32 c16_i32_30
  let v51 : BitVec 32 := Scalar.remsi arg25 v50
  let c0_i32_34 : BitVec 32 := 0#32
  let v53 : BitVec 1 := Scalar.cmpi .slt v51 c0_i32_34
  let c0_i32_35 : BitVec 32 := 0#32
  let v54 : BitVec 1 := Scalar.cmpi .slt v50 c0_i32_35
  let v55 : BitVec 1 := Scalar.xori v53 v54
  let c0_i32_33 : BitVec 32 := 0#32
  let v52 : BitVec 1 := Scalar.cmpi .ne v51 c0_i32_33
  let v56 : BitVec 1 := Scalar.andi v55 v52
  let v57 : BitVec 32 := Scalar.addi v51 v50
  let v58 : BitVec 32 := Scalar.select v56 v57 v51
  let v59 : BitVec 32 := Scalar.muli c128_i32 v58
  let v60 : BitVec 32 := Scalar.addi v48 v59
  let v61 : Index := Scalar.indexCast v60
  let c0_37 : Index := 0#32
  ![0, v61.toNat, 0]
def k0_off2 (k0_t1 : Fin k0_t1_loop.trips) : Fin 3 → Nat :=
  let c0_44 : Index := 0#32
  let c0_i32 : BitVec 32 := 0#32
  let c1_i32 : BitVec 32 := 1#32
  let arg25 : BitVec 32 := Scf.iv c0_i32 c1_i32 k0_t1
  let c0_i32_24 : BitVec 32 := 0#32
  let v33 : BitVec 1 := Scalar.cmpi .sgt arg25 c0_i32_24
  let v34 : BitVec 32 := Scalar.extui v33
  let c0_i32_25 : BitVec 32 := 0#32
  let v35 : BitVec 1 := Scalar.cmpi .slt arg25 c0_i32_25
  let v36 : BitVec 32 := Scalar.extui v35
  let v37 : BitVec 32 := Scalar.subi v34 v36
  let c16_i32_23 : BitVec 32 := 16#32
  let c0_i32_26 : BitVec 32 := 0#32
  let v38 : BitVec 1 := Scalar.cmpi .sgt c16_i32_23 c0_i32_26
  let v39 : BitVec 32 := Scalar.extui v38
  let c0_i32_27 : BitVec 32 := 0#32
  let v40 : BitVec 1 := Scalar.cmpi .slt c16_i32_23 c0_i32_27
  let v41 : BitVec 32 := Scalar.extui v40
  let v42 : BitVec 32 := Scalar.subi v39 v41
  let v43 : BitVec 1 := Scalar.cmpi .ne v37 v42
  let v44 : BitVec 32 := Scalar.remsi arg25 c16_i32_23
  let c0_i32_28 : BitVec 32 := 0#32
  let v45 : BitVec 1 := Scalar.cmpi .ne v44 c0_i32_28
  let v46 : BitVec 1 := Scalar.andi v43 v45
  let v32 : BitVec 32 := Scalar.divsi arg25 c16_i32_23
  let c1_i32_29 : BitVec 32 := 1#32
  let v47 : BitVec 32 := Scalar.subi v32 c1_i32_29
  let v48 : BitVec 32 := Scalar.select v46 v47 v32
  let c1920_i32 : BitVec 32 := 1920#32
  let v71 : BitVec 32 := Scalar.addi v48 c1920_i32
  let v75 : Index := Scalar.indexCast v71
  let c0_45 : Index := 0#32
  ![0, v75.toNat, 0]
def k0_off3 (k0_t1 : Fin k0_t1_loop.trips) : Fin 3 → Nat :=
  let c0_46 : Index := 0#32
  let c0_i32 : BitVec 32 := 0#32
  let c1_i32 : BitVec 32 := 1#32
  let arg25 : BitVec 32 := Scf.iv c0_i32 c1_i32 k0_t1
  let c0_i32_24 : BitVec 32 := 0#32
  let v33 : BitVec 1 := Scalar.cmpi .sgt arg25 c0_i32_24
  let v34 : BitVec 32 := Scalar.extui v33
  let c0_i32_25 : BitVec 32 := 0#32
  let v35 : BitVec 1 := Scalar.cmpi .slt arg25 c0_i32_25
  let v36 : BitVec 32 := Scalar.extui v35
  let v37 : BitVec 32 := Scalar.subi v34 v36
  let c16_i32_23 : BitVec 32 := 16#32
  let c0_i32_26 : BitVec 32 := 0#32
  let v38 : BitVec 1 := Scalar.cmpi .sgt c16_i32_23 c0_i32_26
  let v39 : BitVec 32 := Scalar.extui v38
  let c0_i32_27 : BitVec 32 := 0#32
  let v40 : BitVec 1 := Scalar.cmpi .slt c16_i32_23 c0_i32_27
  let v41 : BitVec 32 := Scalar.extui v40
  let v42 : BitVec 32 := Scalar.subi v39 v41
  let v43 : BitVec 1 := Scalar.cmpi .ne v37 v42
  let v44 : BitVec 32 := Scalar.remsi arg25 c16_i32_23
  let c0_i32_28 : BitVec 32 := 0#32
  let v45 : BitVec 1 := Scalar.cmpi .ne v44 c0_i32_28
  let v46 : BitVec 1 := Scalar.andi v43 v45
  let v32 : BitVec 32 := Scalar.divsi arg25 c16_i32_23
  let c1_i32_29 : BitVec 32 := 1#32
  let v47 : BitVec 32 := Scalar.subi v32 c1_i32_29
  let v48 : BitVec 32 := Scalar.select v46 v47 v32
  let c128_i32 : BitVec 32 := 128#32
  let c16_i32_30 : BitVec 32 := 16#32
  let c0_i32_31 : BitVec 32 := 0#32
  let v49 : BitVec 1 := Scalar.cmpi .eq c16_i32_30 c0_i32_31
  let c1_i32_32 : BitVec 32 := 1#32
  let v50 : BitVec 32 := Scalar.select v49 c1_i32_32 c16_i32_30
  let v51 : BitVec 32 := Scalar.remsi arg25 v50
  let c0_i32_34 : BitVec 32 := 0#32
  let v53 : BitVec 1 := Scalar.cmpi .slt v51 c0_i32_34
  let c0_i32_35 : BitVec 32 := 0#32
  let v54 : BitVec 1 := Scalar.cmpi .slt v50 c0_i32_35
  let v55 : BitVec 1 := Scalar.xori v53 v54
  let c0_i32_33 : BitVec 32 := 0#32
  let v52 : BitVec 1 := Scalar.cmpi .ne v51 c0_i32_33
  let v56 : BitVec 1 := Scalar.andi v55 v52
  let v57 : BitVec 32 := Scalar.addi v51 v50
  let v58 : BitVec 32 := Scalar.select v56 v57 v51
  let v59 : BitVec 32 := Scalar.muli c128_i32 v58
  let v60 : BitVec 32 := Scalar.addi v48 v59
  let c128_i32_42 : BitVec 32 := 128#32
  let v72 : BitVec 32 := Scalar.subi v60 c128_i32_42
  let v73 : BitVec 32 := Scalar.maxsi v72 v48
  let v78 : Index := Scalar.indexCast v73
  let c0_47 : Index := 0#32
  ![0, v78.toNat, 0]
def k0_off4 (k0_t1 : Fin k0_t1_loop.trips) : Fin 2 → Nat :=
  let c0_i32 : BitVec 32 := 0#32
  let c1_i32 : BitVec 32 := 1#32
  let arg25 : BitVec 32 := Scf.iv c0_i32 c1_i32 k0_t1
  let c0_i32_24 : BitVec 32 := 0#32
  let v33 : BitVec 1 := Scalar.cmpi .sgt arg25 c0_i32_24
  let v34 : BitVec 32 := Scalar.extui v33
  let c0_i32_25 : BitVec 32 := 0#32
  let v35 : BitVec 1 := Scalar.cmpi .slt arg25 c0_i32_25
  let v36 : BitVec 32 := Scalar.extui v35
  let v37 : BitVec 32 := Scalar.subi v34 v36
  let c16_i32_23 : BitVec 32 := 16#32
  let c0_i32_26 : BitVec 32 := 0#32
  let v38 : BitVec 1 := Scalar.cmpi .sgt c16_i32_23 c0_i32_26
  let v39 : BitVec 32 := Scalar.extui v38
  let c0_i32_27 : BitVec 32 := 0#32
  let v40 : BitVec 1 := Scalar.cmpi .slt c16_i32_23 c0_i32_27
  let v41 : BitVec 32 := Scalar.extui v40
  let v42 : BitVec 32 := Scalar.subi v39 v41
  let v43 : BitVec 1 := Scalar.cmpi .ne v37 v42
  let v44 : BitVec 32 := Scalar.remsi arg25 c16_i32_23
  let c0_i32_28 : BitVec 32 := 0#32
  let v45 : BitVec 1 := Scalar.cmpi .ne v44 c0_i32_28
  let v46 : BitVec 1 := Scalar.andi v43 v45
  let v32 : BitVec 32 := Scalar.divsi arg25 c16_i32_23
  let c1_i32_29 : BitVec 32 := 1#32
  let v47 : BitVec 32 := Scalar.subi v32 c1_i32_29
  let v48 : BitVec 32 := Scalar.select v46 v47 v32
  let c128_i32 : BitVec 32 := 128#32
  let c16_i32_30 : BitVec 32 := 16#32
  let c0_i32_31 : BitVec 32 := 0#32
  let v49 : BitVec 1 := Scalar.cmpi .eq c16_i32_30 c0_i32_31
  let c1_i32_32 : BitVec 32 := 1#32
  let v50 : BitVec 32 := Scalar.select v49 c1_i32_32 c16_i32_30
  let v51 : BitVec 32 := Scalar.remsi arg25 v50
  let c0_i32_34 : BitVec 32 := 0#32
  let v53 : BitVec 1 := Scalar.cmpi .slt v51 c0_i32_34
  let c0_i32_35 : BitVec 32 := 0#32
  let v54 : BitVec 1 := Scalar.cmpi .slt v50 c0_i32_35
  let v55 : BitVec 1 := Scalar.xori v53 v54
  let c0_i32_33 : BitVec 32 := 0#32
  let v52 : BitVec 1 := Scalar.cmpi .ne v51 c0_i32_33
  let v56 : BitVec 1 := Scalar.andi v55 v52
  let v57 : BitVec 32 := Scalar.addi v51 v50
  let v58 : BitVec 32 := Scalar.select v56 v57 v51
  let v59 : BitVec 32 := Scalar.muli c128_i32 v58
  let v60 : BitVec 32 := Scalar.addi v48 v59
  let v135 : Index := Scalar.indexCast v60
  let c0_65 : Index := 0#32
  ![v135.toNat, 0]
@[reducible] def k0_t2_loop : Scf.Loop 32 :=
  let c0_i32_1 : BitVec 32 := 0#32
  let c16_i32_2 : BitVec 32 := 16#32
  let v3 : BitVec 32 := Scalar.addi c0_i32_1 c16_i32_2
  let c1_i32_3 : BitVec 32 := 1#32
  ⟨c0_i32_1, v3, c1_i32_3⟩
def k0_off5 (k0_t2 : Fin k0_t2_loop.trips) : Fin 3 → Nat :=
  let c0_35 : Index := 0#32
  let c0_i32_1 : BitVec 32 := 0#32
  let c1_i32_3 : BitVec 32 := 1#32
  let arg25 : BitVec 32 := Scf.iv c0_i32_1 c1_i32_3 k0_t2
  let c0_i32_23 : BitVec 32 := 0#32
  let v33 : BitVec 1 := Scalar.cmpi .sgt arg25 c0_i32_23
  let v34 : BitVec 32 := Scalar.extui v33
  let c0_i32_24 : BitVec 32 := 0#32
  let v35 : BitVec 1 := Scalar.cmpi .slt arg25 c0_i32_24
  let v36 : BitVec 32 := Scalar.extui v35
  let v37 : BitVec 32 := Scalar.subi v34 v36
  let c4_i32 : BitVec 32 := 4#32
  let c0_i32_25 : BitVec 32 := 0#32
  let v38 : BitVec 1 := Scalar.cmpi .sgt c4_i32 c0_i32_25
  let v39 : BitVec 32 := Scalar.extui v38
  let c0_i32_26 : BitVec 32 := 0#32
  let v40 : BitVec 1 := Scalar.cmpi .slt c4_i32 c0_i32_26
  let v41 : BitVec 32 := Scalar.extui v40
  let v42 : BitVec 32 := Scalar.subi v39 v41
  let v43 : BitVec 1 := Scalar.cmpi .ne v37 v42
  let v44 : BitVec 32 := Scalar.remsi arg25 c4_i32
  let c0_i32_27 : BitVec 32 := 0#32
  let v45 : BitVec 1 := Scalar.cmpi .ne v44 c0_i32_27
  let v46 : BitVec 1 := Scalar.andi v43 v45
  let v32 : BitVec 32 := Scalar.divsi arg25 c4_i32
  let c1_i32_28 : BitVec 32 := 1#32
  let v47 : BitVec 32 := Scalar.subi v32 c1_i32_28
  let v48 : BitVec 32 := Scalar.select v46 v47 v32
  let c512_i32 : BitVec 32 := 512#32
  let c4_i32_29 : BitVec 32 := 4#32
  let c0_i32_30 : BitVec 32 := 0#32
  let v49 : BitVec 1 := Scalar.cmpi .eq c4_i32_29 c0_i32_30
  let c1_i32_31 : BitVec 32 := 1#32
  let v50 : BitVec 32 := Scalar.select v49 c1_i32_31 c4_i32_29
  let v51 : BitVec 32 := Scalar.remsi arg25 v50
  let c0_i32_33 : BitVec 32 := 0#32
  let v53 : BitVec 1 := Scalar.cmpi .slt v51 c0_i32_33
  let c0_i32_34 : BitVec 32 := 0#32
  let v54 : BitVec 1 := Scalar.cmpi .slt v50 c0_i32_34
  let v55 : BitVec 1 := Scalar.xori v53 v54
  let c0_i32_32 : BitVec 32 := 0#32
  let v52 : BitVec 1 := Scalar.cmpi .ne v51 c0_i32_32
  let v56 : BitVec 1 := Scalar.andi v55 v52
  let v57 : BitVec 32 := Scalar.addi v51 v50
  let v58 : BitVec 32 := Scalar.select v56 v57 v51
  let v59 : BitVec 32 := Scalar.muli c512_i32 v58
  let v60 : BitVec 32 := Scalar.addi v48 v59
  let v61 : Index := Scalar.indexCast v60
  let c0_36 : Index := 0#32
  ![0, v61.toNat, 0]
def k0_off6 (k0_t2 : Fin k0_t2_loop.trips) : Fin 3 → Nat :=
  let c0_43 : Index := 0#32
  let c0_i32_1 : BitVec 32 := 0#32
  let c1_i32_3 : BitVec 32 := 1#32
  let arg25 : BitVec 32 := Scf.iv c0_i32_1 c1_i32_3 k0_t2
  let c0_i32_23 : BitVec 32 := 0#32
  let v33 : BitVec 1 := Scalar.cmpi .sgt arg25 c0_i32_23
  let v34 : BitVec 32 := Scalar.extui v33
  let c0_i32_24 : BitVec 32 := 0#32
  let v35 : BitVec 1 := Scalar.cmpi .slt arg25 c0_i32_24
  let v36 : BitVec 32 := Scalar.extui v35
  let v37 : BitVec 32 := Scalar.subi v34 v36
  let c4_i32 : BitVec 32 := 4#32
  let c0_i32_25 : BitVec 32 := 0#32
  let v38 : BitVec 1 := Scalar.cmpi .sgt c4_i32 c0_i32_25
  let v39 : BitVec 32 := Scalar.extui v38
  let c0_i32_26 : BitVec 32 := 0#32
  let v40 : BitVec 1 := Scalar.cmpi .slt c4_i32 c0_i32_26
  let v41 : BitVec 32 := Scalar.extui v40
  let v42 : BitVec 32 := Scalar.subi v39 v41
  let v43 : BitVec 1 := Scalar.cmpi .ne v37 v42
  let v44 : BitVec 32 := Scalar.remsi arg25 c4_i32
  let c0_i32_27 : BitVec 32 := 0#32
  let v45 : BitVec 1 := Scalar.cmpi .ne v44 c0_i32_27
  let v46 : BitVec 1 := Scalar.andi v43 v45
  let v32 : BitVec 32 := Scalar.divsi arg25 c4_i32
  let c1_i32_28 : BitVec 32 := 1#32
  let v47 : BitVec 32 := Scalar.subi v32 c1_i32_28
  let v48 : BitVec 32 := Scalar.select v46 v47 v32
  let c1536_i32 : BitVec 32 := 1536#32
  let v71 : BitVec 32 := Scalar.addi v48 c1536_i32
  let v75 : Index := Scalar.indexCast v71
  let c0_44 : Index := 0#32
  ![0, v75.toNat, 0]
def k0_off7 (k0_t2 : Fin k0_t2_loop.trips) : Fin 3 → Nat :=
  let c0_45 : Index := 0#32
  let c0_i32_1 : BitVec 32 := 0#32
  let c1_i32_3 : BitVec 32 := 1#32
  let arg25 : BitVec 32 := Scf.iv c0_i32_1 c1_i32_3 k0_t2
  let c0_i32_23 : BitVec 32 := 0#32
  let v33 : BitVec 1 := Scalar.cmpi .sgt arg25 c0_i32_23
  let v34 : BitVec 32 := Scalar.extui v33
  let c0_i32_24 : BitVec 32 := 0#32
  let v35 : BitVec 1 := Scalar.cmpi .slt arg25 c0_i32_24
  let v36 : BitVec 32 := Scalar.extui v35
  let v37 : BitVec 32 := Scalar.subi v34 v36
  let c4_i32 : BitVec 32 := 4#32
  let c0_i32_25 : BitVec 32 := 0#32
  let v38 : BitVec 1 := Scalar.cmpi .sgt c4_i32 c0_i32_25
  let v39 : BitVec 32 := Scalar.extui v38
  let c0_i32_26 : BitVec 32 := 0#32
  let v40 : BitVec 1 := Scalar.cmpi .slt c4_i32 c0_i32_26
  let v41 : BitVec 32 := Scalar.extui v40
  let v42 : BitVec 32 := Scalar.subi v39 v41
  let v43 : BitVec 1 := Scalar.cmpi .ne v37 v42
  let v44 : BitVec 32 := Scalar.remsi arg25 c4_i32
  let c0_i32_27 : BitVec 32 := 0#32
  let v45 : BitVec 1 := Scalar.cmpi .ne v44 c0_i32_27
  let v46 : BitVec 1 := Scalar.andi v43 v45
  let v32 : BitVec 32 := Scalar.divsi arg25 c4_i32
  let c1_i32_28 : BitVec 32 := 1#32
  let v47 : BitVec 32 := Scalar.subi v32 c1_i32_28
  let v48 : BitVec 32 := Scalar.select v46 v47 v32
  let c512_i32 : BitVec 32 := 512#32
  let c4_i32_29 : BitVec 32 := 4#32
  let c0_i32_30 : BitVec 32 := 0#32
  let v49 : BitVec 1 := Scalar.cmpi .eq c4_i32_29 c0_i32_30
  let c1_i32_31 : BitVec 32 := 1#32
  let v50 : BitVec 32 := Scalar.select v49 c1_i32_31 c4_i32_29
  let v51 : BitVec 32 := Scalar.remsi arg25 v50
  let c0_i32_33 : BitVec 32 := 0#32
  let v53 : BitVec 1 := Scalar.cmpi .slt v51 c0_i32_33
  let c0_i32_34 : BitVec 32 := 0#32
  let v54 : BitVec 1 := Scalar.cmpi .slt v50 c0_i32_34
  let v55 : BitVec 1 := Scalar.xori v53 v54
  let c0_i32_32 : BitVec 32 := 0#32
  let v52 : BitVec 1 := Scalar.cmpi .ne v51 c0_i32_32
  let v56 : BitVec 1 := Scalar.andi v55 v52
  let v57 : BitVec 32 := Scalar.addi v51 v50
  let v58 : BitVec 32 := Scalar.select v56 v57 v51
  let v59 : BitVec 32 := Scalar.muli c512_i32 v58
  let v60 : BitVec 32 := Scalar.addi v48 v59
  let c512_i32_41 : BitVec 32 := 512#32
  let v72 : BitVec 32 := Scalar.subi v60 c512_i32_41
  let v73 : BitVec 32 := Scalar.maxsi v72 v48
  let v78 : Index := Scalar.indexCast v73
  let c0_46 : Index := 0#32
  ![0, v78.toNat, 0]
def k0_off8 (k0_t2 : Fin k0_t2_loop.trips) : Fin 2 → Nat :=
  let c0_i32_1 : BitVec 32 := 0#32
  let c1_i32_3 : BitVec 32 := 1#32
  let arg25 : BitVec 32 := Scf.iv c0_i32_1 c1_i32_3 k0_t2
  let c0_i32_23 : BitVec 32 := 0#32
  let v33 : BitVec 1 := Scalar.cmpi .sgt arg25 c0_i32_23
  let v34 : BitVec 32 := Scalar.extui v33
  let c0_i32_24 : BitVec 32 := 0#32
  let v35 : BitVec 1 := Scalar.cmpi .slt arg25 c0_i32_24
  let v36 : BitVec 32 := Scalar.extui v35
  let v37 : BitVec 32 := Scalar.subi v34 v36
  let c4_i32 : BitVec 32 := 4#32
  let c0_i32_25 : BitVec 32 := 0#32
  let v38 : BitVec 1 := Scalar.cmpi .sgt c4_i32 c0_i32_25
  let v39 : BitVec 32 := Scalar.extui v38
  let c0_i32_26 : BitVec 32 := 0#32
  let v40 : BitVec 1 := Scalar.cmpi .slt c4_i32 c0_i32_26
  let v41 : BitVec 32 := Scalar.extui v40
  let v42 : BitVec 32 := Scalar.subi v39 v41
  let v43 : BitVec 1 := Scalar.cmpi .ne v37 v42
  let v44 : BitVec 32 := Scalar.remsi arg25 c4_i32
  let c0_i32_27 : BitVec 32 := 0#32
  let v45 : BitVec 1 := Scalar.cmpi .ne v44 c0_i32_27
  let v46 : BitVec 1 := Scalar.andi v43 v45
  let v32 : BitVec 32 := Scalar.divsi arg25 c4_i32
  let c1_i32_28 : BitVec 32 := 1#32
  let v47 : BitVec 32 := Scalar.subi v32 c1_i32_28
  let v48 : BitVec 32 := Scalar.select v46 v47 v32
  let c512_i32 : BitVec 32 := 512#32
  let c4_i32_29 : BitVec 32 := 4#32
  let c0_i32_30 : BitVec 32 := 0#32
  let v49 : BitVec 1 := Scalar.cmpi .eq c4_i32_29 c0_i32_30
  let c1_i32_31 : BitVec 32 := 1#32
  let v50 : BitVec 32 := Scalar.select v49 c1_i32_31 c4_i32_29
  let v51 : BitVec 32 := Scalar.remsi arg25 v50
  let c0_i32_33 : BitVec 32 := 0#32
  let v53 : BitVec 1 := Scalar.cmpi .slt v51 c0_i32_33
  let c0_i32_34 : BitVec 32 := 0#32
  let v54 : BitVec 1 := Scalar.cmpi .slt v50 c0_i32_34
  let v55 : BitVec 1 := Scalar.xori v53 v54
  let c0_i32_32 : BitVec 32 := 0#32
  let v52 : BitVec 1 := Scalar.cmpi .ne v51 c0_i32_32
  let v56 : BitVec 1 := Scalar.andi v55 v52
  let v57 : BitVec 32 := Scalar.addi v51 v50
  let v58 : BitVec 32 := Scalar.select v56 v57 v51
  let v59 : BitVec 32 := Scalar.muli c512_i32 v58
  let v60 : BitVec 32 := Scalar.addi v48 v59
  let v135 : Index := Scalar.indexCast v60
  let c0_64 : Index := 0#32
  ![v135.toNat, 0]
@[reducible] def k0_t3_loop : Scf.Loop 32 :=
  let c0_i32_5 : BitVec 32 := 0#32
  let c16_i32_6 : BitVec 32 := 16#32
  let v4 : BitVec 32 := Scalar.addi c0_i32_5 c16_i32_6
  let c1_i32_7 : BitVec 32 := 1#32
  ⟨c0_i32_5, v4, c1_i32_7⟩
def k0_off9 (k0_t3 : Fin k0_t3_loop.trips) : Fin 3 → Nat :=
  let c0_36 : Index := 0#32
  let c0_i32_5 : BitVec 32 := 0#32
  let c1_i32_7 : BitVec 32 := 1#32
  let arg25 : BitVec 32 := Scf.iv c0_i32_5 c1_i32_7 k0_t3
  let c0_i32_24 : BitVec 32 := 0#32
  let v33 : BitVec 1 := Scalar.cmpi .sgt arg25 c0_i32_24
  let v34 : BitVec 32 := Scalar.extui v33
  let c0_i32_25 : BitVec 32 := 0#32
  let v35 : BitVec 1 := Scalar.cmpi .slt arg25 c0_i32_25
  let v36 : BitVec 32 := Scalar.extui v35
  let v37 : BitVec 32 := Scalar.subi v34 v36
  let c1_i32_23 : BitVec 32 := 1#32
  let c0_i32_26 : BitVec 32 := 0#32
  let v38 : BitVec 1 := Scalar.cmpi .sgt c1_i32_23 c0_i32_26
  let v39 : BitVec 32 := Scalar.extui v38
  let c0_i32_27 : BitVec 32 := 0#32
  let v40 : BitVec 1 := Scalar.cmpi .slt c1_i32_23 c0_i32_27
  let v41 : BitVec 32 := Scalar.extui v40
  let v42 : BitVec 32 := Scalar.subi v39 v41
  let v43 : BitVec 1 := Scalar.cmpi .ne v37 v42
  let v44 : BitVec 32 := Scalar.remsi arg25 c1_i32_23
  let c0_i32_28 : BitVec 32 := 0#32
  let v45 : BitVec 1 := Scalar.cmpi .ne v44 c0_i32_28
  let v46 : BitVec 1 := Scalar.andi v43 v45
  let v32 : BitVec 32 := Scalar.divsi arg25 c1_i32_23
  let c1_i32_29 : BitVec 32 := 1#32
  let v47 : BitVec 32 := Scalar.subi v32 c1_i32_29
  let v48 : BitVec 32 := Scalar.select v46 v47 v32
  let c2048_i32 : BitVec 32 := 2048#32
  let c1_i32_30 : BitVec 32 := 1#32
  let c0_i32_31 : BitVec 32 := 0#32
  let v49 : BitVec 1 := Scalar.cmpi .eq c1_i32_30 c0_i32_31
  let c1_i32_32 : BitVec 32 := 1#32
  let v50 : BitVec 32 := Scalar.select v49 c1_i32_32 c1_i32_30
  let v51 : BitVec 32 := Scalar.remsi arg25 v50
  let c0_i32_34 : BitVec 32 := 0#32
  let v53 : BitVec 1 := Scalar.cmpi .slt v51 c0_i32_34
  let c0_i32_35 : BitVec 32 := 0#32
  let v54 : BitVec 1 := Scalar.cmpi .slt v50 c0_i32_35
  let v55 : BitVec 1 := Scalar.xori v53 v54
  let c0_i32_33 : BitVec 32 := 0#32
  let v52 : BitVec 1 := Scalar.cmpi .ne v51 c0_i32_33
  let v56 : BitVec 1 := Scalar.andi v55 v52
  let v57 : BitVec 32 := Scalar.addi v51 v50
  let v58 : BitVec 32 := Scalar.select v56 v57 v51
  let v59 : BitVec 32 := Scalar.muli c2048_i32 v58
  let v60 : BitVec 32 := Scalar.addi v48 v59
  let v61 : Index := Scalar.indexCast v60
  let c0_37 : Index := 0#32
  ![0, v61.toNat, 0]
def k0_off10 (k0_t3 : Fin k0_t3_loop.trips) : Fin 3 → Nat :=
  let c0_43 : Index := 0#32
  let c0_i32_5 : BitVec 32 := 0#32
  let c1_i32_7 : BitVec 32 := 1#32
  let arg25 : BitVec 32 := Scf.iv c0_i32_5 c1_i32_7 k0_t3
  let c0_i32_24 : BitVec 32 := 0#32
  let v33 : BitVec 1 := Scalar.cmpi .sgt arg25 c0_i32_24
  let v34 : BitVec 32 := Scalar.extui v33
  let c0_i32_25 : BitVec 32 := 0#32
  let v35 : BitVec 1 := Scalar.cmpi .slt arg25 c0_i32_25
  let v36 : BitVec 32 := Scalar.extui v35
  let v37 : BitVec 32 := Scalar.subi v34 v36
  let c1_i32_23 : BitVec 32 := 1#32
  let c0_i32_26 : BitVec 32 := 0#32
  let v38 : BitVec 1 := Scalar.cmpi .sgt c1_i32_23 c0_i32_26
  let v39 : BitVec 32 := Scalar.extui v38
  let c0_i32_27 : BitVec 32 := 0#32
  let v40 : BitVec 1 := Scalar.cmpi .slt c1_i32_23 c0_i32_27
  let v41 : BitVec 32 := Scalar.extui v40
  let v42 : BitVec 32 := Scalar.subi v39 v41
  let v43 : BitVec 1 := Scalar.cmpi .ne v37 v42
  let v44 : BitVec 32 := Scalar.remsi arg25 c1_i32_23
  let c0_i32_28 : BitVec 32 := 0#32
  let v45 : BitVec 1 := Scalar.cmpi .ne v44 c0_i32_28
  let v46 : BitVec 1 := Scalar.andi v43 v45
  let v32 : BitVec 32 := Scalar.divsi arg25 c1_i32_23
  let c1_i32_29 : BitVec 32 := 1#32
  let v47 : BitVec 32 := Scalar.subi v32 c1_i32_29
  let v48 : BitVec 32 := Scalar.select v46 v47 v32
  let c0_i32_42 : BitVec 32 := 0#32
  let v71 : BitVec 32 := Scalar.addi v48 c0_i32_42
  let v72 : Index := Scalar.indexCast v71
  let c0_44 : Index := 0#32
  ![0, v72.toNat, 0]
def k0_off11 (k0_t3 : Fin k0_t3_loop.trips) : Fin 2 → Nat :=
  let c0_i32_5 : BitVec 32 := 0#32
  let c1_i32_7 : BitVec 32 := 1#32
  let arg25 : BitVec 32 := Scf.iv c0_i32_5 c1_i32_7 k0_t3
  let c0_i32_24 : BitVec 32 := 0#32
  let v33 : BitVec 1 := Scalar.cmpi .sgt arg25 c0_i32_24
  let v34 : BitVec 32 := Scalar.extui v33
  let c0_i32_25 : BitVec 32 := 0#32
  let v35 : BitVec 1 := Scalar.cmpi .slt arg25 c0_i32_25
  let v36 : BitVec 32 := Scalar.extui v35
  let v37 : BitVec 32 := Scalar.subi v34 v36
  let c1_i32_23 : BitVec 32 := 1#32
  let c0_i32_26 : BitVec 32 := 0#32
  let v38 : BitVec 1 := Scalar.cmpi .sgt c1_i32_23 c0_i32_26
  let v39 : BitVec 32 := Scalar.extui v38
  let c0_i32_27 : BitVec 32 := 0#32
  let v40 : BitVec 1 := Scalar.cmpi .slt c1_i32_23 c0_i32_27
  let v41 : BitVec 32 := Scalar.extui v40
  let v42 : BitVec 32 := Scalar.subi v39 v41
  let v43 : BitVec 1 := Scalar.cmpi .ne v37 v42
  let v44 : BitVec 32 := Scalar.remsi arg25 c1_i32_23
  let c0_i32_28 : BitVec 32 := 0#32
  let v45 : BitVec 1 := Scalar.cmpi .ne v44 c0_i32_28
  let v46 : BitVec 1 := Scalar.andi v43 v45
  let v32 : BitVec 32 := Scalar.divsi arg25 c1_i32_23
  let c1_i32_29 : BitVec 32 := 1#32
  let v47 : BitVec 32 := Scalar.subi v32 c1_i32_29
  let v48 : BitVec 32 := Scalar.select v46 v47 v32
  let c2048_i32 : BitVec 32 := 2048#32
  let c1_i32_30 : BitVec 32 := 1#32
  let c0_i32_31 : BitVec 32 := 0#32
  let v49 : BitVec 1 := Scalar.cmpi .eq c1_i32_30 c0_i32_31
  let c1_i32_32 : BitVec 32 := 1#32
  let v50 : BitVec 32 := Scalar.select v49 c1_i32_32 c1_i32_30
  let v51 : BitVec 32 := Scalar.remsi arg25 v50
  let c0_i32_34 : BitVec 32 := 0#32
  let v53 : BitVec 1 := Scalar.cmpi .slt v51 c0_i32_34
  let c0_i32_35 : BitVec 32 := 0#32
  let v54 : BitVec 1 := Scalar.cmpi .slt v50 c0_i32_35
  let v55 : BitVec 1 := Scalar.xori v53 v54
  let c0_i32_33 : BitVec 32 := 0#32
  let v52 : BitVec 1 := Scalar.cmpi .ne v51 c0_i32_33
  let v56 : BitVec 1 := Scalar.andi v55 v52
  let v57 : BitVec 32 := Scalar.addi v51 v50
  let v58 : BitVec 32 := Scalar.select v56 v57 v51
  let v59 : BitVec 32 := Scalar.muli c2048_i32 v58
  let v60 : BitVec 32 := Scalar.addi v48 v59
  let v122 : Index := Scalar.indexCast v60
  let c0_59 : Index := 0#32
  ![v122.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c12_i32 : BitVec 32 := 12#32
  let v2 : BitVec 32 := Scalar.addi c12_i32 arg1
  let c0_i32_0 : BitVec 32 := 0#32
  ![arg0.toNat, v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c40_i32 : BitVec 32 := 40#32
  let v2 : BitVec 32 := Scalar.addi c40_i32 arg1
  let c0_i32_0 : BitVec 32 := 0#32
  ![arg0.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c16_i32 : BitVec 32 := 16#32
  let v2 : BitVec 32 := Scalar.addi c16_i32 arg1
  let c0_i32_0 : BitVec 32 := 0#32
  ![arg0.toNat, v1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let v0 : BitVec 32 := Scalar.addi c44_i32 arg1
  let c0_i32 : BitVec 32 := 0#32
  ![arg0.toNat, arg2.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c44_i32 : BitVec 32 := 44#32
  let v2 : BitVec 32 := Scalar.addi c44_i32 arg1
  let c0_i32_0 : BitVec 32 := 0#32
  ![arg0.toNat, v1.toNat, v2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c20_i32 : BitVec 32 := 20#32
  let v2 : BitVec 32 := Scalar.addi c20_i32 arg1
  let c0_i32_0 : BitVec 32 := 0#32
  ![arg0.toNat, v1.toNat, v2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c48_i32 : BitVec 32 := 48#32
  let v2 : BitVec 32 := Scalar.addi c48_i32 arg1
  let c0_i32_0 : BitVec 32 := 0#32
  ![arg0.toNat, v1.toNat, v2.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== ReferenceIdeal.lean ====
abbrev S4x8192x3072 : Shape := ⟨3, ![4, 8192, 3072]⟩
abbrev S4x8192x8704 : Shape := ⟨3, ![4, 8192, 8704]⟩
abbrev S4x8192x24x128 : Shape := ⟨4, ![4, 8192, 24, 128]⟩
abbrev S4x24x8192x128 : Shape := ⟨4, ![4, 24, 8192, 128]⟩
abbrev S4x12x8192x128 : Shape := ⟨4, ![4, 12, 8192, 128]⟩
abbrev S4x8192x1536 : Shape := ⟨3, ![4, 8192, 1536]⟩
abbrev S4x8192x12x128 : Shape := ⟨4, ![4, 8192, 12, 128]⟩
abbrev S4x4x8192x128 : Shape := ⟨4, ![4, 4, 8192, 128]⟩
abbrev S4x4x8192x1x128 : Shape := ⟨5, ![4, 4, 8192, 1, 128]⟩
abbrev S4x4x1x8192x128 : Shape := ⟨5, ![4, 4, 1, 8192, 128]⟩
abbrev S4x4x1x64x128x128 : Shape := ⟨6, ![4, 4, 1, 64, 128, 128]⟩
abbrev S4x4x1x63x128x128 : Shape := ⟨6, ![4, 4, 1, 63, 128, 128]⟩
abbrev S_ : Shape := ⟨0, ![]⟩
abbrev S4x4x1x64x256x128 : Shape := ⟨6, ![4, 4, 1, 64, 256, 128]⟩
abbrev S4x4x1x64x128x256 : Shape := ⟨6, ![4, 4, 1, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S4x4x1x64x128 : Shape := ⟨5, ![4, 4, 1, 64, 128]⟩
abbrev S4x4x1x64x128x1 : Shape := ⟨6, ![4, 4, 1, 64, 128, 1]⟩
abbrev S4x4x1x8192 : Shape := ⟨4, ![4, 4, 1, 8192]⟩
abbrev S4x4x8192x1 : Shape := ⟨4, ![4, 4, 8192, 1]⟩
abbrev S4x4x8192 : Shape := ⟨3, ![4, 4, 8192]⟩
abbrev S4x4x2048x4x128 : Shape := ⟨5, ![4, 4, 2048, 4, 128]⟩
abbrev S4x4x4x2048x128 : Shape := ⟨5, ![4, 4, 4, 2048, 128]⟩
abbrev S4x4x4x16x128x128 : Shape := ⟨6, ![4, 4, 4, 16, 128, 128]⟩
abbrev S4x4x4x15x128x128 : Shape := ⟨6, ![4, 4, 4, 15, 128, 128]⟩
abbrev S4x4x4x16x256x128 : Shape := ⟨6, ![4, 4, 4, 16, 256, 128]⟩
abbrev S4x4x4x16x128x256 : Shape := ⟨6, ![4, 4, 4, 16, 128, 256]⟩
abbrev S16 : Shape := ⟨1, ![16]⟩
abbrev S16x1x1 : Shape := ⟨3, ![16, 1, 1]⟩
abbrev S16x1x256 : Shape := ⟨3, ![16, 1, 256]⟩
abbrev S16x128x256 : Shape := ⟨3, ![16, 128, 256]⟩
abbrev S4x4x4x16x128 : Shape := ⟨5, ![4, 4, 4, 16, 128]⟩
abbrev S4x4x4x16x128x1 : Shape := ⟨6, ![4, 4, 4, 16, 128, 1]⟩
abbrev S4x4x4x2048 : Shape := ⟨4, ![4, 4, 4, 2048]⟩
abbrev S4x4x2048x4 : Shape := ⟨4, ![4, 4, 2048, 4]⟩
abbrev S4x4x512x16x128 : Shape := ⟨5, ![4, 4, 512, 16, 128]⟩
abbrev S4x4x16x512x128 : Shape := ⟨5, ![4, 4, 16, 512, 128]⟩
abbrev S4x4x16x4x128x128 : Shape := ⟨6, ![4, 4, 16, 4, 128, 128]⟩
abbrev S4x4x16x3x128x128 : Shape := ⟨6, ![4, 4, 16, 3, 128, 128]⟩
abbrev S4x4x16x4x256x128 : Shape := ⟨6, ![4, 4, 16, 4, 256, 128]⟩
abbrev S4x4x16x4x128x256 : Shape := ⟨6, ![4, 4, 16, 4, 128, 256]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S4x4x16x4x128 : Shape := ⟨5, ![4, 4, 16, 4, 128]⟩
abbrev S4x4x16x4x128x1 : Shape := ⟨6, ![4, 4, 16, 4, 128, 1]⟩
abbrev S4x4x16x512 : Shape := ⟨4, ![4, 4, 16, 512]⟩
abbrev S4x4x512x16 : Shape := ⟨4, ![4, 4, 512, 16]⟩
abbrev S1x4x4x8192 : Shape := ⟨4, ![1, 4, 4, 8192]⟩
abbrev S3x4x4x8192 : Shape := ⟨4, ![3, 4, 4, 8192]⟩
abbrev S3x4x4x8192x1 : Shape := ⟨5, ![3, 4, 4, 8192, 1]⟩
abbrev S1x4x4x8192x128 : Shape := ⟨5, ![1, 4, 4, 8192, 128]⟩
abbrev S3x4x4x8192x128 : Shape := ⟨5, ![3, 4, 4, 8192, 128]⟩
abbrev S4x8192x4x128 : Shape := ⟨4, ![4, 8192, 4, 128]⟩
abbrev S4x8192x512 : Shape := ⟨3, ![4, 8192, 512]⟩

abbrev nBuf : Space → Nat
  | .hbm => 293
  | .vmem => 0
  | .smem => 0
  | _ => 0

abbrev hbmTy0_0 (i : Nat) : BufTy := match i % 128 with
  | 0 => ⟨S4x8192x3072, .f32⟩
  | 1 => ⟨S4x8192x8704, .f32⟩
  | 2 => ⟨S4x8192x24x128, .f32⟩
  | 3 => ⟨S4x24x8192x128, .f32⟩
  | 4 => ⟨S4x12x8192x128, .f32⟩
  | 5 => ⟨S4x12x8192x128, .f32⟩
  | 6 => ⟨S4x8192x1536, .f32⟩
  | 7 => ⟨S4x8192x12x128, .f32⟩
  | 8 => ⟨S4x12x8192x128, .f32⟩
  | 9 => ⟨S4x4x8192x128, .f32⟩
  | 10 => ⟨S4x4x8192x128, .f32⟩
  | 11 => ⟨S4x4x8192x128, .f32⟩
  | 12 => ⟨S4x4x8192x1x128, .f32⟩
  | 13 => ⟨S4x4x1x8192x128, .f32⟩
  | 14 => ⟨S4x4x1x64x128x128, .f32⟩
  | 15 => ⟨S4x4x8192x1x128, .f32⟩
  | 16 => ⟨S4x4x1x8192x128, .f32⟩
  | 17 => ⟨S4x4x1x64x128x128, .f32⟩
  | 18 => ⟨S4x4x1x63x128x128, .f32⟩
  | 19 => ⟨S_, .i32⟩
  | 20 => ⟨S_, .f32⟩
  | 21 => ⟨S4x4x1x64x128x128, .f32⟩
  | 22 => ⟨S4x4x1x64x256x128, .f32⟩
  | 23 => ⟨S4x4x8192x1x128, .f32⟩
  | 24 => ⟨S4x4x1x8192x128, .f32⟩
  | 25 => ⟨S4x4x1x64x128x128, .f32⟩
  | 26 => ⟨S4x4x1x63x128x128, .f32⟩
  | 27 => ⟨S_, .i32⟩
  | 28 => ⟨S_, .f32⟩
  | 29 => ⟨S4x4x1x64x128x128, .f32⟩
  | 30 => ⟨S4x4x1x64x256x128, .f32⟩
  | 31 => ⟨S4x4x1x64x128x256, .f32⟩
  | 32 => ⟨S_, .f32⟩
  | 33 => ⟨S4x4x1x64x128x256, .f32⟩
  | 34 => ⟨S4x4x1x64x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S1x256, .i32⟩
  | 41 => ⟨S1x256, .i32⟩
  | 42 => ⟨S128x256, .i32⟩
  | 43 => ⟨S128x256, .i32⟩
  | 44 => ⟨S128x256, .i32⟩
  | 45 => ⟨S64, .i32⟩
  | 46 => ⟨S64x1x1, .i32⟩
  | 47 => ⟨S_, .i32⟩
  | 48 => ⟨S64x1x1, .i32⟩
  | 49 => ⟨S64x1x1, .i32⟩
  | 50 => ⟨S1x1x256, .i32⟩
  | 51 => ⟨S64x1x256, .i32⟩
  | 52 => ⟨S64x1x256, .i32⟩
  | 53 => ⟨S64x1x256, .i32⟩
  | 54 => ⟨S_, .i32⟩
  | 55 => ⟨S128x256, .i32⟩
  | 56 => ⟨S128x256, .i1⟩
  | 57 => ⟨S_, .i32⟩
  | 58 => ⟨S128x256, .i32⟩
  | 59 => ⟨S128x256, .i1⟩
  | 60 => ⟨S128x256, .i1⟩
  | 61 => ⟨S_, .i32⟩
  | 62 => ⟨S64x1x256, .i32⟩
  | 63 => ⟨S64x1x256, .i1⟩
  | 64 => ⟨S1x128x256, .i1⟩
  | 65 => ⟨S64x128x256, .i1⟩
  | 66 => ⟨S64x128x256, .i1⟩
  | 67 => ⟨S64x128x256, .i1⟩
  | 68 => ⟨S_, .f32⟩
  | 69 => ⟨S_, .f32⟩
  | 70 => ⟨S4x4x1x64x128x256, .i1⟩
  | 71 => ⟨S4x4x1x64x128x256, .f32⟩
  | 72 => ⟨S4x4x1x64x128x256, .f32⟩
  | 73 => ⟨S_, .f32⟩
  | 74 => ⟨S4x4x1x64x128, .f32⟩
  | 75 => ⟨S4x4x1x64x128x1, .f32⟩
  | 76 => ⟨S4x4x1x64x128x256, .f32⟩
  | 77 => ⟨S4x4x1x64x128x256, .f32⟩
  | 78 => ⟨S4x4x1x64x128x256, .f32⟩
  | 79 => ⟨S_, .f32⟩
  | 80 => ⟨S4x4x1x64x128, .f32⟩
  | 81 => ⟨S4x4x1x64x128x1, .f32⟩
  | 82 => ⟨S4x4x1x64x128x128, .f32⟩
  | 83 => ⟨S4x4x1x64x128x128, .f32⟩
  | 84 => ⟨S4x4x1x64x128x128, .f32⟩
  | 85 => ⟨S4x4x1x64x128x1, .f32⟩
  | 86 => ⟨S4x4x1x64x128x1, .f32⟩
  | 87 => ⟨S4x4x1x64x128, .f32⟩
  | 88 => ⟨S4x4x1x8192x128, .f32⟩
  | 89 => ⟨S4x4x8192x1x128, .f32⟩
  | 90 => ⟨S4x4x8192x128, .f32⟩
  | 91 => ⟨S4x4x1x8192, .f32⟩
  | 92 => ⟨S4x4x8192x1, .f32⟩
  | 93 => ⟨S4x4x8192, .f32⟩
  | 94 => ⟨S4x4x8192x128, .f32⟩
  | 95 => ⟨S4x4x8192x128, .f32⟩
  | 96 => ⟨S4x4x8192x128, .f32⟩
  | 97 => ⟨S4x4x2048x4x128, .f32⟩
  | 98 => ⟨S4x4x4x2048x128, .f32⟩
  | 99 => ⟨S4x4x4x16x128x128, .f32⟩
  | 100 => ⟨S4x4x2048x4x128, .f32⟩
  | 101 => ⟨S4x4x4x2048x128, .f32⟩
  | 102 => ⟨S4x4x4x16x128x128, .f32⟩
  | 103 => ⟨S4x4x4x15x128x128, .f32⟩
  | 104 => ⟨S_, .i32⟩
  | 105 => ⟨S_, .f32⟩
  | 106 => ⟨S4x4x4x16x128x128, .f32⟩
  | 107 => ⟨S4x4x4x16x256x128, .f32⟩
  | 108 => ⟨S4x4x2048x4x128, .f32⟩
  | 109 => ⟨S4x4x4x2048x128, .f32⟩
  | 110 => ⟨S4x4x4x16x128x128, .f32⟩
  | 111 => ⟨S4x4x4x15x128x128, .f32⟩
  | 112 => ⟨S_, .i32⟩
  | 113 => ⟨S_, .f32⟩
  | 114 => ⟨S4x4x4x16x128x128, .f32⟩
  | 115 => ⟨S4x4x4x16x256x128, .f32⟩
  | 116 => ⟨S4x4x4x16x128x256, .f32⟩
  | 117 => ⟨S_, .f32⟩
  | 118 => ⟨S4x4x4x16x128x256, .f32⟩
  | 119 => ⟨S4x4x4x16x128x256, .f32⟩
  | 120 => ⟨S128, .i32⟩
  | 121 => ⟨S128x1, .i32⟩
  | 122 => ⟨S256, .i32⟩
  | 123 => ⟨S1x256, .i32⟩
  | 124 => ⟨S_, .i32⟩
  | 125 => ⟨S1x256, .i32⟩
  | 126 => ⟨S1x256, .i32⟩
  | 127 => ⟨S128x256, .i32⟩
  | _ => ⟨S4x8192x3072, .f32⟩

abbrev hbmTy0_1 (i : Nat) : BufTy := match i % 128 with
  | 0 => ⟨S128x256, .i32⟩
  | 1 => ⟨S128x256, .i32⟩
  | 2 => ⟨S16, .i32⟩
  | 3 => ⟨S16x1x1, .i32⟩
  | 4 => ⟨S_, .i32⟩
  | 5 => ⟨S16x1x1, .i32⟩
  | 6 => ⟨S16x1x1, .i32⟩
  | 7 => ⟨S1x1x256, .i32⟩
  | 8 => ⟨S16x1x256, .i32⟩
  | 9 => ⟨S16x1x256, .i32⟩
  | 10 => ⟨S16x1x256, .i32⟩
  | 11 => ⟨S_, .i32⟩
  | 12 => ⟨S128x256, .i32⟩
  | 13 => ⟨S128x256, .i1⟩
  | 14 => ⟨S_, .i32⟩
  | 15 => ⟨S128x256, .i32⟩
  | 16 => ⟨S128x256, .i1⟩
  | 17 => ⟨S128x256, .i1⟩
  | 18 => ⟨S_, .i32⟩
  | 19 => ⟨S16x1x256, .i32⟩
  | 20 => ⟨S16x1x256, .i1⟩
  | 21 => ⟨S1x128x256, .i1⟩
  | 22 => ⟨S16x128x256, .i1⟩
  | 23 => ⟨S16x128x256, .i1⟩
  | 24 => ⟨S16x128x256, .i1⟩
  | 25 => ⟨S_, .f32⟩
  | 26 => ⟨S_, .f32⟩
  | 27 => ⟨S4x4x4x16x128x256, .i1⟩
  | 28 => ⟨S4x4x4x16x128x256, .f32⟩
  | 29 => ⟨S4x4x4x16x128x256, .f32⟩
  | 30 => ⟨S_, .f32⟩
  | 31 => ⟨S4x4x4x16x128, .f32⟩
  | 32 => ⟨S4x4x4x16x128x1, .f32⟩
  | 33 => ⟨S4x4x4x16x128x256, .f32⟩
  | 34 => ⟨S4x4x4x16x128x256, .f32⟩
  | 35 => ⟨S4x4x4x16x128x256, .f32⟩
  | 36 => ⟨S_, .f32⟩
  | 37 => ⟨S4x4x4x16x128, .f32⟩
  | 38 => ⟨S4x4x4x16x128x1, .f32⟩
  | 39 => ⟨S4x4x4x16x128x128, .f32⟩
  | 40 => ⟨S4x4x4x16x128x128, .f32⟩
  | 41 => ⟨S4x4x4x16x128x128, .f32⟩
  | 42 => ⟨S4x4x4x16x128x1, .f32⟩
  | 43 => ⟨S4x4x4x16x128x1, .f32⟩
  | 44 => ⟨S4x4x4x16x128, .f32⟩
  | 45 => ⟨S4x4x4x2048x128, .f32⟩
  | 46 => ⟨S4x4x2048x4x128, .f32⟩
  | 47 => ⟨S4x4x8192x128, .f32⟩
  | 48 => ⟨S4x4x4x2048, .f32⟩
  | 49 => ⟨S4x4x2048x4, .f32⟩
  | 50 => ⟨S4x4x8192, .f32⟩
  | 51 => ⟨S4x4x8192x128, .f32⟩
  | 52 => ⟨S4x4x8192x128, .f32⟩
  | 53 => ⟨S4x4x8192x128, .f32⟩
  | 54 => ⟨S4x4x512x16x128, .f32⟩
  | 55 => ⟨S4x4x16x512x128, .f32⟩
  | 56 => ⟨S4x4x16x4x128x128, .f32⟩
  | 57 => ⟨S4x4x512x16x128, .f32⟩
  | 58 => ⟨S4x4x16x512x128, .f32⟩
  | 59 => ⟨S4x4x16x4x128x128, .f32⟩
  | 60 => ⟨S4x4x16x3x128x128, .f32⟩
  | 61 => ⟨S_, .i32⟩
  | 62 => ⟨S_, .f32⟩
  | 63 => ⟨S4x4x16x4x128x128, .f32⟩
  | 64 => ⟨S4x4x16x4x256x128, .f32⟩
  | 65 => ⟨S4x4x512x16x128, .f32⟩
  | 66 => ⟨S4x4x16x512x128, .f32⟩
  | 67 => ⟨S4x4x16x4x128x128, .f32⟩
  | 68 => ⟨S4x4x16x3x128x128, .f32⟩
  | 69 => ⟨S_, .i32⟩
  | 70 => ⟨S_, .f32⟩
  | 71 => ⟨S4x4x16x4x128x128, .f32⟩
  | 72 => ⟨S4x4x16x4x256x128, .f32⟩
  | 73 => ⟨S4x4x16x4x128x256, .f32⟩
  | 74 => ⟨S_, .f32⟩
  | 75 => ⟨S4x4x16x4x128x256, .f32⟩
  | 76 => ⟨S4x4x16x4x128x256, .f32⟩
  | 77 => ⟨S128, .i32⟩
  | 78 => ⟨S128x1, .i32⟩
  | 79 => ⟨S256, .i32⟩
  | 80 => ⟨S1x256, .i32⟩
  | 81 => ⟨S_, .i32⟩
  | 82 => ⟨S1x256, .i32⟩
  | 83 => ⟨S1x256, .i32⟩
  | 84 => ⟨S128x256, .i32⟩
  | 85 => ⟨S128x256, .i32⟩
  | 86 => ⟨S128x256, .i32⟩
  | 87 => ⟨S4, .i32⟩
  | 88 => ⟨S4x1x1, .i32⟩
  | 89 => ⟨S_, .i32⟩
  | 90 => ⟨S4x1x1, .i32⟩
  | 91 => ⟨S4x1x1, .i32⟩
  | 92 => ⟨S1x1x256, .i32⟩
  | 93 => ⟨S4x1x256, .i32⟩
  | 94 => ⟨S4x1x256, .i32⟩
  | 95 => ⟨S4x1x256, .i32⟩
  | 96 => ⟨S_, .i32⟩
  | 97 => ⟨S128x256, .i32⟩
  | 98 => ⟨S128x256, .i1⟩
  | 99 => ⟨S_, .i32⟩
  | 100 => ⟨S128x256, .i32⟩
  | 101 => ⟨S128x256, .i1⟩
  | 102 => ⟨S128x256, .i1⟩
  | 103 => ⟨S_, .i32⟩
  | 104 => ⟨S4x1x256, .i32⟩
  | 105 => ⟨S4x1x256, .i1⟩
  | 106 => ⟨S1x128x256, .i1⟩
  | 107 => ⟨S4x128x256, .i1⟩
  | 108 => ⟨S4x128x256, .i1⟩
  | 109 => ⟨S4x128x256, .i1⟩
  | 110 => ⟨S_, .f32⟩
  | 111 => ⟨S_, .f32⟩
  | 112 => ⟨S4x4x16x4x128x256, .i1⟩
  | 113 => ⟨S4x4x16x4x128x256, .f32⟩
  | 114 => ⟨S4x4x16x4x128x256, .f32⟩
  | 115 => ⟨S_, .f32⟩
  | 116 => ⟨S4x4x16x4x128, .f32⟩
  | 117 => ⟨S4x4x16x4x128x1, .f32⟩
  | 118 => ⟨S4x4x16x4x128x256, .f32⟩
  | 119 => ⟨S4x4x16x4x128x256, .f32⟩
  | 120 => ⟨S4x4x16x4x128x256, .f32⟩
  | 121 => ⟨S_, .f32⟩
  | 122 => ⟨S4x4x16x4x128, .f32⟩
  | 123 => ⟨S4x4x16x4x128x1, .f32⟩
  | 124 => ⟨S4x4x16x4x128x128, .f32⟩
  | 125 => ⟨S4x4x16x4x128x128, .f32⟩
  | 126 => ⟨S4x4x16x4x128x128, .f32⟩
  | 127 => ⟨S4x4x16x4x128x1, .f32⟩
  | _ => ⟨S4x8192x3072, .f32⟩

abbrev hbmTy0_2 (i : Nat) : BufTy := match i % 128 with
  | 0 => ⟨S4x4x16x4x128x1, .f32⟩
  | 1 => ⟨S4x4x16x4x128, .f32⟩
  | 2 => ⟨S4x4x16x512x128, .f32⟩
  | 3 => ⟨S4x4x512x16x128, .f32⟩
  | 4 => ⟨S4x4x8192x128, .f32⟩
  | 5 => ⟨S4x4x16x512, .f32⟩
  | 6 => ⟨S4x4x512x16, .f32⟩
  | 7 => ⟨S4x4x8192, .f32⟩
  | 8 => ⟨S1x4x4x8192, .f32⟩
  | 9 => ⟨S1x4x4x8192, .f32⟩
  | 10 => ⟨S1x4x4x8192, .f32⟩
  | 11 => ⟨S3x4x4x8192, .f32⟩
  | 12 => ⟨S_, .f32⟩
  | 13 => ⟨S4x4x8192, .f32⟩
  | 14 => ⟨S_, .f32⟩
  | 15 => ⟨S4x4x8192, .f32⟩
  | 16 => ⟨S4x4x8192, .f32⟩
  | 17 => ⟨S1x4x4x8192, .f32⟩
  | 18 => ⟨S3x4x4x8192, .f32⟩
  | 19 => ⟨S3x4x4x8192, .f32⟩
  | 20 => ⟨S3x4x4x8192, .f32⟩
  | 21 => ⟨S_, .f32⟩
  | 22 => ⟨S4x4x8192, .f32⟩
  | 23 => ⟨S1x4x4x8192, .f32⟩
  | 24 => ⟨S3x4x4x8192, .f32⟩
  | 25 => ⟨S3x4x4x8192, .f32⟩
  | 26 => ⟨S3x4x4x8192x1, .f32⟩
  | 27 => ⟨S1x4x4x8192x128, .f32⟩
  | 28 => ⟨S1x4x4x8192x128, .f32⟩
  | 29 => ⟨S1x4x4x8192x128, .f32⟩
  | 30 => ⟨S3x4x4x8192x128, .f32⟩
  | 31 => ⟨S3x4x4x8192x128, .f32⟩
  | 32 => ⟨S3x4x4x8192x128, .f32⟩
  | 33 => ⟨S_, .f32⟩
  | 34 => ⟨S4x4x8192x128, .f32⟩
  | 35 => ⟨S4x8192x4x128, .f32⟩
  | 36 => ⟨S4x8192x512, .f32⟩
  | _ => ⟨S4x8192x3072, .f32⟩

abbrev hbmTy (i : Nat) : BufTy := match i / 128 with
  | 0 => hbmTy0_0 i
  | 1 => hbmTy0_1 i
  | 2 => hbmTy0_2 i
  | _ => ⟨S4x8192x3072, .f32⟩

abbrev bufTy : (tb : Table) → Fin (tcTables nBuf tb) → BufTy
  | .hbm, ⟨i, _⟩ => hbmTy i
  | _, _ => ⟨S4x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_call1_v0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_3 : Ref sig .tc := ⟨.hbm, 54, rfl⟩
abbrev main_v45 : Ref sig .tc := ⟨.hbm, 55, rfl⟩
abbrev main_v46 : Ref sig .tc := ⟨.hbm, 56, rfl⟩
abbrev main_c_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_c_9 : Ref sig .tc := ⟨.hbm, 104, rfl⟩
abbrev main_call3_v0 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_c_10 : Ref sig .tc := ⟨.hbm, 112, rfl⟩
abbrev main_call4_v0 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_11 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_c_12 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_c_13 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_c_14 : Ref sig .tc := ⟨.hbm, 139, rfl⟩
abbrev main_v114 : Ref sig .tc := ⟨.hbm, 140, rfl⟩
abbrev main_v115 : Ref sig .tc := ⟨.hbm, 141, rfl⟩
abbrev main_c_15 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_c_16 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_17 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_v125 : Ref sig .tc := ⟨.hbm, 157, rfl⟩
abbrev main_cst_18 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_19 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_c_20 : Ref sig .tc := ⟨.hbm, 189, rfl⟩
abbrev main_call6_v0 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_c_21 : Ref sig .tc := ⟨.hbm, 197, rfl⟩
abbrev main_call7_v0 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_22 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_c_23 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_c_24 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_c_25 : Ref sig .tc := ⟨.hbm, 224, rfl⟩
abbrev main_v183 : Ref sig .tc := ⟨.hbm, 225, rfl⟩
abbrev main_v184 : Ref sig .tc := ⟨.hbm, 226, rfl⟩
abbrev main_c_26 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_c_27 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_cst_28 : Ref sig .tc := ⟨.hbm, 238, rfl⟩
abbrev main_call8_v0 : Ref sig .tc := ⟨.hbm, 239, rfl⟩
abbrev main_call8_v1 : Ref sig .tc := ⟨.hbm, 240, rfl⟩
abbrev main_call8_v2 : Ref sig .tc := ⟨.hbm, 241, rfl⟩
abbrev main_v194 : Ref sig .tc := ⟨.hbm, 242, rfl⟩
abbrev main_cst_29 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_cst_30 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_cst_31 : Ref sig .tc := ⟨.hbm, 268, rfl⟩
abbrev main_v218 : Ref sig .tc := ⟨.hbm, 269, rfl⟩
abbrev main_cst_32 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_cst_33 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_cst_34 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x1024 : Shape := ⟨3, ![4, 1, 1024]⟩
abbrev S1024 : Shape := ⟨1, ![1024]⟩
abbrev S1024x8704 : Shape := ⟨2, ![1024, 8704]⟩
abbrev S32768x1024 : Shape := ⟨2, ![32768, 1024]⟩
abbrev S1x1024 : Shape := ⟨2, ![1, 1024]⟩
abbrev S32768x8704 : Shape := ⟨2, ![32768, 8704]⟩
abbrev S1024x1024 : Shape := ⟨2, ![1024, 1024]⟩
abbrev S1x1x1024 : Shape := ⟨3, ![1, 1, 1024]⟩
abbrev S1024x2176 : Shape := ⟨2, ![1024, 2176]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x8704, .f32⟩
  | .hbm, ⟨5, _⟩ => ⟨S32768x1024, .f32⟩
  | .hbm, ⟨6, _⟩ => ⟨S1024x8704, .bf16⟩
  | .hbm, ⟨7, _⟩ => ⟨S1x1024, .f32⟩
  | .hbm, ⟨8, _⟩ => ⟨S32768x8704, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2176, .bf16⟩
  | .local _ .vmem, ⟨8, _⟩ => ⟨S1024x2176, .bf16⟩
  | .local _ .vmem, ⟨9, _⟩ => ⟨S1024x2176, .f32⟩
  | .local _ .vmem, ⟨10, _⟩ => ⟨S1024x2176, .f32⟩
  | .local _ .vmem, ⟨11, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2176 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x8192x1024 : Shape := ⟨3, ![4, 8192, 1024]⟩
abbrev S4x1x1024 : Shape := ⟨3, ![4, 1, 1024]⟩
abbrev S1024 : Shape := ⟨1, ![1024]⟩
abbrev S1024x8704 : Shape := ⟨2, ![1024, 8704]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x8704 : Shape := ⟨3, ![4, 8192, 8704]⟩
abbrev S32768x8704 : Shape := ⟨2, ![32768, 8704]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x8704, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x8704, .f32⟩
  | .hbm, ⟨29, _⟩ => ⟨S32768x8704, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel3.lean ====
abbrev S4x8192x512 : Shape := ⟨3, ![4, 8192, 512]⟩
abbrev S4x8192x8704 : Shape := ⟨3, ![4, 8192, 8704]⟩
abbrev S4x8192x1024 : Shape := ⟨3, ![4, 8192, 1024]⟩
abbrev S4x1x1024 : Shape := ⟨3, ![4, 1, 1024]⟩
abbrev S1024 : Shape := ⟨1, ![1024]⟩
abbrev S512x1024 : Shape := ⟨2, ![512, 1024]⟩
abbrev S1024x1024 : Shape := ⟨2, ![1024, 1024]⟩
abbrev S32768x512 : Shape := ⟨2, ![32768, 512]⟩
abbrev S32768x8704 : Shape := ⟨2, ![32768, 8704]⟩
abbrev S32768x1024 : Shape := ⟨2, ![32768, 1024]⟩
abbrev S1x1024 : Shape := ⟨2, ![1, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 21
  | .vmem => 28
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x8704, .f32⟩
  | .hbm, ⟨3, _⟩ => ⟨S4x8192x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S32768x512, .f32⟩
  | .hbm, ⟨12, _⟩ => ⟨S32768x512, .f32⟩
  | .hbm, ⟨13, _⟩ => ⟨S32768x8704, .f32⟩
  | .hbm, ⟨14, _⟩ => ⟨S32768x1024, .f32⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S1x1024, .f32⟩
  | .hbm, ⟨19, _⟩ => ⟨S32768x1024, .f32⟩
  | .hbm, ⟨20, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_5 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S4x8192x512 : Shape := ⟨3, ![4, 8192, 512]⟩
abbrev S4x8192x8704 : Shape := ⟨3, ![4, 8192, 8704]⟩
abbrev S4x8192x1024 : Shape := ⟨3, ![4, 8192, 1024]⟩
abbrev S4x1x1024 : Shape := ⟨3, ![4, 1, 1024]⟩
abbrev S1024 : Shape := ⟨1, ![1024]⟩
abbrev S512x1024 : Shape := ⟨2, ![512, 1024]⟩
abbrev S1024x1024 : Shape := ⟨2, ![1024, 1024]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x8704, .f32⟩
  | .hbm, ⟨3, _⟩ => ⟨S4x8192x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S4x8192x1024, .f32⟩
  | .hbm, ⟨12, _⟩ => ⟨S4x8192x1024, .f32⟩
  | .hbm, ⟨13, _⟩ => ⟨S4x8192x2048, .f32⟩
  | .hbm, ⟨14, _⟩ => ⟨S4x8192x2048, .f32⟩
  | .hbm, ⟨15, _⟩ => ⟨S4x8192x2048, .f32⟩
  | .hbm, ⟨16, _⟩ => ⟨S_, .f32⟩
  | .hbm, ⟨17, _⟩ => ⟨S4x8192x2048, .f32⟩
  | .hbm, ⟨18, _⟩ => ⟨S4x8192x2048, .f32⟩
  | .hbm, ⟨19, _⟩ => ⟨S_, .f32⟩
  | .hbm, ⟨20, _⟩ => ⟨S4x8192x2048, .f32⟩
  | .hbm, ⟨21, _⟩ => ⟨S4x8192x2048, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S4x1x1024, .f32⟩
  | .hbm, ⟨49, _⟩ => ⟨S4x1x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S32768x1024, .f32⟩
  | .hbm, ⟨55, _⟩ => ⟨S32768x1024, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.Attn.Blocks.lean ====
/- What one step of each of the three attention loops stores: the attention of one block of 128 query rows over the
   block of keys at the same place and the block of keys before it, as a function of the blocks the grid point holds;
   and the list of the blocks stored before step `k`. -/
module

public import proofs.«01_k».proof.Proof.Gen.KernelIdeal.Skeleton
public import Idealize.ShloMosaic.Lib.Exec

@[expose] public section

set_option maxRecDepth 16384

noncomputable section

namespace Cert.Proof.Attn

open Cert.KernelIdeal Cert.KernelIdeal.Gen
open Idealize.ShloMosaic Idealize.SL.Sem

variable {F : FTy → Type} [FloatOps F]

/-- The block of an array that a strided rectangle reads. -/
abbrev rd {S : Shape} {e : EltTy} (X : S.Idx → Elt F e) (r : LoadRect S) : r.shape.Idx → Elt F e := fun x => X (r.idx x)

/-- The block number of step `a` where a stream has `nb` blocks: the remainder of `a` by `nb`, as the kernel spells it. -/
def blockNo (nb a : BitVec 32) : BitVec 32 :=
  Scalar.select
    (Scalar.andi
      (Scalar.xori (Scalar.cmpi .slt (Scalar.remsi a (Scalar.select (Scalar.cmpi .eq nb 0#32) 1#32 nb)) 0#32)
        (Scalar.cmpi .slt (Scalar.select (Scalar.cmpi .eq nb 0#32) 1#32 nb) 0#32))
      (Scalar.cmpi .ne (Scalar.remsi a (Scalar.select (Scalar.cmpi .eq nb 0#32) 1#32 nb)) 0#32))
    (Scalar.addi (Scalar.remsi a (Scalar.select (Scalar.cmpi .eq nb 0#32) 1#32 nb)) (Scalar.select (Scalar.cmpi .eq nb 0#32) 1#32 nb))
    (Scalar.remsi a (Scalar.select (Scalar.cmpi .eq nb 0#32) 1#32 nb))

/-! ## The rectangles -/

abbrev start1 (k : Fin k0_t1_loop.trips) : LoadRect S1x2048x128 := (Rect.unit (s := S1x2048x128) (k0_off1 k) S1x128x128.size (k0_off1_inb k)).toLoadRect
abbrev last1 (k : Fin k0_t1_loop.trips) : LoadRect S1x2048x128 := (Rect.unit (s := S1x2048x128) (k0_off2 k) S1x128x128.size (k0_off2_inb k)).toLoadRect
abbrev inner1 (k : Fin k0_t1_loop.trips) : LoadRect S1x2048x128 := (Rect.unit (s := S1x2048x128) (k0_off3 k) S1x128x128.size (k0_off3_inb k)).toLoadRect
abbrev rows1 (k : Fin k0_t1_loop.trips) : Rect S2048x128 := Rect.unit (s := S2048x128) (k0_off4 k) S128x128.size (k0_off4_inb k)
abbrev start2 (k : Fin k0_t2_loop.trips) : LoadRect S1x2048x128 := ⟨k0_off5 k, S1x128x128.size, ![1, 4, 1], k0_off5_inb k⟩
abbrev last2 (k : Fin k0_t2_loop.trips) : LoadRect S1x2048x128 := ⟨k0_off6 k, S1x128x128.size, ![1, 4, 1], k0_off6_inb k⟩
abbrev inner2 (k : Fin k0_t2_loop.trips) : LoadRect S1x2048x128 := ⟨k0_off7 k, S1x128x128.size, ![1, 4, 1], k0_off7_inb k⟩
abbrev rows2 (k : Fin k0_t2_loop.trips) : Rect S2048x128 := ⟨⟨k0_off8 k, S128x128.size, ![4, 1], k0_off8_inb k⟩, spos_4_1⟩
abbrev start3 (k : Fin k0_t3_loop.trips) : LoadRect S1x2048x128 := ⟨k0_off9 k, S1x128x128.size, ![1, 16, 1], k0_off9_inb k⟩
abbrev last3 (k : Fin k0_t3_loop.trips) : LoadRect S1x2048x128 := ⟨k0_off10 k, S1x128x128.size, ![1, 16, 1], k0_off10_inb k⟩
abbrev rows3 (k : Fin k0_t3_loop.trips) : Rect S2048x128 := ⟨⟨k0_off11 k, S128x128.size, ![16, 1], k0_off11_inb k⟩, spos_16_1⟩

/-! ## The blocks stored -/

variable (a2 : BitVec 32) (v0 v1 : IVec S128x128 32) (xq xk xkp xv xvp : Vec F S1x2048x128 .f32)

/-- Step `k` of the first loop: the scores against the block of keys at the same place, -/
def cur1 (k : Fin k0_t1_loop.trips) : FVec F S128x128 .f32 :=
  k0_pay6 v0 v1 (k0_pay2 (rd (F := F) (e := .f32) xq (start1 k))) (k0_pay3 (rd (F := F) (e := .f32) xk (start1 k)))
/-- against the block before it (the last block of the previous grid point's keys, for the stream's first), -/
def prev1 (k : Fin k0_t1_loop.trips) : FVec F S128x128 .f32 :=
  k0_pay7 a2 v0 v1 (blockNo 16#32 (Scf.iv 0#32 1#32 k)) (k0_pay2 (rd (F := F) (e := .f32) xq (start1 k)))
    (rd (F := F) (e := .f32) xkp (last1 k)) (rd (F := F) (e := .f32) xk (inner1 k))
/-- the attention output, -/
def out1 (k : Fin k0_t1_loop.trips) : Vec F S128x128 .f32 :=
  k0_pay33 (k0_pay4 (rd (F := F) (e := .f32) xv (start1 k)))
    (k0_pay5 (blockNo 16#32 (Scf.iv 0#32 1#32 k)) (rd (F := F) (e := .f32) xvp (last1 k)) (rd (F := F) (e := .f32) xv (inner1 k)))
    (cur1 v0 v1 xq xk k) (prev1 a2 v0 v1 xq xk xkp k)
    (k0_pay8 v0 v1 (k0_pay2 (rd (F := F) (e := .f32) xq (start1 k))) (k0_pay3 (rd (F := F) (e := .f32) xk (start1 k))))
/-- and the logarithm of the sum of the weights. -/
def lse1 (k : Fin k0_t1_loop.trips) : Vec F S128x128 .f32 :=
  k0_pay34 (cur1 v0 v1 xq xk k) (prev1 a2 v0 v1 xq xk xkp k)
    (k0_pay8 v0 v1 (k0_pay2 (rd (F := F) (e := .f32) xq (start1 k))) (k0_pay3 (rd (F := F) (e := .f32) xk (start1 k))))

/-- The same four of the second loop, whose streams take every fourth row, -/
def cur2 (k : Fin k0_t2_loop.trips) : FVec F S128x128 .f32 :=
  k0_pay13 v0 v1 (k0_pay9 (rd (F := F) (e := .f32) xq (start2 k))) (k0_pay10 (rd (F := F) (e := .f32) xk (start2 k)))
def prev2 (k : Fin k0_t2_loop.trips) : FVec F S128x128 .f32 :=
  k0_pay14 a2 v0 v1 (blockNo 4#32 (Scf.iv 0#32 1#32 k)) (k0_pay9 (rd (F := F) (e := .f32) xq (start2 k)))
    (rd (F := F) (e := .f32) xkp (last2 k)) (rd (F := F) (e := .f32) xk (inner2 k))
def out2 (k : Fin k0_t2_loop.trips) : Vec F S128x128 .f32 :=
  k0_pay39 (k0_pay11 (rd (F := F) (e := .f32) xv (start2 k)))
    (k0_pay12 (blockNo 4#32 (Scf.iv 0#32 1#32 k)) (rd (F := F) (e := .f32) xvp (last2 k)) (rd (F := F) (e := .f32) xv (inner2 k)))
    (cur2 v0 v1 xq xk k) (prev2 a2 v0 v1 xq xk xkp k)
    (k0_pay15 v0 v1 (k0_pay9 (rd (F := F) (e := .f32) xq (start2 k))) (k0_pay10 (rd (F := F) (e := .f32) xk (start2 k))))
def lse2 (k : Fin k0_t2_loop.trips) : Vec F S128x128 .f32 :=
  k0_pay40 (cur2 v0 v1 xq xk k) (prev2 a2 v0 v1 xq xk xkp k)
    (k0_pay15 v0 v1 (k0_pay9 (rd (F := F) (e := .f32) xq (start2 k))) (k0_pay10 (rd (F := F) (e := .f32) xk (start2 k))))

/-- and of the third, whose streams take every sixteenth row and have one block each. -/
def out3 (k : Fin k0_t3_loop.trips) : Vec F S128x128 .f32 :=
  let q := k0_pay16 (rd (F := F) (e := .f32) xq (start3 k))
  let kc := k0_pay17 (rd (F := F) (e := .f32) xk (start3 k))
  let vc := k0_pay18 (rd (F := F) (e := .f32) xv (start3 k))
  let kp := rd (F := F) (e := .f32) xkp (last3 k)
  k0_pay42 (k0_pay19 (rd (F := F) (e := .f32) xvp (last3 k))) (k0_pay24 a2 v0 v1 q kc kp) (k0_pay25 a2 v0 v1 q kc vc kp)
    (k0_pay27 a2 v0 v1 q kc kp) (k0_pay28 a2 v0 v1 q kc kp)
def lse3 (k : Fin k0_t3_loop.trips) : Vec F S128x128 .f32 :=
  let q := k0_pay16 (rd (F := F) (e := .f32) xq (start3 k))
  let kc := k0_pay17 (rd (F := F) (e := .f32) xk (start3 k))
  let kp := rd (F := F) (e := .f32) xkp (last3 k)
  k0_pay43 (k0_pay22 a2 v0 v1 q kc kp) (k0_pay24 a2 v0 v1 q kc kp) (k0_pay27 a2 v0 v1 q kc kp)

/-! ## The blocks stored before step `k`, newest first -/

/-- The pieces `P` of the steps before `k`. -/
def before {T : ℕ} (P : Fin T → View.Piece (Elt F) S2048x128 .f32) : ℕ → List (View.Piece (Elt F) S2048x128 .f32)
  | 0 => []
  | k + 1 => if h : k < T then P ⟨k, h⟩ :: before P k else before P k

theorem before_succ {T : ℕ} (P : Fin T → View.Piece (Elt F) S2048x128 .f32) (k : Fin T) :
    before P (k.val + 1) = P k :: before P k.val := dif_pos k.isLt

/-- A piece of the list is one of the steps'. -/
theorem mem_before {T : ℕ} (P : Fin T → View.Piece (Elt F) S2048x128 .f32) (k : ℕ) (p) (h : p ∈ before P k) :
    ∃ j, p = P j := by
  induction k with
  | zero => cases h
  | succ k ih =>
    unfold before at h
    split at h
    · rcases List.mem_cons.1 h with h | h
      · exact ⟨_, h⟩
      · exact ih h
    · exact ih h

/-- Each step before `k` has its piece in the list. -/
theorem before_mem {T : ℕ} (P : Fin T → View.Piece (Elt F) S2048x128 .f32) (k : ℕ) (j : Fin T) (h : j.val < k) :
    P j ∈ before P k := by
  induction k with
  | zero => exact absurd h (Nat.not_lt_zero _)
  | succ k ih =>
    unfold before
    by_cases hj : j.val = k
    · have hk : k < T := hj ▸ j.isLt
      rw [dif_pos hk]
      exact List.mem_cons.2 (.inl (congrArg P (Fin.ext hj)))
    · have := ih (by omega)
      split
      · exact List.mem_cons.2 (.inr this)
      · exact this

/-- Storing the next step's piece over the pieces before it. -/
theorem writes_before {T : ℕ} {κ : Kind} {sp : Space} (v : View sig κ sp S2048x128 .f32) (f : v.ty.Contents (Elt F))
    (P : Fin T → View.Piece (Elt F) S2048x128 .f32) (k : Fin T) :
    v.writes (Elt F) (v.writes (Elt F) f (before P k.val)) [P k] = v.writes (Elt F) f (before P (k.val + 1)) := by
  rw [before_succ, ← View.writes_append]; rfl

abbrev outs1 := before (F := F) fun k : Fin k0_t1_loop.trips => ⟨rows1 k, out1 a2 v0 v1 xq xk xkp xv xvp k⟩
abbrev lses1 := before (F := F) fun k : Fin k0_t1_loop.trips => ⟨rows1 k, lse1 a2 v0 v1 xq xk xkp k⟩
abbrev outs2 := before (F := F) fun k : Fin k0_t2_loop.trips => ⟨rows2 k, out2 a2 v0 v1 xq xk xkp xv xvp k⟩
abbrev lses2 := before (F := F) fun k : Fin k0_t2_loop.trips => ⟨rows2 k, lse2 a2 v0 v1 xq xk xkp k⟩
abbrev outs3 := before (F := F) fun k : Fin k0_t3_loop.trips => ⟨rows3 k, out3 a2 v0 v1 xq xk xkp xv xvp k⟩
abbrev lses3 := before (F := F) fun k : Fin k0_t3_loop.trips => ⟨rows3 k, lse3 a2 v0 v1 xq xk xkp k⟩

end Cert.Proof.Attn

end
-- ==== Proof.Attn.Cover.lean ====
/- Where each step of the three loops stores, and that the steps of a loop fill the whole array: row `R` of the 2048 is
   stored by step `R / 128` of the first loop, by step `(R % 4) · 4 + R / 512` of the second, and by step `R % 16` of the third. -/
module

public import proofs.«01_k».proof.Proof.Attn.Blocks
public import Idealize.ShloMosaic.Lib.Pipeline.Value
public import Idealize.ShloMosaic.Lib.ValueIdx

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem trips1 : k0_t1_loop.trips = 16 := by decide
theorem trips2 : k0_t2_loop.trips = 16 := by decide
theorem trips3 : k0_t3_loop.trips = 16 := by decide

/-! ## The rows a step reads and stores, in numbers -/

theorem off1 : ∀ k : Fin k0_t1_loop.trips, k0_off1 k 0 = 0 ∧ k0_off1 k 1 = 128 * k.val ∧ k0_off1 k 2 = 0 := by decide +kernel
theorem off2 : ∀ k : Fin k0_t1_loop.trips, k0_off2 k 0 = 0 ∧ k0_off2 k 1 = 1920 ∧ k0_off2 k 2 = 0 := by decide +kernel
theorem off3 : ∀ k : Fin k0_t1_loop.trips, k0_off3 k 0 = 0 ∧ k0_off3 k 1 = 128 * (k.val - 1) ∧ k0_off3 k 2 = 0 := by decide +kernel
theorem off4 : ∀ k : Fin k0_t1_loop.trips, k0_off4 k 0 = 128 * k.val ∧ k0_off4 k 1 = 0 := by decide +kernel
theorem off5 : ∀ k : Fin k0_t2_loop.trips, k0_off5 k 0 = 0 ∧ k0_off5 k 1 = k.val / 4 + 512 * (k.val % 4) ∧ k0_off5 k 2 = 0 := by decide +kernel
theorem off6 : ∀ k : Fin k0_t2_loop.trips, k0_off6 k 0 = 0 ∧ k0_off6 k 1 = k.val / 4 + 1536 ∧ k0_off6 k 2 = 0 := by decide +kernel
theorem off7 : ∀ k : Fin k0_t2_loop.trips, k0_off7 k 0 = 0 ∧ k0_off7 k 1 = k.val / 4 + 512 * (k.val % 4 - 1) ∧ k0_off7 k 2 = 0 := by decide +kernel
theorem off8 : ∀ k : Fin k0_t2_loop.trips, k0_off8 k 0 = k.val / 4 + 512 * (k.val % 4) ∧ k0_off8 k 1 = 0 := by decide +kernel
theorem off9 : ∀ k : Fin k0_t3_loop.trips, k0_off9 k 0 = 0 ∧ k0_off9 k 1 = k.val ∧ k0_off9 k 2 = 0 := by decide +kernel
theorem off10 : ∀ k : Fin k0_t3_loop.trips, k0_off10 k 0 = 0 ∧ k0_off10 k 1 = k.val ∧ k0_off10 k 2 = 0 := by decide +kernel
theorem off11 : ∀ k : Fin k0_t3_loop.trips, k0_off11 k 0 = k.val ∧ k0_off11 k 1 = 0 := by decide +kernel

/-! ## The index of a stored element -/

/-- The element of the array that element `x` of step `k`'s block is stored at: its row, and its column. -/
theorem rows1_row (k : Fin k0_t1_loop.trips) (x : (rows1 k).shape.Idx) : (((rows1 k).idx x) 0).val = 128 * k.val + (x 0).val := by
  show k0_off4 k 0 + 1 * (x 0).val = _
  rw [(off4 k).1]; omega
theorem rows1_col (k : Fin k0_t1_loop.trips) (x : (rows1 k).shape.Idx) : (((rows1 k).idx x) 1).val = (x 1).val := by
  show k0_off4 k 1 + 1 * (x 1).val = _
  rw [(off4 k).2]; omega
theorem rows2_row (k : Fin k0_t2_loop.trips) (x : (rows2 k).shape.Idx) :
    (((rows2 k).idx x) 0).val = k.val / 4 + 512 * (k.val % 4) + 4 * (x 0).val := by
  show k0_off8 k 0 + 4 * (x 0).val = _
  rw [(off8 k).1]
theorem rows2_col (k : Fin k0_t2_loop.trips) (x : (rows2 k).shape.Idx) : (((rows2 k).idx x) 1).val = (x 1).val := by
  show k0_off8 k 1 + 1 * (x 1).val = _
  rw [(off8 k).2]; omega
theorem rows3_row (k : Fin k0_t3_loop.trips) (x : (rows3 k).shape.Idx) :
    (((rows3 k).idx x) 0).val = k.val + 16 * (x 0).val := by
  show k0_off11 k 0 + 16 * (x 0).val = _
  rw [(off11 k).1]
theorem rows3_col (k : Fin k0_t3_loop.trips) (x : (rows3 k).shape.Idx) : (((rows3 k).idx x) 1).val = (x 1).val := by
  show k0_off11 k 1 + 1 * (x 1).val = _
  rw [(off11 k).2]; omega

/-! ## The steps fill the array -/

/-- An index of the array with a given row and column. -/
theorem idx_ext (y y' : S2048x128.Idx) (h0 : (y 0).val = (y' 0).val) (h1 : (y 1).val = (y' 1).val) : y = y' := by
  funext a
  match a with
  | ⟨0, _⟩ => exact Fin.ext h0
  | ⟨1, _⟩ => exact Fin.ext h1

theorem mem_rows1 (y : S2048x128.Idx) : ∃ (k : Fin k0_t1_loop.trips) (x : (rows1 k).shape.Idx), (rows1 k).idx x = y := by
  have h0 : (y 0).val < 2048 := (y 0).isLt
  have h1 : (y 1).val < 128 := (y 1).isLt
  refine ⟨⟨(y 0).val / 128, by rw [trips1]; omega⟩, ValueIdx.ix2 ⟨(y 0).val % 128, by omega⟩ ⟨(y 1).val, h1⟩, idx_ext _ _ ?_ ?_⟩
  · rw [rows1_row]; show 128 * ((y 0).val / 128) + (y 0).val % 128 = _; omega
  · rw [rows1_col]; rfl
theorem mem_rows2 (y : S2048x128.Idx) : ∃ (k : Fin k0_t2_loop.trips) (x : (rows2 k).shape.Idx), (rows2 k).idx x = y := by
  have h0 : (y 0).val < 2048 := (y 0).isLt
  have h1 : (y 1).val < 128 := (y 1).isLt
  refine ⟨⟨(y 0).val % 4 * 4 + (y 0).val / 512, by rw [trips2]; omega⟩, ValueIdx.ix2 ⟨(y 0).val % 512 / 4, by omega⟩ ⟨(y 1).val, h1⟩, idx_ext _ _ ?_ ?_⟩
  · rw [rows2_row]
    show ((y 0).val % 4 * 4 + (y 0).val / 512) / 4 + 512 * (((y 0).val % 4 * 4 + (y 0).val / 512) % 4) + 4 * ((y 0).val % 512 / 4) = _
    have h2 : ((y 0).val % 4 * 4 + (y 0).val / 512) / 4 = (y 0).val % 4 := by omega
    have h3 : ((y 0).val % 4 * 4 + (y 0).val / 512) % 4 = (y 0).val / 512 := by omega
    rw [h2, h3]
    omega
  · rw [rows2_col]; rfl
theorem mem_rows3 (y : S2048x128.Idx) : ∃ (k : Fin k0_t3_loop.trips) (x : (rows3 k).shape.Idx), (rows3 k).idx x = y := by
  have h0 : (y 0).val < 2048 := (y 0).isLt
  have h1 : (y 1).val < 128 := (y 1).isLt
  refine ⟨⟨(y 0).val % 16, by rw [trips3]; omega⟩, ValueIdx.ix2 ⟨(y 0).val / 16, by omega⟩ ⟨(y 1).val, h1⟩, idx_ext _ _ ?_ ?_⟩
  · rw [rows3_row]; show (y 0).val % 16 + 16 * ((y 0).val / 16) = _; omega
  · rw [rows3_col]; rfl

/-- Pieces stored by the steps of a loop fill the array when the steps' rectangles do. -/
theorem cover_before {T : ℕ} (R : Fin T → Rect S2048x128) (P : (k : Fin T) → (R k).shape.Idx → Elt F .f32)
    (h : ∀ y, ∃ (k : Fin T) (x : (R k).shape.Idx), (R k).idx x = y) (y : S2048x128.Idx) :
    ∃ p ∈ before (F := F) (fun k => (⟨R k, P k⟩ : View.Piece (Elt F) S2048x128 .f32)) T, y ∈ p.1.set := by
  obtain ⟨k, x, hx⟩ := h y
  exact ⟨_, before_mem _ T k k.isLt, hx ▸ (R k).idx_mem x⟩

/-- What the array reads where every step's piece agrees with `G`: it is `G`. -/
theorem canon_before {T : ℕ} (R : Fin T → Rect S2048x128) (P : (k : Fin T) → (R k).shape.Idx → Elt F .f32)
    (h : ∀ y, ∃ (k : Fin T) (x : (R k).shape.Idx), (R k).idx x = y) (G : S2048x128.Idx → Elt F .f32)
    (hG : ∀ k x, P k x = G ((R k).idx x)) :
    View.canon (before (F := F) (fun k => (⟨R k, P k⟩ : View.Piece (Elt F) S2048x128 .f32)) T) = G := by
  funext y
  refine View.canon_apply_of_pieces G _ (fun p hp => ?_) y (cover_before R P h y)
  obtain ⟨j, rfl⟩ := mem_before _ _ _ hp
  exact hG j

end Cert.Proof.Attn

end
-- ==== Proof.Attn.Held.lean ====
/- What one step of an attention loop touches, as resources. -/
module

public import proofs.«01_k».proof.Proof.Attn.Blocks
public import proofs.«01_k».proof.Proof.Gen.KernelIdeal.Loops

@[expose] public section

set_option maxRecDepth 16384
set_option maxHeartbeats 4000000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources are the frame kit's. -/
local notation "𝕄" => MT nD τ sig Unit (Elt F) ℕ (UR sig nD τ) ℕ

/-- What one step of a loop touches: the five blocks it reads and the two arrays it stores into. -/
abbrev Held (c : Dev nD) (q k kp v vp : Memref sig .tc .vmem S1x2048x128 .f32) (o l : Memref sig .tc .vmem S2048x128 .f32)
    (xq : q.view.ty.Contents (Elt F)) (xk : k.view.ty.Contents (Elt F)) (xkp : kp.view.ty.Contents (Elt F))
    (xv : v.view.ty.Contents (Elt F)) (xvp : vp.view.ty.Contents (Elt F))
    (fo : o.view.ty.Contents (Elt F)) (fl : l.view.ty.Contents (Elt F)) : sProp 𝕄 :=
  iprop((q.view.loc (c : Thread nD τ) ↦[q.view.set]{fullShare} xq) ∗ (k.view.loc (c : Thread nD τ) ↦[k.view.set]{fullShare} xk)
    ∗ (kp.view.loc (c : Thread nD τ) ↦[kp.view.set]{fullShare} xkp) ∗ (v.view.loc (c : Thread nD τ) ↦[v.view.set]{fullShare} xv)
    ∗ (vp.view.loc (c : Thread nD τ) ↦[vp.view.set]{fullShare} xvp) ∗ (o.view.loc (c : Thread nD τ) ↦[o.view.set]{fullShare} fo)
    ∗ (l.view.loc (c : Thread nD τ) ↦[l.view.set]{fullShare} fl))

/-- The same before step `n`, the arrays stored into holding the pieces `po n` and `pl n`. -/
abbrev HeldAt (c : Dev nD) (q k kp v vp : Memref sig .tc .vmem S1x2048x128 .f32) (o l : Memref sig .tc .vmem S2048x128 .f32)
    (xq : q.view.ty.Contents (Elt F)) (xk : k.view.ty.Contents (Elt F)) (xkp : kp.view.ty.Contents (Elt F))
    (xv : v.view.ty.Contents (Elt F)) (xvp : vp.view.ty.Contents (Elt F))
    (fo : o.view.ty.Contents (Elt F)) (fl : l.view.ty.Contents (Elt F))
    (po pl : ℕ → List (View.Piece (Elt F) S2048x128 .f32)) (n : ℕ) : sProp 𝕄 :=
  iprop((q.view.loc (c : Thread nD τ) ↦[q.view.set]{fullShare} xq) ∗ (k.view.loc (c : Thread nD τ) ↦[k.view.set]{fullShare} xk)
    ∗ (kp.view.loc (c : Thread nD τ) ↦[kp.view.set]{fullShare} xkp) ∗ (v.view.loc (c : Thread nD τ) ↦[v.view.set]{fullShare} xv)
    ∗ (vp.view.loc (c : Thread nD τ) ↦[vp.view.set]{fullShare} xvp)
    ∗ (∃ f, (o.view.loc (c : Thread nD τ) ↦[o.view.set]{fullShare} f) ∗ ⌜f = o.view.writes (Elt F) fo (po n)⌝)
    ∗ (∃ f, (l.view.loc (c : Thread nD τ) ↦[l.view.set]{fullShare} f) ∗ ⌜f = l.view.writes (Elt F) fl (pl n)⌝))

end Cert.Proof.Attn

end
-- ==== Proof.Attn.Loop1.lean ====
/- The first loop of the attention kernel, gone through by an invariant: what the loop reads stays as it is, and the two
   arrays it fills hold the blocks stored so far over what they held before. -/
module

public import proofs.«01_k».proof.Proof.Attn.Held

@[expose] public section

set_option maxRecDepth 16384
set_option maxHeartbeats 4000000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources are the frame kit's. -/
local notation "𝕄" => MT nD τ sig Unit (Elt F) ℕ (UR sig nD τ) ℕ

section

variable (c : Dev nD) (i : grid0.Coords)
  (arg3 : Memref sig .tc .vmem S1x2048x128 .f32) (harg3 : arg3.IsWhole)
  (arg4 : Memref sig .tc .vmem S1x2048x128 .f32) (harg4 : arg4.IsWhole)
  (arg5 : Memref sig .tc .vmem S1x2048x128 .f32) (harg5 : arg5.IsWhole)
  (arg6 : Memref sig .tc .vmem S1x2048x128 .f32) (harg6 : arg6.IsWhole)
  (arg7 : Memref sig .tc .vmem S1x2048x128 .f32) (harg7 : arg7.IsWhole)
  (arg8 : Memref sig .tc .vmem S1x2048x128 .f32) (harg8 : arg8.IsWhole)
  (arg9 : Memref sig .tc .vmem S1x2048x128 .f32) (harg9 : arg9.IsWhole)
  (arg10 : Memref sig .tc .vmem S1x2048x128 .f32) (harg10 : arg10.IsWhole)
  (arg11 : Memref sig .tc .vmem S1x2048x128 .f32) (harg11 : arg11.IsWhole)
  (arg12 : Memref sig .tc .vmem S1x2048x128 .f32) (harg12 : arg12.IsWhole)
  (arg13 : Memref sig .tc .vmem S1x2048x128 .f32) (harg13 : arg13.IsWhole)
  (arg14 : Memref sig .tc .vmem S1x2048x128 .f32) (harg14 : arg14.IsWhole)
  (arg15 : Memref sig .tc .vmem S1x2048x128 .f32) (harg15 : arg15.IsWhole)
  (arg16 : Memref sig .tc .vmem S1x2048x128 .f32) (harg16 : arg16.IsWhole)
  (arg17 : Memref sig .tc .vmem S1x2048x128 .f32) (harg17 : arg17.IsWhole)
  (arg18 : Memref sig .tc .vmem S1x2048x128 .f32) (harg18 : arg18.IsWhole)
  (arg19 : Memref sig .tc .vmem S2048x128 .f32) (harg19 : arg19.IsWhole)
  (arg20 : Memref sig .tc .vmem S2048x128 .f32) (harg20 : arg20.IsWhole)
  (arg21 : Memref sig .tc .vmem S2048x128 .f32) (harg21 : arg21.IsWhole)
  (arg22 : Memref sig .tc .vmem S2048x128 .f32) (harg22 : arg22.IsWhole)
  (arg23 : Memref sig .tc .vmem S2048x128 .f32) (harg23 : arg23.IsWhole)
  (arg24 : Memref sig .tc .vmem S2048x128 .f32) (harg24 : arg24.IsWhole)
  (arg2 : BitVec 32) (v0 v1 : IVec S128x128 32)

/-- One step of loop 1 stores its two blocks. -/
theorem step1 (E : Set ℕ) (X3 : arg3.view.ty.Contents (Elt F)) (X4 : arg4.view.ty.Contents (Elt F)) (X5 : arg5.view.ty.Contents (Elt F)) (X6 : arg6.view.ty.Contents (Elt F)) (X7 : arg7.view.ty.Contents (Elt F))
    (fo : arg19.view.ty.Contents (Elt F)) (fl : arg22.view.ty.Contents (Elt F)) (k : Fin k0_t1_loop.trips) :
    Held (F := F) c arg3 arg4 arg5 arg6 arg7 arg19 arg22 X3 X4 X5 X6 X7 fo fl
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v0 v1 k PUnit.unit)
          (fun _ => Held (F := F) c arg3 arg4 arg5 arg6 arg7 arg19 arg22 X3 X4 X5 X6 X7
            (arg19.view.writes (Elt F) fo [⟨rows1 k, out1 arg2 v0 v1 (arg3.view.read (Elt F) X3) (arg4.view.read (Elt F) X4) (arg5.view.read (Elt F) X5) (arg6.view.read (Elt F) X6) (arg7.view.read (Elt F) X7) k⟩])
            (arg22.view.writes (Elt F) fl [⟨rows1 k, lse1 arg2 v0 v1 (arg3.view.read (Elt F) X3) (arg4.view.read (Elt F) X4) (arg5.view.read (Elt F) X5) k⟩])) := by
  unfold k0_t1_body
  iintro ⟨H0, H1, H2, H3, H4, H5, H6⟩
  sl_exec
  sl_step
  have hn : ∀ k : Fin k0_t1_loop.trips, step1.sl.v58 k = blockNo 16#32 (Scf.iv 0#32 1#32 k) := by decide +kernel
  unfold step1.sl.r_2 step1.sl.r_3 step1.sl.r_4 step1.sl.r_5 step1.sl.r_6 step1.sl.r step1.sl.r_1
  rw [hn]
  isplitl [H0]; · iexact H0
  isplitl [H1]; · iexact H1
  isplitl [H2]; · iexact H2
  isplitl [H3]; · iexact H3
  isplitl [H4]; · iexact H4
  isplitl [H5]; · iexact H5
  iexact H6

set_option warn.classDefReducibility false in
/-- Loop 1 by its invariant. -/
@[sl_loop] def loop1 (E : Set ℕ) (X3 : arg3.view.ty.Contents (Elt F)) (X4 : arg4.view.ty.Contents (Elt F)) (X5 : arg5.view.ty.Contents (Elt F)) (X6 : arg6.view.ty.Contents (Elt F)) (X7 : arg7.view.ty.Contents (Elt F))
    (fo : arg19.view.ty.Contents (Elt F)) (fl : arg22.view.ty.Contents (Elt F)) :
    LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v0 v1 where
  inv n _ := HeldAt (F := F) c arg3 arg4 arg5 arg6 arg7 arg19 arg22 X3 X4 X5 X6 X7 fo fl
    (outs1 arg2 v0 v1 (arg3.view.read (Elt F) X3) (arg4.view.read (Elt F) X4) (arg5.view.read (Elt F) X5) (arg6.view.read (Elt F) X6) (arg7.view.read (Elt F) X7)) (lses1 arg2 v0 v1 (arg3.view.read (Elt F) X3) (arg4.view.read (Elt F) X4) (arg5.view.read (Elt F) X5)) n
  step k acc := by
    iintro ⟨H0, H1, H2, H3, H4, ⟨%f, H5, %hf⟩, ⟨%g, H6, %hg⟩⟩
    iapply (wp_wand_r Idealize.ShloMosaic.frame (wpE (defs₀ (F := F)) Variants.none (c : Thread nD τ) none) E)
    isplitl [H0 H1 H2 H3 H4 H5 H6]
    · iapply (step1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v0 v1 E X3 X4 X5 X6 X7 f g k)
      isplitl [H0]; · iexact H0
      isplitl [H1]; · iexact H1
      isplitl [H2]; · iexact H2
      isplitl [H3]; · iexact H3
      isplitl [H4]; · iexact H4
      isplitl [H5]; · iexact H5
      iexact H6
    · iintro %_ ⟨H0, H1, H2, H3, H4, H5, H6⟩
      isplitl [H0]; · iexact H0
      isplitl [H1]; · iexact H1
      isplitl [H2]; · iexact H2
      isplitl [H3]; · iexact H3
      isplitl [H4]; · iexact H4
      isplitl [H5]
      · iexists _; isplitl [H5]; · iexact H5
        ipureintro; subst hf; exact writes_before _ _ _ k
      iexists _; isplitl [H6]; · iexact H6
      ipureintro; subst hg; exact writes_before _ _ _ k

end

end Cert.Proof.Attn

end
-- ==== Proof.Attn.Loop2.lean ====
/- The second loop of the attention kernel, gone through by an invariant: what the loop reads stays as it is, and the two
   arrays it fills hold the blocks stored so far over what they held before. -/
module

public import proofs.«01_k».proof.Proof.Attn.Held

@[expose] public section

set_option maxRecDepth 16384
set_option maxHeartbeats 4000000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources are the frame kit's. -/
local notation "𝕄" => MT nD τ sig Unit (Elt F) ℕ (UR sig nD τ) ℕ

section

variable (c : Dev nD) (i : grid0.Coords)
  (arg3 : Memref sig .tc .vmem S1x2048x128 .f32) (harg3 : arg3.IsWhole)
  (arg4 : Memref sig .tc .vmem S1x2048x128 .f32) (harg4 : arg4.IsWhole)
  (arg5 : Memref sig .tc .vmem S1x2048x128 .f32) (harg5 : arg5.IsWhole)
  (arg6 : Memref sig .tc .vmem S1x2048x128 .f32) (harg6 : arg6.IsWhole)
  (arg7 : Memref sig .tc .vmem S1x2048x128 .f32) (harg7 : arg7.IsWhole)
  (arg8 : Memref sig .tc .vmem S1x2048x128 .f32) (harg8 : arg8.IsWhole)
  (arg9 : Memref sig .tc .vmem S1x2048x128 .f32) (harg9 : arg9.IsWhole)
  (arg10 : Memref sig .tc .vmem S1x2048x128 .f32) (harg10 : arg10.IsWhole)
  (arg11 : Memref sig .tc .vmem S1x2048x128 .f32) (harg11 : arg11.IsWhole)
  (arg12 : Memref sig .tc .vmem S1x2048x128 .f32) (harg12 : arg12.IsWhole)
  (arg13 : Memref sig .tc .vmem S1x2048x128 .f32) (harg13 : arg13.IsWhole)
  (arg14 : Memref sig .tc .vmem S1x2048x128 .f32) (harg14 : arg14.IsWhole)
  (arg15 : Memref sig .tc .vmem S1x2048x128 .f32) (harg15 : arg15.IsWhole)
  (arg16 : Memref sig .tc .vmem S1x2048x128 .f32) (harg16 : arg16.IsWhole)
  (arg17 : Memref sig .tc .vmem S1x2048x128 .f32) (harg17 : arg17.IsWhole)
  (arg18 : Memref sig .tc .vmem S1x2048x128 .f32) (harg18 : arg18.IsWhole)
  (arg19 : Memref sig .tc .vmem S2048x128 .f32) (harg19 : arg19.IsWhole)
  (arg20 : Memref sig .tc .vmem S2048x128 .f32) (harg20 : arg20.IsWhole)
  (arg21 : Memref sig .tc .vmem S2048x128 .f32) (harg21 : arg21.IsWhole)
  (arg22 : Memref sig .tc .vmem S2048x128 .f32) (harg22 : arg22.IsWhole)
  (arg23 : Memref sig .tc .vmem S2048x128 .f32) (harg23 : arg23.IsWhole)
  (arg24 : Memref sig .tc .vmem S2048x128 .f32) (harg24 : arg24.IsWhole)
  (arg2 : BitVec 32) (v0 v1 : IVec S128x128 32)

/-- One step of loop 2 stores its two blocks. -/
theorem step2 (E : Set ℕ) (X8 : arg8.view.ty.Contents (Elt F)) (X9 : arg9.view.ty.Contents (Elt F)) (X10 : arg10.view.ty.Contents (Elt F)) (X11 : arg11.view.ty.Contents (Elt F)) (X12 : arg12.view.ty.Contents (Elt F))
    (fo : arg20.view.ty.Contents (Elt F)) (fl : arg23.view.ty.Contents (Elt F)) (k : Fin k0_t2_loop.trips) :
    Held (F := F) c arg8 arg9 arg10 arg11 arg12 arg20 arg23 X8 X9 X10 X11 X12 fo fl
      ⊢ wp frame (wpE (defs₀ (F := F)) Variants.none (c : Thread nD τ) none) E
          (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v0 v1 k PUnit.unit)
          (fun _ => Held (F := F) c arg8 arg9 arg10 arg11 arg12 arg20 arg23 X8 X9 X10 X11 X12
            (arg20.view.writes (Elt F) fo [⟨rows2 k, out2 arg2 v0 v1 (arg8.view.read (Elt F) X8) (arg9.view.read (Elt F) X9) (arg10.view.read (Elt F) X10) (arg11.view.read (Elt F) X11) (arg12.view.read (Elt F) X12) k⟩])
            (arg23.view.writes (Elt F) fl [⟨rows2 k, lse2 arg2 v0 v1 (arg8.view.read (Elt F) X8) (arg9.view.read (Elt F) X9) (arg10.view.read (Elt F) X10) k⟩])) := by
  unfold k0_t2_body
  iintro ⟨H0, H1, H2, H3, H4, H5, H6⟩
  sl_exec
  sl_step
  have hn : ∀ k : Fin k0_t2_loop.trips, step2.sl.v58 k = blockNo 4#32 (Scf.iv 0#32 1#32 k) := by decide +kernel
  unfold step2.sl.r_2 step2.sl.r_3 step2.sl.r_4 step2.sl.r_5 step2.sl.r_6 step2.sl.r step2.sl.r_1
  rw [hn]
  isplitl [H0]; · iexact H0
  isplitl [H1]; · iexact H1
  isplitl [H2]; · iexact H2
  isplitl [H3]; · iexact H3
  isplitl [H4]; · iexact H4
  isplitl [H5]; · iexact H5
  iexact H6

set_option warn.classDefReducibility false in
/-- Loop 2 by its invariant. -/
@[sl_loop] def loop2 (E : Set ℕ) (X8 : arg8.view.ty.Contents (Elt F)) (X9 : arg9.view.ty.Contents (Elt F)) (X10 : arg10.view.ty.Contents (Elt F)) (X11 : arg11.view.ty.Contents (Elt F)) (X12 : arg12.view.ty.Contents (Elt F))
    (fo : arg20.view.ty.Contents (Elt F)) (fl : arg23.view.ty.Contents (Elt F)) :
    LoopInvTy_k0_t2 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v0 v1 where
  inv n _ := HeldAt (F := F) c arg8 arg9 arg10 arg11 arg12 arg20 arg23 X8 X9 X10 X11 X12 fo fl
    (outs2 arg2 v0 v1 (arg8.view.read (Elt F) X8) (arg9.view.read (Elt F) X9) (arg10.view.read (Elt F) X10) (arg11.view.read (Elt F) X11) (arg12.view.read (Elt F) X12)) (lses2 arg2 v0 v1 (arg8.view.read (Elt F) X8) (arg9.view.read (Elt F) X9) (arg10.view.read (Elt F) X10)) n
  step k acc := by
    iintro ⟨H0, H1, H2, H3, H4, ⟨%f, H5, %hf⟩, ⟨%g, H6, %hg⟩⟩
    iapply (wp_wand_r Idealize.ShloMosaic.frame (wpE (defs₀ (F := F)) Variants.none (c : Thread nD τ) none) E)
    isplitl [H0 H1 H2 H3 H4 H5 H6]
    · iapply (step2 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v0 v1 E X8 X9 X10 X11 X12 f g k)
      isplitl [H0]; · iexact H0
      isplitl [H1]; · iexact H1
      isplitl [H2]; · iexact H2
      isplitl [H3]; · iexact H3
      isplitl [H4]; · iexact H4
      isplitl [H5]; · iexact H5
      iexact H6
    · iintro %_ ⟨H0, H1, H2, H3, H4, H5, H6⟩
      isplitl [H0]; · iexact H0
      isplitl [H1]; · iexact H1
      isplitl [H2]; · iexact H2
      isplitl [H3]; · iexact H3
      isplitl [H4]; · iexact H4
      isplitl [H5]
      · iexists _; isplitl [H5]; · iexact H5
        ipureintro; subst hf; exact writes_before _ _ _ k
      iexists _; isplitl [H6]; · iexact H6
      ipureintro; subst hg; exact writes_before _ _ _ k

end

end Cert.Proof.Attn

end
-- ==== Proof.Attn.Loop3.lean ====
/- The third loop of the attention kernel, gone through by an invariant: what the loop reads stays as it is, and the two
   arrays it fills hold the blocks stored so far over what they held before. -/
module

public import proofs.«01_k».proof.Proof.Attn.Held

@[expose] public section

set_option maxRecDepth 16384
set_option maxHeartbeats 4000000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources are the frame kit's. -/
local notation "𝕄" => MT nD τ sig Unit (Elt F) ℕ (UR sig nD τ) ℕ

section

variable (c : Dev nD) (i : grid0.Coords)
  (arg3 : Memref sig .tc .vmem S1x2048x128 .f32) (harg3 : arg3.IsWhole)
  (arg4 : Memref sig .tc .vmem S1x2048x128 .f32) (harg4 : arg4.IsWhole)
  (arg5 : Memref sig .tc .vmem S1x2048x128 .f32) (harg5 : arg5.IsWhole)
  (arg6 : Memref sig .tc .vmem S1x2048x128 .f32) (harg6 : arg6.IsWhole)
  (arg7 : Memref sig .tc .vmem S1x2048x128 .f32) (harg7 : arg7.IsWhole)
  (arg8 : Memref sig .tc .vmem S1x2048x128 .f32) (harg8 : arg8.IsWhole)
  (arg9 : Memref sig .tc .vmem S1x2048x128 .f32) (harg9 : arg9.IsWhole)
  (arg10 : Memref sig .tc .vmem S1x2048x128 .f32) (harg10 : arg10.IsWhole)
  (arg11 : Memref sig .tc .vmem S1x2048x128 .f32) (harg11 : arg11.IsWhole)
  (arg12 : Memref sig .tc .vmem S1x2048x128 .f32) (harg12 : arg12.IsWhole)
  (arg13 : Memref sig .tc .vmem S1x2048x128 .f32) (harg13 : arg13.IsWhole)
  (arg14 : Memref sig .tc .vmem S1x2048x128 .f32) (harg14 : arg14.IsWhole)
  (arg15 : Memref sig .tc .vmem S1x2048x128 .f32) (harg15 : arg15.IsWhole)
  (arg16 : Memref sig .tc .vmem S1x2048x128 .f32) (harg16 : arg16.IsWhole)
  (arg17 : Memref sig .tc .vmem S1x2048x128 .f32) (harg17 : arg17.IsWhole)
  (arg18 : Memref sig .tc .vmem S1x2048x128 .f32) (harg18 : arg18.IsWhole)
  (arg19 : Memref sig .tc .vmem S2048x128 .f32) (harg19 : arg19.IsWhole)
  (arg20 : Memref sig .tc .vmem S2048x128 .f32) (harg20 : arg20.IsWhole)
  (arg21 : Memref sig .tc .vmem S2048x128 .f32) (harg21 : arg21.IsWhole)
  (arg22 : Memref sig .tc .vmem S2048x128 .f32) (harg22 : arg22.IsWhole)
  (arg23 : Memref sig .tc .vmem S2048x128 .f32) (harg23 : arg23.IsWhole)
  (arg24 : Memref sig .tc .vmem S2048x128 .f32) (harg24 : arg24.IsWhole)
  (arg2 : BitVec 32) (v0 v1 : IVec S128x128 32)

/-- One step of loop 3 stores its two blocks. -/
theorem step3 (E : Set ℕ) (X13 : arg13.view.ty.Contents (Elt F)) (X14 : arg14.view.ty.Contents (Elt F)) (X15 : arg15.view.ty.Contents (Elt F)) (X16 : arg16.view.ty.Contents (Elt F)) (X17 : arg17.view.ty.Contents (Elt F))
    (fo : arg21.view.ty.Contents (Elt F)) (fl : arg24.view.ty.Contents (Elt F)) (k : Fin k0_t3_loop.trips) :
    Held (F := F) c arg13 arg14 arg15 arg16 arg17 arg21 arg24 X13 X14 X15 X16 X17 fo fl
      ⊢ wp frame (wpE (defs₀ (F := F)) Variants.none (c : Thread nD τ) none) E
          (k0_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v0 v1 k PUnit.unit)
          (fun _ => Held (F := F) c arg13 arg14 arg15 arg16 arg17 arg21 arg24 X13 X14 X15 X16 X17
            (arg21.view.writes (Elt F) fo [⟨rows3 k, out3 arg2 v0 v1 (arg13.view.read (Elt F) X13) (arg14.view.read (Elt F) X14) (arg15.view.read (Elt F) X15) (arg16.view.read (Elt F) X16) (arg17.view.read (Elt F) X17) k⟩])
            (arg24.view.writes (Elt F) fl [⟨rows3 k, lse3 arg2 v0 v1 (arg13.view.read (Elt F) X13) (arg14.view.read (Elt F) X14) (arg15.view.read (Elt F) X15) k⟩])) := by
  unfold k0_t3_body
  iintro ⟨H0, H1, H2, H3, H4, H5, H6⟩
  sl_exec
  sl_step
  isplitl [H0]; · iexact H0
  isplitl [H1]; · iexact H1
  isplitl [H2]; · iexact H2
  isplitl [H3]; · iexact H3
  isplitl [H4]; · iexact H4
  isplitl [H5]; · iexact H5
  iexact H6

set_option warn.classDefReducibility false in
/-- Loop 3 by its invariant. -/
@[sl_loop] def loop3 (E : Set ℕ) (X13 : arg13.view.ty.Contents (Elt F)) (X14 : arg14.view.ty.Contents (Elt F)) (X15 : arg15.view.ty.Contents (Elt F)) (X16 : arg16.view.ty.Contents (Elt F)) (X17 : arg17.view.ty.Contents (Elt F))
    (fo : arg21.view.ty.Contents (Elt F)) (fl : arg24.view.ty.Contents (Elt F)) :
    LoopInvTy_k0_t3 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v0 v1 where
  inv n _ := HeldAt (F := F) c arg13 arg14 arg15 arg16 arg17 arg21 arg24 X13 X14 X15 X16 X17 fo fl
    (outs3 arg2 v0 v1 (arg13.view.read (Elt F) X13) (arg14.view.read (Elt F) X14) (arg15.view.read (Elt F) X15) (arg16.view.read (Elt F) X16) (arg17.view.read (Elt F) X17)) (lses3 arg2 v0 v1 (arg13.view.read (Elt F) X13) (arg14.view.read (Elt F) X14) (arg15.view.read (Elt F) X15)) n
  step k acc := by
    iintro ⟨H0, H1, H2, H3, H4, ⟨%f, H5, %hf⟩, ⟨%g, H6, %hg⟩⟩
    iapply (wp_wand_r Idealize.ShloMosaic.frame (wpE (defs₀ (F := F)) Variants.none (c : Thread nD τ) none) E)
    isplitl [H0 H1 H2 H3 H4 H5 H6]
    · iapply (step3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg2 v0 v1 E X13 X14 X15 X16 X17 f g k)
      isplitl [H0]; · iexact H0
      isplitl [H1]; · iexact H1
      isplitl [H2]; · iexact H2
      isplitl [H3]; · iexact H3
      isplitl [H4]; · iexact H4
      isplitl [H5]; · iexact H5
      iexact H6
    · iintro %_ ⟨H0, H1, H2, H3, H4, H5, H6⟩
      isplitl [H0]; · iexact H0
      isplitl [H1]; · iexact H1
      isplitl [H2]; · iexact H2
      isplitl [H3]; · iexact H3
      isplitl [H4]; · iexact H4
      isplitl [H5]
      · iexists _; isplitl [H5]; · iexact H5
        ipureintro; subst hf; exact writes_before _ _ _ k
      iexists _; isplitl [H6]; · iexact H6
      ipureintro; subst hg; exact writes_before _ _ _ k

end

end Cert.Proof.Attn

end
-- ==== Proof.Attn.Body.lean ====
/- The body of one grid step: what it leaves in the output block, as a function of its fifteen input blocks. -/
module

public import proofs.«01_k».proof.Proof.Attn.Cover
public import proofs.«01_k».proof.Proof.Attn.Loop1
public import proofs.«01_k».proof.Proof.Attn.Loop2
public import proofs.«01_k».proof.Proof.Attn.Loop3
public import proofs.«01_k».proof.Proof.Gen.KernelIdeal.Points

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources are the frame kit's. -/
local notation "𝕄" => MT nD τ sig Unit (Elt F) ℕ (UR sig nD τ) ℕ

/-- The number of the block of 2048 positions, as a step has it. -/
abbrev blockWord (i : grid0.Coords) : BitVec 32 := BitVec.ofNat 32 (i 2).val
/-- The row and the column numbers of a 128×128 tile. -/
abbrev rowNo : IVec S128x128 32 := iota .tc S128x128 32 [0] iota_S128x128_d0_w32
abbrev colNo : IVec S128x128 32 := iota .tc S128x128 32 [1] iota_S128x128_d1_w32

/-- What a step leaves in the output block: the three groups' outputs merged by their logarithms of sums. -/
def outBlock (i : grid0.Coords) (x3 x4 x5 x6 x7 x8 x9 x10 x11 x12 x13 x14 x15 x16 x17 : Vec F S1x2048x128 .f32) : Vec F S1x2048x128 .f32 :=
  k0_pay1 (k0_pay44
    (View.canon (lses1 (blockWord i) rowNo colNo x3 x4 x5 k0_t1_loop.trips))
    (View.canon (lses2 (blockWord i) rowNo colNo x8 x9 x10 k0_t2_loop.trips))
    (View.canon (lses3 (blockWord i) rowNo colNo x13 x14 x15 k0_t3_loop.trips))
    (View.canon (outs1 (blockWord i) rowNo colNo x3 x4 x5 x6 x7 k0_t1_loop.trips))
    (View.canon (outs2 (blockWord i) rowNo colNo x8 x9 x10 x11 x12 k0_t2_loop.trips))
    (View.canon (outs3 (blockWord i) rowNo colNo x13 x14 x15 x16 x17 k0_t3_loop.trips)))

/-- The output block is stored whole. -/
theorem cover_out (w : Vec F S1x2048x128 .f32) (y : S1x2048x128.Idx) :
    ∃ p ∈ [(⟨Rect.unit (s := S1x2048x128) ![0, 0, 0] S1x2048x128.size inb_S1x2048x128_S1x2048x128_0_0_0, w⟩ : View.Piece (Elt F) S1x2048x128 .f32)], y ∈ p.1.set :=
  ⟨_, List.mem_cons_self, View.mem_set_unit_zero (by decide) inb_S1x2048x128_S1x2048x128_0_0_0 y⟩

/-- A load of the whole array after stores that fill it reads what they left, whatever the array held before. -/
theorem load_whole (v : View sig .tc .vmem S2048x128 .f32) (f : v.ty.Contents (Elt F)) (L : List (View.Piece (Elt F) S2048x128 .f32))
    (h : ∀ y, ∃ p ∈ L, y ∈ p.1.set) :
    v.readAt (Elt F) (Rect.unit (s := S2048x128) ![0, 0] S2048x128.size inb_S2048x128_S2048x128_0_0).toLoadRect
      (v.writes (Elt F) f L) = View.canon L := by
  rw [View.readAt_eq_ld, View.read_writes_eq_canon v f L h]
  exact View.ld_unit_zero (S := S2048x128) (off := ![0, 0]) (by decide) inb_S2048x128_S2048x128_0_0 _

set_option maxHeartbeats 4000000 in
/-- One grid step of the kernel. -/
theorem sound_kernel (c : Dev nD) (i : grid0.Coords) (E : Set ℕ)
    (arg3 : Memref sig .tc .vmem S1x2048x128 .f32) (harg3 : arg3.IsWhole)
    (arg4 : Memref sig .tc .vmem S1x2048x128 .f32) (harg4 : arg4.IsWhole)
    (arg5 : Memref sig .tc .vmem S1x2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .vmem S1x2048x128 .f32) (harg8 : arg8.IsWhole)
    (arg9 : Memref sig .tc .vmem S1x2048x128 .f32) (harg9 : arg9.IsWhole)
    (arg10 : Memref sig .tc .vmem S1x2048x128 .f32) (harg10 : arg10.IsWhole)
    (arg11 : Memref sig .tc .vmem S1x2048x128 .f32) (harg11 : arg11.IsWhole)
    (arg12 : Memref sig .tc .vmem S1x2048x128 .f32) (harg12 : arg12.IsWhole)
    (arg13 : Memref sig .tc .vmem S1x2048x128 .f32) (harg13 : arg13.IsWhole)
    (arg14 : Memref sig .tc .vmem S1x2048x128 .f32) (harg14 : arg14.IsWhole)
    (arg15 : Memref sig .tc .vmem S1x2048x128 .f32) (harg15 : arg15.IsWhole)
    (arg16 : Memref sig .tc .vmem S1x2048x128 .f32) (harg16 : arg16.IsWhole)
    (arg17 : Memref sig .tc .vmem S1x2048x128 .f32) (harg17 : arg17.IsWhole)
    (arg18 : Memref sig .tc .vmem S1x2048x128 .f32) (harg18 : arg18.IsWhole)
    (arg19 : Memref sig .tc .vmem S2048x128 .f32) (harg19 : arg19.IsWhole)
    (arg20 : Memref sig .tc .vmem S2048x128 .f32) (harg20 : arg20.IsWhole)
    (arg21 : Memref sig .tc .vmem S2048x128 .f32) (harg21 : arg21.IsWhole)
    (arg22 : Memref sig .tc .vmem S2048x128 .f32) (harg22 : arg22.IsWhole)
    (arg23 : Memref sig .tc .vmem S2048x128 .f32) (harg23 : arg23.IsWhole)
    (arg24 : Memref sig .tc .vmem S2048x128 .f32) (harg24 : arg24.IsWhole)
    (x3 x4 x5 x6 x7 x8 x9 x10 x11 x12 x13 x14 x15 x16 x17 : Vec F S1x2048x128 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d)
        ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
          ∗ owns (c : Thread nD τ) arg18 fullShare (outBlock (F := F) i x3 x4 x5 x6 x7 x8 x9 x10 x11 x12 x13 x14 x15 x16 x17)
          ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) -∗ K ⟨⟩))
      ⊢ wp Idealize.ShloMosaic.frame (wpE (defs₀ (F := F)) Variants.none (c : Thread nD τ) none) E
          (cc0_attn_prompt i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_attn_prompt_eq_skeleton]
  unfold cc0_attn_prompt_skel
  simp only [k0_part7_eq_skeleton]
  unfold owns
  iintro ⟨⟨%f3,%hf3,H3⟩,⟨%f4,%hf4,H4⟩,⟨%f5,%hf5,H5⟩,⟨%f6,%hf6,H6⟩,⟨%f7,%hf7,H7⟩,⟨%f8,%hf8,H8⟩,⟨%f9,%hf9,H9⟩,⟨%f10,%hf10,H10⟩,⟨%f11,%hf11,H11⟩,⟨%f12,%hf12,H12⟩,⟨%f13,%hf13,H13⟩,⟨%f14,%hf14,H14⟩,⟨%f15,%hf15,H15⟩,⟨%f16,%hf16,H16⟩,⟨%f17,%hf17,H17⟩,⟨%_d18,%f18,-,H18⟩,⟨%_d19,%f19,-,H19⟩,⟨%_d20,%f20,-,H20⟩,⟨%_d21,%f21,-,H21⟩,⟨%_d22,%f22,-,H22⟩,⟨%_d23,%f23,-,H23⟩,⟨%_d24,%f24,-,H24⟩,Hk⟩
  subst hf3
  subst hf4
  subst hf5
  subst hf6
  subst hf7
  subst hf8
  subst hf9
  subst hf10
  subst hf11
  subst hf12
  subst hf13
  subst hf14
  subst hf15
  subst hf16
  subst hf17

  sl_exec_parts
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover_out _)).trans ?_
    rw [View.canon_unit_zero (by decide)]
    unfold sound_kernel.sl.r
    have h22 : sound_kernel.sl.v5 c i arg3 arg4 arg5 arg22 f3 f4 f5
        = View.canon (lses1 (blockWord i) rowNo colNo (arg3.view.read (Elt F) f3) (arg4.view.read (Elt F) f4) (arg5.view.read (Elt F) f5) k0_t1_loop.trips) :=
      load_whole arg22.view _ _ (cover_before _ _ mem_rows1)
    have h23 : sound_kernel.sl.v6 c i arg8 arg9 arg10 arg23 f8 f9 f10 f23
        = View.canon (lses2 (blockWord i) rowNo colNo (arg8.view.read (Elt F) f8) (arg9.view.read (Elt F) f9) (arg10.view.read (Elt F) f10) k0_t2_loop.trips) :=
      load_whole arg23.view _ _ (cover_before _ _ mem_rows2)
    have h24 : sound_kernel.sl.v7 c i arg13 arg14 arg15 arg24 f13 f14 f15 f24
        = View.canon (lses3 (blockWord i) rowNo colNo (arg13.view.read (Elt F) f13) (arg14.view.read (Elt F) f14) (arg15.view.read (Elt F) f15) k0_t3_loop.trips) :=
      load_whole arg24.view _ _ (cover_before _ _ mem_rows3)
    have h19 : sound_kernel.sl.v19 c i arg3 arg4 arg5 arg6 arg7 arg19 f3 f4 f5 f6 f7
        = View.canon (outs1 (blockWord i) rowNo colNo (arg3.view.read (Elt F) f3) (arg4.view.read (Elt F) f4) (arg5.view.read (Elt F) f5) (arg6.view.read (Elt F) f6) (arg7.view.read (Elt F) f7) k0_t1_loop.trips) :=
      load_whole arg19.view _ _ (cover_before _ _ mem_rows1)
    have h20 : sound_kernel.sl.v22 c i arg8 arg9 arg10 arg11 arg12 arg20 f8 f9 f10 f11 f12 f20
        = View.canon (outs2 (blockWord i) rowNo colNo (arg8.view.read (Elt F) f8) (arg9.view.read (Elt F) f9) (arg10.view.read (Elt F) f10) (arg11.view.read (Elt F) f11) (arg12.view.read (Elt F) f12) k0_t2_loop.trips) :=
      load_whole arg20.view _ _ (cover_before _ _ mem_rows2)
    have h21 : sound_kernel.sl.v26 c i arg13 arg14 arg15 arg16 arg17 arg21 f13 f14 f15 f16 f17 f21
        = View.canon (outs3 (blockWord i) rowNo colNo (arg13.view.read (Elt F) f13) (arg14.view.read (Elt F) f14) (arg15.view.read (Elt F) f15) (arg16.view.read (Elt F) f16) (arg17.view.read (Elt F) f17) k0_t3_loop.trips) :=
      load_whole arg21.view _ _ (cover_before _ _ mem_rows3)
    rw [h22, h23, h24, h19, h20, h21]
    rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  isplitl [H22]
  · iexists _; iexists _; isplitr
    swap; · iexact H22
    ipureintro; rfl
  isplitl [H23]
  · iexists _; iexists _; isplitr
    swap; · iexact H23
    ipureintro; rfl
  iexists _; iexists _; isplitr
  swap; · iexact H24
  ipureintro; rfl

end Cert.Proof.Attn

end
-- ==== Proof.Attn.Run.lean ====
/- The attention kernel's run: what each grid step finds in and leaves in its blocks, the launch, and the frame. -/
module

public import proofs.«01_k».proof.Proof.Attn.Body
public import proofs.«01_k».proof.Proof.Gen.KernelIdeal.Frame
public import Idealize.ShloMosaic.Lib.Claim

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources are the frame kit's. -/
local notation "𝕄" => MT nD τ sig Unit (Elt F) ℕ (UR sig nD τ) ℕ

variable (m : (ℓ : Loc nD τ sig) → Buf (Elt F) ℓ) (ρ : Dev nD → PrngReg)

/-- The arrays as launched; after the step at point `t` each input block as it was and the output block as `outBlock` has it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outBlock (F := F) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = outBlock (F := F) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem held_0 (c : Dev nD) (t : Fin cfg0.N) (d) : (dats m 0 c).before 0 t d = iblk m c 0 t :=
  before0_0_of m (dats m 0 c) (A_eq m c 0) (after_0 m c) t d
theorem held_1 (c : Dev nD) (t : Fin cfg0.N) (d) : (dats m 0 c).before 1 t d = iblk m c 1 t :=
  before0_1_of m (dats m 0 c) (A_eq m c 1) (after_1 m c) t d
theorem held_2 (c : Dev nD) (t : Fin cfg0.N) (d) : (dats m 0 c).before 2 t d = iblk m c 2 t :=
  before0_2_of m (dats m 0 c) (A_eq m c 2) (after_2 m c) t d
theorem held_3 (c : Dev nD) (t : Fin cfg0.N) (d) : (dats m 0 c).before 3 t d = iblk m c 3 t :=
  before0_3_of m (dats m 0 c) (A_eq m c 3) (after_3 m c) t d
theorem held_4 (c : Dev nD) (t : Fin cfg0.N) (d) : (dats m 0 c).before 4 t d = iblk m c 4 t :=
  before0_4_of m (dats m 0 c) (A_eq m c 4) (after_4 m c) t d
theorem held_5 (c : Dev nD) (t : Fin cfg0.N) (d) : (dats m 0 c).before 5 t d = iblk m c 5 t :=
  before0_5_of m (dats m 0 c) (A_eq m c 5) (after_5 m c) t d
theorem held_6 (c : Dev nD) (t : Fin cfg0.N) (d) : (dats m 0 c).before 6 t d = iblk m c 6 t :=
  before0_6_of m (dats m 0 c) (A_eq m c 6) (after_6 m c) t d
theorem held_7 (c : Dev nD) (t : Fin cfg0.N) (d) : (dats m 0 c).before 7 t d = iblk m c 7 t :=
  before0_7_of m (dats m 0 c) (A_eq m c 7) (after_7 m c) t d
theorem held_8 (c : Dev nD) (t : Fin cfg0.N) (d) : (dats m 0 c).before 8 t d = iblk m c 8 t :=
  before0_8_of m (dats m 0 c) (A_eq m c 8) (after_8 m c) t d
theorem held_9 (c : Dev nD) (t : Fin cfg0.N) (d) : (dats m 0 c).before 9 t d = iblk m c 9 t :=
  before0_9_of m (dats m 0 c) (A_eq m c 9) (after_9 m c) t d
theorem held_10 (c : Dev nD) (t : Fin cfg0.N) (d) : (dats m 0 c).before 10 t d = iblk m c 10 t :=
  before0_10_of m (dats m 0 c) (A_eq m c 10) (after_10 m c) t d
theorem held_11 (c : Dev nD) (t : Fin cfg0.N) (d) : (dats m 0 c).before 11 t d = iblk m c 11 t :=
  before0_11_of m (dats m 0 c) (A_eq m c 11) (after_11 m c) t d
theorem held_12 (c : Dev nD) (t : Fin cfg0.N) (d) : (dats m 0 c).before 12 t d = iblk m c 12 t :=
  before0_12_of m (dats m 0 c) (A_eq m c 12) (after_12 m c) t d
theorem held_13 (c : Dev nD) (t : Fin cfg0.N) (d) : (dats m 0 c).before 13 t d = iblk m c 13 t :=
  before0_13_of m (dats m 0 c) (A_eq m c 13) (after_13 m c) t d
theorem held_14 (c : Dev nD) (t : Fin cfg0.N) (d) : (dats m 0 c).before 14 t d = iblk m c 14 t :=
  before0_14_of m (dats m 0 c) (A_eq m c 14) (after_14 m c) t d

/-- The six scratch arrays at some contents, and the generator register. -/
theorem scratch_eq (c : Dev nD) : (Pipeline.ΦA spec0 c : sProp 𝕄)
    = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)
          ∗ (∃ d, owns (c : Thread nD τ) (Memref.whole cc0_scratch5) fullShare d)) ∗ (∃ r, prngReg c r)) := by
  unfold Pipeline.ΦA; rw [scopedRest0_eq]; simp only [owns_whole]; try rfl

/-- What a step is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The step at any point of the grid. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [held_0, held_1, held_2, held_3, held_4, held_5, held_6, held_7, held_8, held_9, held_10, held_11, held_12, held_13, held_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.castSucc = Pipeline.ΦA spec0 c from rfl, scratch_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c (grid0.coords t) Set.univ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array at the end as the steps leave it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Proof.Attn

end
-- ==== Proof.Attn.Same.lean ====
/- The kernel as printed and its ideal form are, over machine floats, the same region, body and definitions. -/
module

public import proofs.«01_k».proof.Defs
public import proofs.«01_k».proof.Proof.Gen.Kernel
public import proofs.«01_k».proof.Proof.Gen.KernelIdeal
public import Idealize.ShloMosaic.Lib.Claim

@[expose] public section

set_option maxRecDepth 16384

noncomputable section

namespace Cert.Proof.Same

open Idealize.ShloMosaic Idealize.SL.Sem

theorem body : @Cert.Kernel.cc0_attn_prompt Bits _ _ = @Cert.KernelIdeal.cc0_attn_prompt Bits _ _ := rfl

set_option maxHeartbeats 0 in
theorem defs₀ : Cert.Kernel.defs₀ (F := Bits) = Cert.KernelIdeal.defs₀ (F := Bits) := by
  unfold Cert.Kernel.defs₀ Cert.KernelIdeal.defs₀
  rw [body]
  refine congrArg Defs.onTc (funext fun l => funext fun a => ?_)
  match l, a with
  | ⟨0, _⟩, (t, s) => rfl
  | ⟨_ + 1, h⟩, _ => exact absurd h (Nat.not_lt.2 (Nat.le_add_left _ _))

theorem defs : Cert.Kernel.defs (F := Bits) = Cert.KernelIdeal.defs (F := Bits) := by
  unfold Cert.Kernel.defs Cert.KernelIdeal.defs
  exact congrArg (Pipeline.defs (Cert.KernelIdeal.pcfgs (F := Bits))) defs₀

theorem main : Cert.Kernel.main (F := Bits) = Cert.KernelIdeal.main (F := Bits) := rfl

end Cert.Proof.Same

end
-- ==== Proof.Attn.Spec.lean ====
/- The mathematics both programs compute, over the extended reals: for one query row, the softmax over two blocks of
   128 scores; for one query position of a head, the row's scores; and the merge of the three groups. -/
module

public import Idealize.ShloMosaic.Lib.Pointwise

@[expose] public section

noncomputable section

namespace Cert.Proof.Attn

open Idealize.ShloMosaic

/-! ## One row -/

/-- The greatest of the two blocks' scores, -/
def rowMax (sc sp : Fin 128 → EReal) : EReal := max (Finset.univ.fold max ⊥ sc) (Finset.univ.fold max ⊥ sp)
/-- the sum of the weights, -/
def rowDen (sc sp : Fin 128 → EReal) : EReal :=
  (∑ i, Ideal.exp (sc i - rowMax sc sp)) + ∑ i, Ideal.exp (sp i - rowMax sc sp)
/-- the weighted mean of the values, -/
def rowOut (sc sp vc vp : Fin 128 → EReal) : EReal :=
  Ideal.div ((∑ i, Ideal.exp (sc i - rowMax sc sp) * vc i) + ∑ i, Ideal.exp (sp i - rowMax sc sp) * vp i) (rowDen sc sp)
/-- and the logarithm of the sum of the exponentials of the scores. -/
def rowLse (sc sp : Fin 128 → EReal) : EReal := rowMax sc sp + Ideal.log (rowDen sc sp)

/-- The value of a masked key does not matter: its weight is zero. -/
theorem rowOut_congr (sc sp vc vp vp' : Fin 128 → EReal) (h : ∀ i, sp i = ⊥ ∨ vp i = vp' i) :
    rowOut sc sp vc vp = rowOut sc sp vc vp' := by
  unfold rowOut
  congr 2
  refine Finset.sum_congr rfl fun i _ => ?_
  rcases h i with h | h
  · rw [h, EReal.bot_sub, Ideal.exp_bot, zero_mul, zero_mul]
  · rw [h]

/-! ## One query of a head

`q`, `k` and `v` give a head's queries, keys and values by position and entry. Position `t` is row `t / dil` of the stream
`t % dil`; a stream is cut into blocks of 128 rows. -/

/-- The factor of the scores: one over the square root of the head's width, as a float word. -/
def scale : EReal := Ideal.ofBits .f32 0x3DB504F3#32

/-- The score of the query at `t` against the key at `s`. -/
def score (q k : ℕ → Fin 128 → EReal) (t s : ℕ) : EReal := (∑ x, q t x * k s x) * scale

/-- The position of row `i` of `t`'s block, and of the block before it. -/
def curPos (dil t i : ℕ) : ℕ := t % dil + dil * (128 * (t / dil / 128) + i)
def prevPos (dil t i : ℕ) : ℕ := t % dil + dil * (128 * (t / dil / 128 - 1) + i)

/-- The scores against `t`'s own block: the keys not after the query. -/
def curScore (dil : ℕ) (q k : ℕ → Fin 128 → EReal) (t : ℕ) (i : Fin 128) : EReal :=
  if i.val ≤ t / dil % 128 then score q k t (curPos dil t i) else ⊥
/-- The scores against the block before: the keys at most 128 rows back. -/
def prevScore (dil : ℕ) (q k : ℕ → Fin 128 → EReal) (t : ℕ) (i : Fin 128) : EReal :=
  if t / dil % 128 ≤ i.val ∧ 1 ≤ t / dil / 128 then score q k t (prevPos dil t i) else ⊥

/-- The attention output of the query at `t`, entry `d`, -/
def attnOut (dil : ℕ) (q k v : ℕ → Fin 128 → EReal) (t : ℕ) (d : Fin 128) : EReal :=
  rowOut (curScore dil q k t) (prevScore dil q k t) (fun i => v (curPos dil t i) d) (fun i => v (prevPos dil t i) d)
/-- and its logarithm of the sum of the exponentials. -/
def attnLse (dil : ℕ) (q k : ℕ → Fin 128 → EReal) (t : ℕ) : EReal := rowLse (curScore dil q k t) (prevScore dil q k t)

/-! ## The merge -/

/-- Three outputs weighted by the softmax of their logarithms. -/
def merge (l1 l2 l3 o1 o2 o3 : EReal) : EReal :=
  let m := max (max l1 l2) l3
  let z := Ideal.exp (l1 - m) + Ideal.exp (l2 - m) + Ideal.exp (l3 - m)
  Ideal.div (Ideal.exp (l1 - m)) z * o1 + Ideal.div (Ideal.exp (l2 - m)) z * o2 + Ideal.div (Ideal.exp (l3 - m)) z * o3

/-! ## The whole array -/

/-- An array of three axes read at any three numbers: zero outside the array. -/
def at3 {A B C : ℕ} (x : Shape.Idx ⟨3, ![A, B, C]⟩ → EReal) (a b c : ℕ) : EReal :=
  if h : a < A ∧ b < B ∧ c < C then x (ix3 ⟨a, h.1⟩ ⟨b, h.2.1⟩ ⟨c, h.2.2⟩) else 0

theorem at3_ix3 {A B C : ℕ} (x : Shape.Idx ⟨3, ![A, B, C]⟩ → EReal) (a : Fin A) (b : Fin B) (c : Fin C) :
    x (ix3 a b c) = at3 x a.val b.val c.val := by
  unfold at3; rw [dif_pos ⟨a.isLt, b.isLt, c.isLt⟩]

/-- An element of an array, by its three coordinates. -/
theorem at3_of {A B C : ℕ} (X : Shape.Idx ⟨3, ![A, B, C]⟩ → EReal) (j : Shape.Idx ⟨3, ![A, B, C]⟩) (a b c : ℕ)
    (h0 : (j 0).val = a) (h1 : (j 1).val = b) (h2 : (j 2).val = c) : X j = at3 X a b c := by
  subst h0 h1 h2
  exact (congrArg X (eq_ix3 j)).trans (at3_ix3 X _ _ _)

/-- Columns `off + 128 h`, …, of batch `b`: one head's queries, keys or values. -/
def head {A B C : ℕ} (x : Shape.Idx ⟨3, ![A, B, C]⟩ → EReal) (off b h : ℕ) (t : ℕ) (d : Fin 128) : EReal :=
  at3 x b t (off + h * 128 + d.val)

section
variable (x : Shape.Idx ⟨3, ![4, 8192, 3072]⟩ → EReal) (y : Shape.Idx ⟨3, ![4, 8192, 8704]⟩ → EReal)

/-- The output and the logarithm of head `j` of the group `g`, of dilation `dil`. -/
def groupOut (g dil b j t : ℕ) (d : Fin 128) : EReal :=
  attnOut dil (head x 0 b (4 * g + j)) (head x 1536 b (4 * g + j)) (head y 5120 b (4 * g + j)) t d
def groupLse (g dil b j t : ℕ) : EReal :=
  attnLse dil (head x 0 b (4 * g + j)) (head x 1536 b (4 * g + j)) t

/-- The result at batch `b`, position `t`, head `j` and entry `d`. -/
def result (b t j : ℕ) (d : Fin 128) : EReal :=
  merge (groupLse x 0 1 b j t) (groupLse x 1 4 b j t) (groupLse x 2 16 b j t)
    (groupOut x y 0 1 b j t d) (groupOut x y 1 4 b j t d) (groupOut x y 2 16 b j t d)
end

end Cert.Proof.Attn

end
-- ==== Proof.Attn.Tile.lean ====
/- What one step of a loop computes, row by row: the masked scores of a 128×128 tile, and from two tiles the row's output
   and logarithm. -/
module

public import proofs.«01_k».proof.Proof.Attn.Body
public import proofs.«01_k».proof.Proof.Attn.Spec

@[expose] public section

set_option maxRecDepth 16384

noncomputable section

namespace Cert.Proof.Attn

open Cert.KernelIdeal Cert.KernelIdeal.Gen
open Idealize.ShloMosaic Idealize.SL.Sem

/-- The word of minus infinity. -/
theorem ofBits_bot : Ideal.ofBits .f32 0xFF800000#32 = ⊥ := by
  simp [Ideal.ofBits, Ideal.ieee]

theorem select_ofBool {α : Type} (p : Prop) [Decidable p] (a b : α) :
    Scalar.select (BitVec.ofBool (decide p)) a b = if p then a else b := by
  by_cases h : p <;> simp [h, Scalar.select]

theorem cmp_le : ∀ i j : Fin 128, IntOp.cmpi .sle (BitVec.ofNat 32 i.val) (BitVec.ofNat 32 j.val)
    = BitVec.ofBool (decide (i.val ≤ j.val)) := by decide +kernel
theorem cmp_ge : ∀ i j : Fin 128, IntOp.cmpi .sge (BitVec.ofNat 32 i.val) (BitVec.ofNat 32 j.val)
    = BitVec.ofBool (decide (j.val ≤ i.val)) := by decide +kernel
theorem and_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The scores against the block at the same place. -/
theorem tile_cur (q : FVec Ideal S128x128 .bf16) (k : FVec Ideal S128x128 .f32) (i j : Fin 128) :
    k0_pay6 rowNo colNo q k (ix2 i j) = if j.val ≤ i.val then (∑ x, q (ix2 i x) * k (ix2 j x)) * scale else ⊥ := by
  pointwise [k0_pay6, rowNo, colNo]
  rw [cmp_le, select_ofBool, ofBits_bot]
  rfl

/-- The scores against the block before, which is `kp` at the stream's first block and `k` at the others. -/
theorem tile_prev (a2 n : BitVec 32) (q : FVec Ideal S128x128 .bf16) (kp k : Vec Ideal S1x128x128 .f32) (i j : Fin 128)
    (first some : Prop) [Decidable first] [Decidable some] (hf : Scalar.cmpi .eq n 0#32 = BitVec.ofBool (decide first))
    (hs : Scalar.ori (Scalar.cmpi .sgt a2 0#32) (Scalar.cmpi .sgt n 0#32) = BitVec.ofBool (decide some)) :
    k0_pay7 a2 rowNo colNo n q kp k (ix2 i j)
      = if i.val ≤ j.val ∧ some then (∑ x, q (ix2 i x) * (if first then kp (ix3 0 j x) else k (ix3 0 j x))) * scale else ⊥ := by
  pointwise [k0_pay7, rowNo, colNo]
  rw [cmp_ge, hs, hf, and_ofBool, select_ofBool, ofBits_bot]
  simp only [select_ofBool]
  rfl

/-- The same where the stream has one block. -/
theorem tile_last (a2 : BitVec 32) (q : FVec Ideal S128x128 .bf16) (kp : Vec Ideal S1x128x128 .f32) (i j : Fin 128)
    (some : Prop) [Decidable some] (hs : Scalar.cmpi .sgt a2 0#32 = BitVec.ofBool (decide some)) :
    k0_pay21 a2 rowNo colNo q kp (ix2 i j)
      = if i.val ≤ j.val ∧ some then (∑ x, q (ix2 i x) * kp (ix3 0 j x)) * scale else ⊥ := by
  pointwise [k0_pay21, rowNo, colNo]
  rw [cmp_ge, hs, and_ofBool, select_ofBool, ofBits_bot]
  rfl

theorem tile_value (n : BitVec 32) (vp v : Vec Ideal S1x128x128 .f32) (i d : Fin 128)
    (first : Prop) [Decidable first] (hf : Scalar.cmpi .eq n 0#32 = BitVec.ofBool (decide first)) :
    k0_pay5 n vp v (ix2 i d) = if first then vp (ix3 0 i d) else v (ix3 0 i d) := by
  pointwise [k0_pay5]
  rw [hf, select_ofBool]

/-- The row maximum of the first tile. -/
theorem tile_max (q : FVec Ideal S128x128 .bf16) (k : FVec Ideal S128x128 .f32) (i : Fin 128) :
    k0_pay8 rowNo colNo q k (ix2 i 0) = Finset.univ.fold max ⊥ (fun j : Fin 128 => k0_pay6 rowNo colNo q k (ix2 i j)) := by
  unfold k0_pay8
  generalize k0_pay6 rowNo colNo q k = s
  pointwise
  rw [ofBits_bot]

/-- A step's output at row `p`, column `d`. -/
theorem tile_out (vc vp sc sp : FVec Ideal S128x128 .f32) (m : FVec Ideal S128x1 .f32) (p d : Fin 128)
    (hm : m (ix2 p 0) = Finset.univ.fold max ⊥ (fun j : Fin 128 => sc (ix2 p j))) :
    k0_pay33 vc vp sc sp m (ix2 p d)
      = rowOut (fun j => sc (ix2 p j)) (fun j => sp (ix2 p j)) (fun j => vc (ix2 j d)) (fun j => vp (ix2 j d)) := by
  pointwise [k0_pay33, k0_pay32, k0_pay30, k0_pay31, k0_pay29]
  rw [hm, ofBits_bot]
  rfl

/-- A step's logarithm at row `p`, the same in every column. -/
theorem tile_lse (sc sp : FVec Ideal S128x128 .f32) (m : FVec Ideal S128x1 .f32) (p d : Fin 128)
    (hm : m (ix2 p 0) = Finset.univ.fold max ⊥ (fun j : Fin 128 => sc (ix2 p j))) :
    k0_pay34 sc sp m (ix2 p d) = rowLse (fun j => sc (ix2 p j)) (fun j => sp (ix2 p j)) := by
  pointwise [k0_pay34, k0_pay32, k0_pay30, k0_pay31, k0_pay29]
  rw [hm, ofBits_bot]
  rfl

section Step
variable {dil T : ℕ} {q k v : ℕ → Fin 128 → EReal} {p : Fin 128} (hp : T / dil % 128 = p.val)
  (qt : FVec Ideal S128x128 .bf16) (kc vc vp sp : FVec Ideal S128x128 .f32)
  (hq : ∀ x, qt (ix2 p x) = q T x) (hk : ∀ i x, kc (ix2 i x) = k (curPos dil T i.val) x)
  (hs : ∀ i, sp (ix2 p i) = prevScore dil q k T i)
include hp hq hk hs

theorem cur_row : (fun j => k0_pay6 rowNo colNo qt kc (ix2 p j)) = curScore dil q k T := by
  funext j
  rw [tile_cur]
  simp only [hq, hk]
  unfold curScore score
  rw [hp]

/-- One row of a step's output is the attention of the query at that row's position, -/
theorem step_out (d : Fin 128) (hv : ∀ i, vc (ix2 i d) = v (curPos dil T i.val) d)
    (hvp : 1 ≤ T / dil / 128 → ∀ i, vp (ix2 i d) = v (prevPos dil T i.val) d) :
    k0_pay33 vc vp (k0_pay6 rowNo colNo qt kc) sp (k0_pay8 rowNo colNo qt kc) (ix2 p d) = attnOut dil q k v T d := by
  rw [tile_out _ _ _ _ _ _ _ (tile_max qt kc p), cur_row hp qt kc sp hq hk hs, funext hs]
  simp only [hv]
  refine rowOut_congr _ _ _ _ _ fun i => ?_
  by_cases h : 1 ≤ T / dil / 128
  · exact .inr (hvp h i)
  · exact .inl (if_neg fun h' => h h'.2)

/-- and of its logarithm. -/
theorem step_lse (d : Fin 128) :
    k0_pay34 (k0_pay6 rowNo colNo qt kc) sp (k0_pay8 rowNo colNo qt kc) (ix2 p d) = attnLse dil q k T := by
  rw [tile_lse _ _ _ _ _ (tile_max qt kc p), cur_row hp qt kc sp hq hk hs, funext hs]
  rfl
end Step

end Cert.Proof.Attn

end
-- ==== Proof.Attn.Groups.lean ====
/- The three loops' arrays: after a loop, row `R` of the output scratch is the attention of the query at position
   `2048 t + R`, and the same row of the other scratch its logarithm, in every column. -/
module

public import proofs.«01_k».proof.Proof.Attn.Tile

@[expose] public section

set_option maxRecDepth 16384

noncomputable section

namespace Cert.Proof.Attn

open Cert.KernelIdeal Cert.KernelIdeal.Gen
open Idealize.ShloMosaic Idealize.SL.Sem

/-- The five blocks a step of the grid holds of a group: queries, keys, the keys of the block of positions before, values, and
    the values before; `t` is the number of the block of 2048 positions. -/
structure Blk (t : ℕ) (xq xk xkp xv xvp : Vec Ideal S1x2048x128 .f32) (q k v : ℕ → Fin 128 → EReal) : Prop where
  hq : ∀ R < 2048, ∀ x : Fin 128, at3 xq 0 R x.val = q (t * 2048 + R) x
  hk : ∀ R < 2048, ∀ x : Fin 128, at3 xk 0 R x.val = k (t * 2048 + R) x
  hkp : 1 ≤ t → ∀ R < 2048, ∀ x : Fin 128, at3 xkp 0 R x.val = k ((t - 1) * 2048 + R) x
  hv : ∀ R < 2048, ∀ x : Fin 128, at3 xv 0 R x.val = v (t * 2048 + R) x
  hvp : 1 ≤ t → ∀ R < 2048, ∀ x : Fin 128, at3 xvp 0 R x.val = v ((t - 1) * 2048 + R) x

/-- An element that a rectangle reads, by its row and column. -/
theorem rd_at (X : Vec Ideal S1x2048x128 .f32) (r : LoadRect S1x2048x128) (x : r.shape.Idx) (R c : ℕ)
    (h1 : ((r.idx x) 1).val = R) (h2 : ((r.idx x) 2).val = c) : rd (F := Ideal) (e := .f32) X r x = at3 X 0 R c := by
  subst h1 h2
  have h0 : ((r.idx x) 0).val = 0 := by have : ((r.idx x) 0).val < 1 := ((r.idx x) 0).isLt; omega
  exact (congrArg X (eq_ix3 (n0 := 1) (n1 := 2048) (n2 := 128) (r.idx x))).trans
    ((at3_ix3 X _ _ _).trans (congrArg (fun n => at3 X n ((r.idx x) 1).val ((r.idx x) 2).val) h0))

theorem first_cond : ∀ n : Fin 16, Scalar.cmpi .eq (BitVec.ofNat 32 n.val) 0#32 = BitVec.ofBool (decide (n.val = 0)) := by decide +kernel
theorem some_cond : ∀ (t : Fin 4) (n : Fin 16), Scalar.ori (Scalar.cmpi .sgt (BitVec.ofNat 32 t.val) 0#32) (Scalar.cmpi .sgt (BitVec.ofNat 32 n.val) 0#32)
    = BitVec.ofBool (decide (1 ≤ t.val ∨ 1 ≤ n.val)) := by decide +kernel
theorem pos_cond : ∀ (t : Fin 4), Scalar.cmpi .sgt (BitVec.ofNat 32 t.val) 0#32 = BitVec.ofBool (decide (1 ≤ t.val)) := by decide +kernel

theorem pay_q (x : Vec Ideal S1x128x128 .f32) (i d : Fin 128) : k0_pay2 x (ix2 i d) = x (ix3 0 i d) := by pointwise [k0_pay2]
theorem pay_k (x : Vec Ideal S1x128x128 .f32) (i d : Fin 128) : k0_pay3 x (ix2 i d) = x (ix3 0 i d) := by pointwise [k0_pay3]

variable (i : grid0.Coords) {xq xk xkp xv xvp : Vec Ideal S1x2048x128 .f32} {q k v : ℕ → Fin 128 → EReal}
  (H : Blk (i 2).val xq xk xkp xv xvp q k v)

/-! ## Loop 1 -/

theorem rd_start1 (X : Vec Ideal S1x2048x128 .f32) (s : Fin k0_t1_loop.trips) (p d : Fin 128) :
    rd (F := Ideal) (e := .f32) X (start1 s) (ix3 0 p d) = at3 X 0 (128 * s.val + p.val) d.val :=
  rd_at X _ _ _ _ (by show k0_off1 s 1 + 1 * p.val = _; rw [(off1 s).2.1]; omega) (by show k0_off1 s 2 + 1 * d.val = _; rw [(off1 s).2.2]; omega)
theorem rd_last1 (X : Vec Ideal S1x2048x128 .f32) (s : Fin k0_t1_loop.trips) (p d : Fin 128) :
    rd (F := Ideal) (e := .f32) X (last1 s) (ix3 0 p d) = at3 X 0 (1920 + p.val) d.val :=
  rd_at X _ _ _ _ (by show k0_off2 s 1 + 1 * p.val = _; rw [(off2 s).2.1]; omega) (by show k0_off2 s 2 + 1 * d.val = _; rw [(off2 s).2.2]; omega)
theorem rd_inner1 (X : Vec Ideal S1x2048x128 .f32) (s : Fin k0_t1_loop.trips) (p d : Fin 128) :
    rd (F := Ideal) (e := .f32) X (inner1 s) (ix3 0 p d) = at3 X 0 (128 * (s.val - 1) + p.val) d.val :=
  rd_at X _ _ _ _ (by show k0_off3 s 1 + 1 * p.val = _; rw [(off3 s).2.1]; omega) (by show k0_off3 s 2 + 1 * d.val = _; rw [(off3 s).2.2]; omega)

theorem block1 : ∀ s : Fin k0_t1_loop.trips, blockNo 16#32 (Scf.iv 0#32 1#32 s) = BitVec.ofNat 32 s.val := by decide +kernel

section
variable (s : Fin k0_t1_loop.trips) (p : Fin 128)

/-- Where row `p` of step `s` stands in its stream. -/
theorem place1 (t : ℕ) : (t * 2048 + (128 * s.val + p.val)) / 1 % 128 = p.val ∧ (t * 2048 + (128 * s.val + p.val)) / 1 / 128 = t * 16 + s.val ∧ (t * 2048 + (128 * s.val + p.val)) % 1 = 0 := by
  have hs : s.val < 16 := lt_of_lt_of_eq s.isLt trips1
  have hp := p.isLt
  omega
theorem curPos1 (t j : ℕ) : curPos 1 (t * 2048 + (128 * s.val + p.val)) j = t * 2048 + (128 * s.val + j) := by
  have h := place1 s p t
  unfold curPos
  rw [h.2.1, h.2.2]; omega
include H
theorem q_row1 (x : Fin 128) : k0_pay2 (rd (F := Ideal) (e := .f32) xq (start1 s)) (ix2 p x) = q ((i 2).val * 2048 + (128 * s.val + p.val)) x := by
  have hs : s.val < 16 := lt_of_lt_of_eq s.isLt trips1
  have hp := p.isLt
  rw [← H.hq _ (by omega)]
  exact (pay_q _ _ _).trans (rd_start1 xq s p x)
theorem k_row1 (j x : Fin 128) : k0_pay3 (rd (F := Ideal) (e := .f32) xk (start1 s)) (ix2 j x) = k (curPos 1 ((i 2).val * 2048 + (128 * s.val + p.val)) j.val) x := by
  have hs : s.val < 16 := lt_of_lt_of_eq s.isLt trips1
  have hj := j.isLt
  rw [curPos1, ← H.hk _ (by omega)]
  exact (pay_k _ _ _).trans (rd_start1 xk s j x)
theorem v_row1 (j x : Fin 128) : k0_pay4 (rd (F := Ideal) (e := .f32) xv (start1 s)) (ix2 j x) = v (curPos 1 ((i 2).val * 2048 + (128 * s.val + p.val)) j.val) x := by
  have hs : s.val < 16 := lt_of_lt_of_eq s.isLt trips1
  have hj := j.isLt
  rw [curPos1, ← H.hv _ (by omega)]
  exact (pay_k _ _ _).trans (rd_start1 xv s j x)
/-- The keys of the block before, where there is one. -/
theorem kprev1 (h : 1 ≤ (i 2).val ∨ 1 ≤ s.val) (j x : Fin 128) :
    (if s.val = 0 then rd (F := Ideal) (e := .f32) xkp (last1 s) (ix3 0 j x) else rd (F := Ideal) (e := .f32) xk (inner1 s) (ix3 0 j x))
      = k (prevPos 1 ((i 2).val * 2048 + (128 * s.val + p.val)) j.val) x := by
  have hs : s.val < 16 := lt_of_lt_of_eq s.isLt trips1
  have hj := j.isLt
  have hpl := place1 s p (i 2).val
  unfold prevPos
  rw [hpl.2.1, hpl.2.2]
  by_cases h0 : s.val = 0
  · rw [if_pos h0, rd_last1, H.hkp (by omega) _ (by omega)]
    congr 1; omega
  · rw [if_neg h0, rd_inner1, H.hk _ (by omega)]
    congr 1; omega
/-- The values of the block before, where there is one. -/
theorem vprev1 (h : 1 ≤ (i 2).val ∨ 1 ≤ s.val) (j x : Fin 128) :
    (if s.val = 0 then rd (F := Ideal) (e := .f32) xvp (last1 s) (ix3 0 j x) else rd (F := Ideal) (e := .f32) xv (inner1 s) (ix3 0 j x))
      = v (prevPos 1 ((i 2).val * 2048 + (128 * s.val + p.val)) j.val) x := by
  have hs : s.val < 16 := lt_of_lt_of_eq s.isLt trips1
  have hj := j.isLt
  have hpl := place1 s p (i 2).val
  unfold prevPos
  rw [hpl.2.1, hpl.2.2]
  by_cases h0 : s.val = 0
  · rw [if_pos h0, rd_last1, H.hvp (by omega) _ (by omega)]
    congr 1; omega
  · rw [if_neg h0, rd_inner1, H.hv _ (by omega)]
    congr 1; omega
theorem prev_row1 (j : Fin 128) : k0_pay7 (blockWord i) rowNo colNo (BitVec.ofNat 32 s.val) (k0_pay2 (rd (F := Ideal) (e := .f32) xq (start1 s))) (rd (F := Ideal) (e := .f32) xkp (last1 s)) (rd (F := Ideal) (e := .f32) xk (inner1 s)) (ix2 p j)
    = prevScore 1 q k ((i 2).val * 2048 + (128 * s.val + p.val)) j := by
  have hs : s.val < 16 := lt_of_lt_of_eq s.isLt trips1
  have hpl := place1 s p (i 2).val
  rw [tile_prev _ _ _ _ _ _ _ _ _ (first_cond ⟨s.val, by omega⟩) (some_cond ⟨(i 2).val, (i 2).isLt⟩ ⟨s.val, by omega⟩)]
  unfold prevScore score
  rw [hpl.1, hpl.2.1]
  by_cases h : 1 ≤ (i 2).val ∨ 1 ≤ s.val
  · simp only [kprev1 i H s p h, q_row1 i H s p]
    exact if_congr (by constructor <;> intro ⟨a, b⟩ <;> exact ⟨a, by first | exact h | omega⟩) rfl rfl
  · rw [if_neg (fun h' => h h'.2), if_neg (fun h' => h (by omega))]

theorem out_row1 (d : Fin 128) : out1 (blockWord i) rowNo colNo xq xk xkp xv xvp s (ix2 p d)
    = attnOut 1 q k v ((i 2).val * 2048 + (128 * s.val + p.val)) d := by
  have hs : s.val < 16 := lt_of_lt_of_eq s.isLt trips1
  have hpl := place1 s p (i 2).val
  show k0_pay33 (k0_pay4 (rd (F := Ideal) (e := .f32) xv (start1 s)))
      (k0_pay5 (blockNo 16#32 (Scf.iv 0#32 1#32 s)) (rd (F := Ideal) (e := .f32) xvp (last1 s)) (rd (F := Ideal) (e := .f32) xv (inner1 s)))
      (k0_pay6 rowNo colNo (k0_pay2 (rd (F := Ideal) (e := .f32) xq (start1 s))) (k0_pay3 (rd (F := Ideal) (e := .f32) xk (start1 s))))
      (k0_pay7 (blockWord i) rowNo colNo (blockNo 16#32 (Scf.iv 0#32 1#32 s)) (k0_pay2 (rd (F := Ideal) (e := .f32) xq (start1 s))) (rd (F := Ideal) (e := .f32) xkp (last1 s)) (rd (F := Ideal) (e := .f32) xk (inner1 s)))
      (k0_pay8 rowNo colNo (k0_pay2 (rd (F := Ideal) (e := .f32) xq (start1 s))) (k0_pay3 (rd (F := Ideal) (e := .f32) xk (start1 s)))) (ix2 p d) = _
  rw [block1]
  exact step_out hpl.1 _ _ _ _ _ (q_row1 i H s p) (k_row1 i H s p) (prev_row1 i H s p) d (fun j => v_row1 i H s p j d)
    (fun h j => (tile_value _ _ _ _ _ _ (first_cond ⟨s.val, by omega⟩)).trans (vprev1 i H s p (by omega) j d))
theorem lse_row1 (d : Fin 128) : lse1 (blockWord i) rowNo colNo xq xk xkp s (ix2 p d)
    = attnLse 1 q k ((i 2).val * 2048 + (128 * s.val + p.val)) := by
  have hs : s.val < 16 := lt_of_lt_of_eq s.isLt trips1
  have hpl := place1 s p (i 2).val
  show k0_pay34
      (k0_pay6 rowNo colNo (k0_pay2 (rd (F := Ideal) (e := .f32) xq (start1 s))) (k0_pay3 (rd (F := Ideal) (e := .f32) xk (start1 s))))
      (k0_pay7 (blockWord i) rowNo colNo (blockNo 16#32 (Scf.iv 0#32 1#32 s)) (k0_pay2 (rd (F := Ideal) (e := .f32) xq (start1 s))) (rd (F := Ideal) (e := .f32) xkp (last1 s)) (rd (F := Ideal) (e := .f32) xk (inner1 s)))
      (k0_pay8 rowNo colNo (k0_pay2 (rd (F := Ideal) (e := .f32) xq (start1 s))) (k0_pay3 (rd (F := Ideal) (e := .f32) xk (start1 s)))) (ix2 p d) = _
  rw [block1]
  exact step_lse hpl.1 _ _ _ (q_row1 i H s p) (k_row1 i H s p) (prev_row1 i H s p) d
end

include H in
theorem outs_eq1 : View.canon (outs1 (blockWord i) rowNo colNo xq xk xkp xv xvp k0_t1_loop.trips)
    = fun y => attnOut 1 q k v ((i 2).val * 2048 + (y 0).val) (y 1) :=
  canon_before rows1 _ mem_rows1 _ fun s x => by
    obtain ⟨p, d, rfl⟩ : ∃ (p : Fin 128) (d : Fin 128), x = ix2 p d := ⟨x 0, x 1, eq_ix2 x⟩
    have h1 : ((rows1 s).idx (ix2 p d)) 1 = d := Fin.ext (rows1_col s (ix2 p d))
    refine (out_row1 i H s p d).trans ?_
    show _ = attnOut 1 q k v ((i 2).val * 2048 + (((rows1 s).idx (ix2 p d)) 0).val) (((rows1 s).idx (ix2 p d)) 1)
    rw [h1, rows1_row]
    rfl
include H in
theorem lses_eq1 : View.canon (lses1 (blockWord i) rowNo colNo xq xk xkp k0_t1_loop.trips)
    = fun y => attnLse 1 q k ((i 2).val * 2048 + (y 0).val) :=
  canon_before rows1 _ mem_rows1 _ fun s x => by
    obtain ⟨p, d, rfl⟩ : ∃ (p : Fin 128) (d : Fin 128), x = ix2 p d := ⟨x 0, x 1, eq_ix2 x⟩
    refine (lse_row1 i H s p d).trans ?_
    show _ = attnLse 1 q k ((i 2).val * 2048 + (((rows1 s).idx (ix2 p d)) 0).val)
    rw [rows1_row]
    rfl

/-! ## Loop 2 -/

theorem rd_start2 (X : Vec Ideal S1x2048x128 .f32) (s : Fin k0_t2_loop.trips) (p d : Fin 128) :
    rd (F := Ideal) (e := .f32) X (start2 s) (ix3 0 p d) = at3 X 0 (s.val / 4 + 512 * (s.val % 4) + 4 * p.val) d.val :=
  rd_at X _ _ _ _ (by show k0_off5 s 1 + 4 * p.val = _; rw [(off5 s).2.1]) (by show k0_off5 s 2 + 1 * d.val = _; rw [(off5 s).2.2]; omega)
theorem rd_last2 (X : Vec Ideal S1x2048x128 .f32) (s : Fin k0_t2_loop.trips) (p d : Fin 128) :
    rd (F := Ideal) (e := .f32) X (last2 s) (ix3 0 p d) = at3 X 0 (s.val / 4 + 1536 + 4 * p.val) d.val :=
  rd_at X _ _ _ _ (by show k0_off6 s 1 + 4 * p.val = _; rw [(off6 s).2.1]) (by show k0_off6 s 2 + 1 * d.val = _; rw [(off6 s).2.2]; omega)
theorem rd_inner2 (X : Vec Ideal S1x2048x128 .f32) (s : Fin k0_t2_loop.trips) (p d : Fin 128) :
    rd (F := Ideal) (e := .f32) X (inner2 s) (ix3 0 p d) = at3 X 0 (s.val / 4 + 512 * (s.val % 4 - 1) + 4 * p.val) d.val :=
  rd_at X _ _ _ _ (by show k0_off7 s 1 + 4 * p.val = _; rw [(off7 s).2.1]) (by show k0_off7 s 2 + 1 * d.val = _; rw [(off7 s).2.2]; omega)

theorem block2 : ∀ s : Fin k0_t2_loop.trips, blockNo 4#32 (Scf.iv 0#32 1#32 s) = BitVec.ofNat 32 (s.val % 4) := by decide +kernel

section
variable (s : Fin k0_t2_loop.trips) (p : Fin 128)

/-- Where row `p` of step `s` stands in its stream. -/
theorem place2 (t : ℕ) : (t * 2048 + (s.val / 4 + 512 * (s.val % 4) + 4 * p.val)) / 4 % 128 = p.val ∧ (t * 2048 + (s.val / 4 + 512 * (s.val % 4) + 4 * p.val)) / 4 / 128 = t * 4 + (s.val % 4) ∧ (t * 2048 + (s.val / 4 + 512 * (s.val % 4) + 4 * p.val)) % 4 = s.val / 4 := by
  have hs : s.val < 16 := lt_of_lt_of_eq s.isLt trips2
  have hp := p.isLt
  have h1 : s.val / 4 < 4 := by omega
  have h2 : s.val % 4 < 4 := by omega
  generalize s.val / 4 = a at h1 ⊢
  generalize s.val % 4 = b at h2 ⊢
  have h3 : (t * 2048 + (a + 512 * b + 4 * p.val)) / 4 = t * 512 + 128 * b + p.val := by omega
  rw [h3]
  omega
theorem curPos2 (t j : ℕ) : curPos 4 (t * 2048 + (s.val / 4 + 512 * (s.val % 4) + 4 * p.val)) j = t * 2048 + (s.val / 4 + 512 * (s.val % 4) + 4 * j) := by
  have h := place2 s p t
  unfold curPos
  rw [h.2.1, h.2.2]; omega
include H
theorem q_row2 (x : Fin 128) : k0_pay9 (rd (F := Ideal) (e := .f32) xq (start2 s)) (ix2 p x) = q ((i 2).val * 2048 + (s.val / 4 + 512 * (s.val % 4) + 4 * p.val)) x := by
  have hs : s.val < 16 := lt_of_lt_of_eq s.isLt trips2
  have hp := p.isLt
  rw [← H.hq _ (by omega)]
  exact (pay_q _ _ _).trans (rd_start2 xq s p x)
theorem k_row2 (j x : Fin 128) : k0_pay10 (rd (F := Ideal) (e := .f32) xk (start2 s)) (ix2 j x) = k (curPos 4 ((i 2).val * 2048 + (s.val / 4 + 512 * (s.val % 4) + 4 * p.val)) j.val) x := by
  have hs : s.val < 16 := lt_of_lt_of_eq s.isLt trips2
  have hj := j.isLt
  rw [curPos2, ← H.hk _ (by omega)]
  exact (pay_k _ _ _).trans (rd_start2 xk s j x)
theorem v_row2 (j x : Fin 128) : k0_pay4 (rd (F := Ideal) (e := .f32) xv (start2 s)) (ix2 j x) = v (curPos 4 ((i 2).val * 2048 + (s.val / 4 + 512 * (s.val % 4) + 4 * p.val)) j.val) x := by
  have hs : s.val < 16 := lt_of_lt_of_eq s.isLt trips2
  have hj := j.isLt
  rw [curPos2, ← H.hv _ (by omega)]
  exact (pay_k _ _ _).trans (rd_start2 xv s j x)
/-- The keys of the block before, where there is one. -/
theorem kprev2 (h : 1 ≤ (i 2).val ∨ 1 ≤ (s.val % 4)) (j x : Fin 128) :
    (if (s.val % 4) = 0 then rd (F := Ideal) (e := .f32) xkp (last2 s) (ix3 0 j x) else rd (F := Ideal) (e := .f32) xk (inner2 s) (ix3 0 j x))
      = k (prevPos 4 ((i 2).val * 2048 + (s.val / 4 + 512 * (s.val % 4) + 4 * p.val)) j.val) x := by
  have hs : s.val < 16 := lt_of_lt_of_eq s.isLt trips2
  have hj := j.isLt
  have hpl := place2 s p (i 2).val
  unfold prevPos
  rw [hpl.2.1, hpl.2.2]
  by_cases h0 : (s.val % 4) = 0
  · rw [if_pos h0, rd_last2, H.hkp (by omega) _ (by omega)]
    congr 1; omega
  · rw [if_neg h0, rd_inner2, H.hk _ (by omega)]
    congr 1; omega
/-- The values of the block before, where there is one. -/
theorem vprev2 (h : 1 ≤ (i 2).val ∨ 1 ≤ (s.val % 4)) (j x : Fin 128) :
    (if (s.val % 4) = 0 then rd (F := Ideal) (e := .f32) xvp (last2 s) (ix3 0 j x) else rd (F := Ideal) (e := .f32) xv (inner2 s) (ix3 0 j x))
      = v (prevPos 4 ((i 2).val * 2048 + (s.val / 4 + 512 * (s.val % 4) + 4 * p.val)) j.val) x := by
  have hs : s.val < 16 := lt_of_lt_of_eq s.isLt trips2
  have hj := j.isLt
  have hpl := place2 s p (i 2).val
  unfold prevPos
  rw [hpl.2.1, hpl.2.2]
  by_cases h0 : (s.val % 4) = 0
  · rw [if_pos h0, rd_last2, H.hvp (by omega) _ (by omega)]
    congr 1; omega
  · rw [if_neg h0, rd_inner2, H.hv _ (by omega)]
    congr 1; omega
theorem prev_row2 (j : Fin 128) : k0_pay7 (blockWord i) rowNo colNo (BitVec.ofNat 32 (s.val % 4)) (k0_pay9 (rd (F := Ideal) (e := .f32) xq (start2 s))) (rd (F := Ideal) (e := .f32) xkp (last2 s)) (rd (F := Ideal) (e := .f32) xk (inner2 s)) (ix2 p j)
    = prevScore 4 q k ((i 2).val * 2048 + (s.val / 4 + 512 * (s.val % 4) + 4 * p.val)) j := by
  have hs : s.val < 16 := lt_of_lt_of_eq s.isLt trips2
  have hpl := place2 s p (i 2).val
  rw [tile_prev _ _ _ _ _ _ _ _ _ (first_cond ⟨(s.val % 4), by omega⟩) (some_cond ⟨(i 2).val, (i 2).isLt⟩ ⟨(s.val % 4), by omega⟩)]
  unfold prevScore score
  rw [hpl.1, hpl.2.1]
  by_cases h : 1 ≤ (i 2).val ∨ 1 ≤ (s.val % 4)
  · simp only [kprev2 i H s p h, q_row2 i H s p]
    exact if_congr (by constructor <;> intro ⟨a, b⟩ <;> exact ⟨a, by first | exact h | omega⟩) rfl rfl
  · rw [if_neg (fun h' => h h'.2), if_neg (fun h' => h (by omega))]

theorem out_row2 (d : Fin 128) : out2 (blockWord i) rowNo colNo xq xk xkp xv xvp s (ix2 p d)
    = attnOut 4 q k v ((i 2).val * 2048 + (s.val / 4 + 512 * (s.val % 4) + 4 * p.val)) d := by
  have hs : s.val < 16 := lt_of_lt_of_eq s.isLt trips2
  have hpl := place2 s p (i 2).val
  show k0_pay33 (k0_pay4 (rd (F := Ideal) (e := .f32) xv (start2 s)))
      (k0_pay5 (blockNo 4#32 (Scf.iv 0#32 1#32 s)) (rd (F := Ideal) (e := .f32) xvp (last2 s)) (rd (F := Ideal) (e := .f32) xv (inner2 s)))
      (k0_pay6 rowNo colNo (k0_pay9 (rd (F := Ideal) (e := .f32) xq (start2 s))) (k0_pay10 (rd (F := Ideal) (e := .f32) xk (start2 s))))
      (k0_pay7 (blockWord i) rowNo colNo (blockNo 4#32 (Scf.iv 0#32 1#32 s)) (k0_pay9 (rd (F := Ideal) (e := .f32) xq (start2 s))) (rd (F := Ideal) (e := .f32) xkp (last2 s)) (rd (F := Ideal) (e := .f32) xk (inner2 s)))
      (k0_pay8 rowNo colNo (k0_pay9 (rd (F := Ideal) (e := .f32) xq (start2 s))) (k0_pay10 (rd (F := Ideal) (e := .f32) xk (start2 s)))) (ix2 p d) = _
  rw [block2]
  exact step_out hpl.1 _ _ _ _ _ (q_row2 i H s p) (k_row2 i H s p) (prev_row2 i H s p) d (fun j => v_row2 i H s p j d)
    (fun h j => (tile_value _ _ _ _ _ _ (first_cond ⟨(s.val % 4), by omega⟩)).trans (vprev2 i H s p (by omega) j d))
theorem lse_row2 (d : Fin 128) : lse2 (blockWord i) rowNo colNo xq xk xkp s (ix2 p d)
    = attnLse 4 q k ((i 2).val * 2048 + (s.val / 4 + 512 * (s.val % 4) + 4 * p.val)) := by
  have hs : s.val < 16 := lt_of_lt_of_eq s.isLt trips2
  have hpl := place2 s p (i 2).val
  show k0_pay34
      (k0_pay6 rowNo colNo (k0_pay9 (rd (F := Ideal) (e := .f32) xq (start2 s))) (k0_pay10 (rd (F := Ideal) (e := .f32) xk (start2 s))))
      (k0_pay7 (blockWord i) rowNo colNo (blockNo 4#32 (Scf.iv 0#32 1#32 s)) (k0_pay9 (rd (F := Ideal) (e := .f32) xq (start2 s))) (rd (F := Ideal) (e := .f32) xkp (last2 s)) (rd (F := Ideal) (e := .f32) xk (inner2 s)))
      (k0_pay8 rowNo colNo (k0_pay9 (rd (F := Ideal) (e := .f32) xq (start2 s))) (k0_pay10 (rd (F := Ideal) (e := .f32) xk (start2 s)))) (ix2 p d) = _
  rw [block2]
  exact step_lse hpl.1 _ _ _ (q_row2 i H s p) (k_row2 i H s p) (prev_row2 i H s p) d
end

include H in
theorem outs_eq2 : View.canon (outs2 (blockWord i) rowNo colNo xq xk xkp xv xvp k0_t2_loop.trips)
    = fun y => attnOut 4 q k v ((i 2).val * 2048 + (y 0).val) (y 1) :=
  canon_before rows2 _ mem_rows2 _ fun s x => by
    obtain ⟨p, d, rfl⟩ : ∃ (p : Fin 128) (d : Fin 128), x = ix2 p d := ⟨x 0, x 1, eq_ix2 x⟩
    have h1 : ((rows2 s).idx (ix2 p d)) 1 = d := Fin.ext (rows2_col s (ix2 p d))
    refine (out_row2 i H s p d).trans ?_
    show _ = attnOut 4 q k v ((i 2).val * 2048 + (((rows2 s).idx (ix2 p d)) 0).val) (((rows2 s).idx (ix2 p d)) 1)
    rw [h1, rows2_row]
    rfl
include H in
theorem lses_eq2 : View.canon (lses2 (blockWord i) rowNo colNo xq xk xkp k0_t2_loop.trips)
    = fun y => attnLse 4 q k ((i 2).val * 2048 + (y 0).val) :=
  canon_before rows2 _ mem_rows2 _ fun s x => by
    obtain ⟨p, d, rfl⟩ : ∃ (p : Fin 128) (d : Fin 128), x = ix2 p d := ⟨x 0, x 1, eq_ix2 x⟩
    refine (lse_row2 i H s p d).trans ?_
    show _ = attnLse 4 q k ((i 2).val * 2048 + (((rows2 s).idx (ix2 p d)) 0).val)
    rw [rows2_row]
    rfl

/-! ## Loop 3 -/

theorem rd_start3 (X : Vec Ideal S1x2048x128 .f32) (s : Fin k0_t3_loop.trips) (p d : Fin 128) :
    rd (F := Ideal) (e := .f32) X (start3 s) (ix3 0 p d) = at3 X 0 (s.val + 16 * p.val) d.val :=
  rd_at X _ _ _ _ (by show k0_off9 s 1 + 16 * p.val = _; rw [(off9 s).2.1]) (by show k0_off9 s 2 + 1 * d.val = _; rw [(off9 s).2.2]; omega)
theorem rd_last3 (X : Vec Ideal S1x2048x128 .f32) (s : Fin k0_t3_loop.trips) (p d : Fin 128) :
    rd (F := Ideal) (e := .f32) X (last3 s) (ix3 0 p d) = at3 X 0 (s.val + 16 * p.val) d.val :=
  rd_at X _ _ _ _ (by show k0_off10 s 1 + 16 * p.val = _; rw [(off10 s).2.1]) (by show k0_off10 s 2 + 1 * d.val = _; rw [(off10 s).2.2]; omega)

section
variable (s : Fin k0_t3_loop.trips) (p : Fin 128)

/-- Where row `p` of step `s` stands in its stream. -/
theorem place3 (t : ℕ) : (t * 2048 + (s.val + 16 * p.val)) / 16 % 128 = p.val ∧ (t * 2048 + (s.val + 16 * p.val)) / 16 / 128 = t * 1 + 0 ∧ (t * 2048 + (s.val + 16 * p.val)) % 16 = s.val := by
  have hs : s.val < 16 := lt_of_lt_of_eq s.isLt trips3
  have hp := p.isLt
  omega
theorem curPos3 (t j : ℕ) : curPos 16 (t * 2048 + (s.val + 16 * p.val)) j = t * 2048 + (s.val + 16 * j) := by
  have h := place3 s p t
  unfold curPos
  rw [h.2.1, h.2.2]; omega
include H
theorem q_row3 (x : Fin 128) : k0_pay16 (rd (F := Ideal) (e := .f32) xq (start3 s)) (ix2 p x) = q ((i 2).val * 2048 + (s.val + 16 * p.val)) x := by
  have hs : s.val < 16 := lt_of_lt_of_eq s.isLt trips3
  have hp := p.isLt
  rw [← H.hq _ (by omega)]
  exact (pay_q _ _ _).trans (rd_start3 xq s p x)
theorem k_row3 (j x : Fin 128) : k0_pay17 (rd (F := Ideal) (e := .f32) xk (start3 s)) (ix2 j x) = k (curPos 16 ((i 2).val * 2048 + (s.val + 16 * p.val)) j.val) x := by
  have hs : s.val < 16 := lt_of_lt_of_eq s.isLt trips3
  have hj := j.isLt
  rw [curPos3, ← H.hk _ (by omega)]
  exact (pay_k _ _ _).trans (rd_start3 xk s j x)
theorem v_row3 (j x : Fin 128) : k0_pay4 (rd (F := Ideal) (e := .f32) xv (start3 s)) (ix2 j x) = v (curPos 16 ((i 2).val * 2048 + (s.val + 16 * p.val)) j.val) x := by
  have hs : s.val < 16 := lt_of_lt_of_eq s.isLt trips3
  have hj := j.isLt
  rw [curPos3, ← H.hv _ (by omega)]
  exact (pay_k _ _ _).trans (rd_start3 xv s j x)
/-- The keys of the block before, where there is one. -/
theorem kprev3 (h : 1 ≤ (i 2).val) (j x : Fin 128) :
    rd (F := Ideal) (e := .f32) xkp (last3 s) (ix3 0 j x) = k (prevPos 16 ((i 2).val * 2048 + (s.val + 16 * p.val)) j.val) x := by
  have hs : s.val < 16 := lt_of_lt_of_eq s.isLt trips3
  have hj := j.isLt
  have hpl := place3 s p (i 2).val
  unfold prevPos
  rw [hpl.2.1, hpl.2.2, rd_last3, H.hkp h _ (by omega)]
  congr 1; omega
/-- The values of the block before, where there is one. -/
theorem vprev3 (h : 1 ≤ (i 2).val) (j x : Fin 128) :
    rd (F := Ideal) (e := .f32) xvp (last3 s) (ix3 0 j x) = v (prevPos 16 ((i 2).val * 2048 + (s.val + 16 * p.val)) j.val) x := by
  have hs : s.val < 16 := lt_of_lt_of_eq s.isLt trips3
  have hj := j.isLt
  have hpl := place3 s p (i 2).val
  unfold prevPos
  rw [hpl.2.1, hpl.2.2, rd_last3, H.hvp h _ (by omega)]
  congr 1; omega
theorem prev_row3 (j : Fin 128) : k0_pay21 (blockWord i) rowNo colNo (k0_pay16 (rd (F := Ideal) (e := .f32) xq (start3 s))) (rd (F := Ideal) (e := .f32) xkp (last3 s)) (ix2 p j)
    = prevScore 16 q k ((i 2).val * 2048 + (s.val + 16 * p.val)) j := by
  have hpl := place3 s p (i 2).val
  rw [tile_last _ _ _ _ _ _ (pos_cond ⟨(i 2).val, (i 2).isLt⟩)]
  unfold prevScore score
  rw [hpl.1, hpl.2.1]
  by_cases h : 1 ≤ (i 2).val
  · simp only [kprev3 i H s p h, q_row3 i H s p]
    exact if_congr (by constructor <;> intro ⟨a, b⟩ <;> exact ⟨a, by first | exact h | omega⟩) rfl rfl
  · rw [if_neg (fun h' => h h'.2), if_neg (fun h' => h (by omega))]

theorem out_row3 (d : Fin 128) : out3 (blockWord i) rowNo colNo xq xk xkp xv xvp s (ix2 p d)
    = attnOut 16 q k v ((i 2).val * 2048 + (s.val + 16 * p.val)) d := by
  have hs : s.val < 16 := lt_of_lt_of_eq s.isLt trips3
  have hpl := place3 s p (i 2).val
  show k0_pay33 (k0_pay4 (rd (F := Ideal) (e := .f32) xv (start3 s))) (k0_pay19 (rd (F := Ideal) (e := .f32) xvp (last3 s)))
      (k0_pay6 rowNo colNo (k0_pay16 (rd (F := Ideal) (e := .f32) xq (start3 s))) (k0_pay17 (rd (F := Ideal) (e := .f32) xk (start3 s)))) (k0_pay21 (blockWord i) rowNo colNo (k0_pay16 (rd (F := Ideal) (e := .f32) xq (start3 s))) (rd (F := Ideal) (e := .f32) xkp (last3 s))) (k0_pay8 rowNo colNo (k0_pay16 (rd (F := Ideal) (e := .f32) xq (start3 s))) (k0_pay17 (rd (F := Ideal) (e := .f32) xk (start3 s)))) (ix2 p d) = _
  exact step_out hpl.1 _ _ _ _ _ (q_row3 i H s p) (k_row3 i H s p) (prev_row3 i H s p) d (fun j => v_row3 i H s p j d)
    (fun h j => (pay_k _ _ _).trans (vprev3 i H s p (by omega) j d))
theorem lse_row3 (d : Fin 128) : lse3 (blockWord i) rowNo colNo xq xk xkp s (ix2 p d)
    = attnLse 16 q k ((i 2).val * 2048 + (s.val + 16 * p.val)) := by
  have hs : s.val < 16 := lt_of_lt_of_eq s.isLt trips3
  have hpl := place3 s p (i 2).val
  show k0_pay34 (k0_pay6 rowNo colNo (k0_pay16 (rd (F := Ideal) (e := .f32) xq (start3 s))) (k0_pay17 (rd (F := Ideal) (e := .f32) xk (start3 s)))) (k0_pay21 (blockWord i) rowNo colNo (k0_pay16 (rd (F := Ideal) (e := .f32) xq (start3 s))) (rd (F := Ideal) (e := .f32) xkp (last3 s))) (k0_pay8 rowNo colNo (k0_pay16 (rd (F := Ideal) (e := .f32) xq (start3 s))) (k0_pay17 (rd (F := Ideal) (e := .f32) xk (start3 s)))) (ix2 p d) = _
  exact step_lse hpl.1 _ _ _ (q_row3 i H s p) (k_row3 i H s p) (prev_row3 i H s p) d
end

include H in
theorem outs_eq3 : View.canon (outs3 (blockWord i) rowNo colNo xq xk xkp xv xvp k0_t3_loop.trips)
    = fun y => attnOut 16 q k v ((i 2).val * 2048 + (y 0).val) (y 1) :=
  canon_before rows3 _ mem_rows3 _ fun s x => by
    obtain ⟨p, d, rfl⟩ : ∃ (p : Fin 128) (d : Fin 128), x = ix2 p d := ⟨x 0, x 1, eq_ix2 x⟩
    have h1 : ((rows3 s).idx (ix2 p d)) 1 = d := Fin.ext (rows3_col s (ix2 p d))
    refine (out_row3 i H s p d).trans ?_
    show _ = attnOut 16 q k v ((i 2).val * 2048 + (((rows3 s).idx (ix2 p d)) 0).val) (((rows3 s).idx (ix2 p d)) 1)
    rw [h1, rows3_row]
    rfl
include H in
theorem lses_eq3 : View.canon (lses3 (blockWord i) rowNo colNo xq xk xkp k0_t3_loop.trips)
    = fun y => attnLse 16 q k ((i 2).val * 2048 + (y 0).val) :=
  canon_before rows3 _ mem_rows3 _ fun s x => by
    obtain ⟨p, d, rfl⟩ : ∃ (p : Fin 128) (d : Fin 128), x = ix2 p d := ⟨x 0, x 1, eq_ix2 x⟩
    refine (lse_row3 i H s p d).trans ?_
    show _ = attnLse 16 q k ((i 2).val * 2048 + (((rows3 s).idx (ix2 p d)) 0).val)
    rw [rows3_row]
    rfl

end Cert.Proof.Attn

end
-- ==== Proof.Attn.Value.lean ====
/- The kernel's result: each step of the grid leaves its block of one function of the two arguments, and the blocks fill the
   array. -/
module

public import proofs.«01_k».proof.Proof.Attn.Groups
public import proofs.«01_k».proof.Proof.Attn.Run
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.SL.Sem
open Idealize.ShloMosaic.Pipeline (Dat)

/-! ## A step's output block -/

theorem merged (l1 l2 l3 o1 o2 o3 : Vec Ideal S2048x128 .f32) (R : Fin 2048) (d : Fin 128) :
    k0_pay1 (k0_pay44 l1 l2 l3 o1 o2 o3) (ix3 0 R d)
      = merge (l1 (ix2 R d)) (l2 (ix2 R d)) (l3 (ix2 R d)) (o1 (ix2 R d)) (o2 (ix2 R d)) (o3 (ix2 R d)) := by
  pointwise [k0_pay1, k0_pay44]
  rfl

theorem outBlock_at (i : grid0.Coords) {x3 x4 x5 x6 x7 x8 x9 x10 x11 x12 x13 x14 x15 x16 x17 : Vec Ideal S1x2048x128 .f32}
    {q1 k1 v1 q2 k2 v2 q3 k3 v3 : ℕ → Fin 128 → EReal} (H1 : Blk (i 2).val x3 x4 x5 x6 x7 q1 k1 v1)
    (H2 : Blk (i 2).val x8 x9 x10 x11 x12 q2 k2 v2) (H3 : Blk (i 2).val x13 x14 x15 x16 x17 q3 k3 v3) (R : Fin 2048) (d : Fin 128) :
    outBlock i x3 x4 x5 x6 x7 x8 x9 x10 x11 x12 x13 x14 x15 x16 x17 (ix3 0 R d)
      = merge (attnLse 1 q1 k1 ((i 2).val * 2048 + R.val)) (attnLse 4 q2 k2 ((i 2).val * 2048 + R.val)) (attnLse 16 q3 k3 ((i 2).val * 2048 + R.val))
          (attnOut 1 q1 k1 v1 ((i 2).val * 2048 + R.val) d) (attnOut 4 q2 k2 v2 ((i 2).val * 2048 + R.val) d) (attnOut 16 q3 k3 v3 ((i 2).val * 2048 + R.val) d) := by
  unfold outBlock
  rw [lses_eq1 i H1, lses_eq2 i H2, lses_eq3 i H3, outs_eq1 i H1, outs_eq2 i H2, outs_eq3 i H3]
  exact merged _ _ _ _ _ _ R d

/-! ## The input blocks, as parts of the arguments -/

variable (m : (ℓ : Loc nD τ sig) → Buf (Elt Ideal) ℓ)

/-- The two arguments. -/
abbrev arr0 (c : Dev nD) : Shape.Idx ⟨3, ![4, 8192, 3072]⟩ → EReal := m ((c : Thread nD τ).loc main_arg0)
abbrev arr1 (c : Dev nD) : Shape.Idx ⟨3, ![4, 8192, 8704]⟩ → EReal := m ((c : Thread nD τ).loc main_arg1)

theorem index_0 : ∀ t : Fin cfg0.N, win0_0.index t (0 : Fin 3) = (grid0.coords t 0).val ∧ win0_0.index t (1 : Fin 3) = (grid0.coords t 2).val ∧ win0_0.index t (2 : Fin 3) = 0 + (grid0.coords t 1).val :=
  (by decide +kernel : ∀ t : Fin grid0.N, _)
theorem block_0 (c : Dev nD) (t : Fin cfg0.N) (R : ℕ) (h : R < 2048) (x : Fin 128) :
    at3 (A := 1) (B := 2048) (C := 128) (iblk m c 0 t) 0 R x.val = at3 (arr0 m c) (grid0.coords t 0).val (((grid0.coords t 2).val) * 2048 + R) ((0 + (grid0.coords t 1).val) * 128 + x.val) := by
  obtain ⟨e0, e1, e2⟩ := index_0 t
  refine (at3_ix3 (A := 1) (B := 2048) (C := 128) (iblk m c 0 t) 0 ⟨R, h⟩ x).symm.trans (at3_of (arr0 m c) (((cfg0.win 0).blk t).view.emb (ix3 (n0 := 1) (n1 := 2048) (n2 := 128) 0 ⟨R, h⟩ x)) _ _ _ ?_ ?_ ?_)
  · show win0_0.index t (0 : Fin 3) * 1 + 1 * 0 = _; omega
  · show win0_0.index t (1 : Fin 3) * 2048 + 1 * R = _; rw [e1]; omega
  · show win0_0.index t (2 : Fin 3) * 128 + 1 * x.val = _; rw [e2]; omega
theorem index_1 : ∀ t : Fin cfg0.N, win0_1.index t (0 : Fin 3) = (grid0.coords t 0).val ∧ win0_1.index t (1 : Fin 3) = (grid0.coords t 2).val ∧ win0_1.index t (2 : Fin 3) = 12 + (grid0.coords t 1).val :=
  (by decide +kernel : ∀ t : Fin grid0.N, _)
theorem block_1 (c : Dev nD) (t : Fin cfg0.N) (R : ℕ) (h : R < 2048) (x : Fin 128) :
    at3 (A := 1) (B := 2048) (C := 128) (iblk m c 1 t) 0 R x.val = at3 (arr0 m c) (grid0.coords t 0).val (((grid0.coords t 2).val) * 2048 + R) ((12 + (grid0.coords t 1).val) * 128 + x.val) := by
  obtain ⟨e0, e1, e2⟩ := index_1 t
  refine (at3_ix3 (A := 1) (B := 2048) (C := 128) (iblk m c 1 t) 0 ⟨R, h⟩ x).symm.trans (at3_of (arr0 m c) (((cfg0.win 1).blk t).view.emb (ix3 (n0 := 1) (n1 := 2048) (n2 := 128) 0 ⟨R, h⟩ x)) _ _ _ ?_ ?_ ?_)
  · show win0_1.index t (0 : Fin 3) * 1 + 1 * 0 = _; omega
  · show win0_1.index t (1 : Fin 3) * 2048 + 1 * R = _; rw [e1]; omega
  · show win0_1.index t (2 : Fin 3) * 128 + 1 * x.val = _; rw [e2]; omega
theorem index_2 : ∀ t : Fin cfg0.N, win0_2.index t (0 : Fin 3) = (grid0.coords t 0).val ∧ win0_2.index t (1 : Fin 3) = (grid0.coords t 2).val - 1 ∧ win0_2.index t (2 : Fin 3) = 12 + (grid0.coords t 1).val :=
  (by decide +kernel : ∀ t : Fin grid0.N, _)
theorem block_2 (c : Dev nD) (t : Fin cfg0.N) (R : ℕ) (h : R < 2048) (x : Fin 128) :
    at3 (A := 1) (B := 2048) (C := 128) (iblk m c 2 t) 0 R x.val = at3 (arr0 m c) (grid0.coords t 0).val (((grid0.coords t 2).val - 1) * 2048 + R) ((12 + (grid0.coords t 1).val) * 128 + x.val) := by
  obtain ⟨e0, e1, e2⟩ := index_2 t
  refine (at3_ix3 (A := 1) (B := 2048) (C := 128) (iblk m c 2 t) 0 ⟨R, h⟩ x).symm.trans (at3_of (arr0 m c) (((cfg0.win 2).blk t).view.emb (ix3 (n0 := 1) (n1 := 2048) (n2 := 128) 0 ⟨R, h⟩ x)) _ _ _ ?_ ?_ ?_)
  · show win0_2.index t (0 : Fin 3) * 1 + 1 * 0 = _; omega
  · show win0_2.index t (1 : Fin 3) * 2048 + 1 * R = _; rw [e1]; omega
  · show win0_2.index t (2 : Fin 3) * 128 + 1 * x.val = _; rw [e2]; omega
theorem index_3 : ∀ t : Fin cfg0.N, win0_3.index t (0 : Fin 3) = (grid0.coords t 0).val ∧ win0_3.index t (1 : Fin 3) = (grid0.coords t 2).val ∧ win0_3.index t (2 : Fin 3) = 40 + (grid0.coords t 1).val :=
  (by decide +kernel : ∀ t : Fin grid0.N, _)
theorem block_3 (c : Dev nD) (t : Fin cfg0.N) (R : ℕ) (h : R < 2048) (x : Fin 128) :
    at3 (A := 1) (B := 2048) (C := 128) (iblk m c 3 t) 0 R x.val = at3 (arr1 m c) (grid0.coords t 0).val (((grid0.coords t 2).val) * 2048 + R) ((40 + (grid0.coords t 1).val) * 128 + x.val) := by
  obtain ⟨e0, e1, e2⟩ := index_3 t
  refine (at3_ix3 (A := 1) (B := 2048) (C := 128) (iblk m c 3 t) 0 ⟨R, h⟩ x).symm.trans (at3_of (arr1 m c) (((cfg0.win 3).blk t).view.emb (ix3 (n0 := 1) (n1 := 2048) (n2 := 128) 0 ⟨R, h⟩ x)) _ _ _ ?_ ?_ ?_)
  · show win0_3.index t (0 : Fin 3) * 1 + 1 * 0 = _; omega
  · show win0_3.index t (1 : Fin 3) * 2048 + 1 * R = _; rw [e1]; omega
  · show win0_3.index t (2 : Fin 3) * 128 + 1 * x.val = _; rw [e2]; omega
theorem index_4 : ∀ t : Fin cfg0.N, win0_4.index t (0 : Fin 3) = (grid0.coords t 0).val ∧ win0_4.index t (1 : Fin 3) = (grid0.coords t 2).val - 1 ∧ win0_4.index t (2 : Fin 3) = 40 + (grid0.coords t 1).val :=
  (by decide +kernel : ∀ t : Fin grid0.N, _)
theorem block_4 (c : Dev nD) (t : Fin cfg0.N) (R : ℕ) (h : R < 2048) (x : Fin 128) :
    at3 (A := 1) (B := 2048) (C := 128) (iblk m c 4 t) 0 R x.val = at3 (arr1 m c) (grid0.coords t 0).val (((grid0.coords t 2).val - 1) * 2048 + R) ((40 + (grid0.coords t 1).val) * 128 + x.val) := by
  obtain ⟨e0, e1, e2⟩ := index_4 t
  refine (at3_ix3 (A := 1) (B := 2048) (C := 128) (iblk m c 4 t) 0 ⟨R, h⟩ x).symm.trans (at3_of (arr1 m c) (((cfg0.win 4).blk t).view.emb (ix3 (n0 := 1) (n1 := 2048) (n2 := 128) 0 ⟨R, h⟩ x)) _ _ _ ?_ ?_ ?_)
  · show win0_4.index t (0 : Fin 3) * 1 + 1 * 0 = _; omega
  · show win0_4.index t (1 : Fin 3) * 2048 + 1 * R = _; rw [e1]; omega
  · show win0_4.index t (2 : Fin 3) * 128 + 1 * x.val = _; rw [e2]; omega
theorem index_5 : ∀ t : Fin cfg0.N, win0_5.index t (0 : Fin 3) = (grid0.coords t 0).val ∧ win0_5.index t (1 : Fin 3) = (grid0.coords t 2).val ∧ win0_5.index t (2 : Fin 3) = 4 + (grid0.coords t 1).val :=
  (by decide +kernel : ∀ t : Fin grid0.N, _)
theorem block_5 (c : Dev nD) (t : Fin cfg0.N) (R : ℕ) (h : R < 2048) (x : Fin 128) :
    at3 (A := 1) (B := 2048) (C := 128) (iblk m c 5 t) 0 R x.val = at3 (arr0 m c) (grid0.coords t 0).val (((grid0.coords t 2).val) * 2048 + R) ((4 + (grid0.coords t 1).val) * 128 + x.val) := by
  obtain ⟨e0, e1, e2⟩ := index_5 t
  refine (at3_ix3 (A := 1) (B := 2048) (C := 128) (iblk m c 5 t) 0 ⟨R, h⟩ x).symm.trans (at3_of (arr0 m c) (((cfg0.win 5).blk t).view.emb (ix3 (n0 := 1) (n1 := 2048) (n2 := 128) 0 ⟨R, h⟩ x)) _ _ _ ?_ ?_ ?_)
  · show win0_5.index t (0 : Fin 3) * 1 + 1 * 0 = _; omega
  · show win0_5.index t (1 : Fin 3) * 2048 + 1 * R = _; rw [e1]; omega
  · show win0_5.index t (2 : Fin 3) * 128 + 1 * x.val = _; rw [e2]; omega
theorem index_6 : ∀ t : Fin cfg0.N, win0_6.index t (0 : Fin 3) = (grid0.coords t 0).val ∧ win0_6.index t (1 : Fin 3) = (grid0.coords t 2).val ∧ win0_6.index t (2 : Fin 3) = 16 + (grid0.coords t 1).val :=
  (by decide +kernel : ∀ t : Fin grid0.N, _)
theorem block_6 (c : Dev nD) (t : Fin cfg0.N) (R : ℕ) (h : R < 2048) (x : Fin 128) :
    at3 (A := 1) (B := 2048) (C := 128) (iblk m c 6 t) 0 R x.val = at3 (arr0 m c) (grid0.coords t 0).val (((grid0.coords t 2).val) * 2048 + R) ((16 + (grid0.coords t 1).val) * 128 + x.val) := by
  obtain ⟨e0, e1, e2⟩ := index_6 t
  refine (at3_ix3 (A := 1) (B := 2048) (C := 128) (iblk m c 6 t) 0 ⟨R, h⟩ x).symm.trans (at3_of (arr0 m c) (((cfg0.win 6).blk t).view.emb (ix3 (n0 := 1) (n1 := 2048) (n2 := 128) 0 ⟨R, h⟩ x)) _ _ _ ?_ ?_ ?_)
  · show win0_6.index t (0 : Fin 3) * 1 + 1 * 0 = _; omega
  · show win0_6.index t (1 : Fin 3) * 2048 + 1 * R = _; rw [e1]; omega
  · show win0_6.index t (2 : Fin 3) * 128 + 1 * x.val = _; rw [e2]; omega
theorem index_7 : ∀ t : Fin cfg0.N, win0_7.index t (0 : Fin 3) = (grid0.coords t 0).val ∧ win0_7.index t (1 : Fin 3) = (grid0.coords t 2).val - 1 ∧ win0_7.index t (2 : Fin 3) = 16 + (grid0.coords t 1).val :=
  (by decide +kernel : ∀ t : Fin grid0.N, _)
theorem block_7 (c : Dev nD) (t : Fin cfg0.N) (R : ℕ) (h : R < 2048) (x : Fin 128) :
    at3 (A := 1) (B := 2048) (C := 128) (iblk m c 7 t) 0 R x.val = at3 (arr0 m c) (grid0.coords t 0).val (((grid0.coords t 2).val - 1) * 2048 + R) ((16 + (grid0.coords t 1).val) * 128 + x.val) := by
  obtain ⟨e0, e1, e2⟩ := index_7 t
  refine (at3_ix3 (A := 1) (B := 2048) (C := 128) (iblk m c 7 t) 0 ⟨R, h⟩ x).symm.trans (at3_of (arr0 m c) (((cfg0.win 7).blk t).view.emb (ix3 (n0 := 1) (n1 := 2048) (n2 := 128) 0 ⟨R, h⟩ x)) _ _ _ ?_ ?_ ?_)
  · show win0_7.index t (0 : Fin 3) * 1 + 1 * 0 = _; omega
  · show win0_7.index t (1 : Fin 3) * 2048 + 1 * R = _; rw [e1]; omega
  · show win0_7.index t (2 : Fin 3) * 128 + 1 * x.val = _; rw [e2]; omega
theorem index_8 : ∀ t : Fin cfg0.N, win0_8.index t (0 : Fin 3) = (grid0.coords t 0).val ∧ win0_8.index t (1 : Fin 3) = (grid0.coords t 2).val ∧ win0_8.index t (2 : Fin 3) = 44 + (grid0.coords t 1).val :=
  (by decide +kernel : ∀ t : Fin grid0.N, _)
theorem block_8 (c : Dev nD) (t : Fin cfg0.N) (R : ℕ) (h : R < 2048) (x : Fin 128) :
    at3 (A := 1) (B := 2048) (C := 128) (iblk m c 8 t) 0 R x.val = at3 (arr1 m c) (grid0.coords t 0).val (((grid0.coords t 2).val) * 2048 + R) ((44 + (grid0.coords t 1).val) * 128 + x.val) := by
  obtain ⟨e0, e1, e2⟩ := index_8 t
  refine (at3_ix3 (A := 1) (B := 2048) (C := 128) (iblk m c 8 t) 0 ⟨R, h⟩ x).symm.trans (at3_of (arr1 m c) (((cfg0.win 8).blk t).view.emb (ix3 (n0 := 1) (n1 := 2048) (n2 := 128) 0 ⟨R, h⟩ x)) _ _ _ ?_ ?_ ?_)
  · show win0_8.index t (0 : Fin 3) * 1 + 1 * 0 = _; omega
  · show win0_8.index t (1 : Fin 3) * 2048 + 1 * R = _; rw [e1]; omega
  · show win0_8.index t (2 : Fin 3) * 128 + 1 * x.val = _; rw [e2]; omega
theorem index_9 : ∀ t : Fin cfg0.N, win0_9.index t (0 : Fin 3) = (grid0.coords t 0).val ∧ win0_9.index t (1 : Fin 3) = (grid0.coords t 2).val - 1 ∧ win0_9.index t (2 : Fin 3) = 44 + (grid0.coords t 1).val :=
  (by decide +kernel : ∀ t : Fin grid0.N, _)
theorem block_9 (c : Dev nD) (t : Fin cfg0.N) (R : ℕ) (h : R < 2048) (x : Fin 128) :
    at3 (A := 1) (B := 2048) (C := 128) (iblk m c 9 t) 0 R x.val = at3 (arr1 m c) (grid0.coords t 0).val (((grid0.coords t 2).val - 1) * 2048 + R) ((44 + (grid0.coords t 1).val) * 128 + x.val) := by
  obtain ⟨e0, e1, e2⟩ := index_9 t
  refine (at3_ix3 (A := 1) (B := 2048) (C := 128) (iblk m c 9 t) 0 ⟨R, h⟩ x).symm.trans (at3_of (arr1 m c) (((cfg0.win 9).blk t).view.emb (ix3 (n0 := 1) (n1 := 2048) (n2 := 128) 0 ⟨R, h⟩ x)) _ _ _ ?_ ?_ ?_)
  · show win0_9.index t (0 : Fin 3) * 1 + 1 * 0 = _; omega
  · show win0_9.index t (1 : Fin 3) * 2048 + 1 * R = _; rw [e1]; omega
  · show win0_9.index t (2 : Fin 3) * 128 + 1 * x.val = _; rw [e2]; omega
theorem index_10 : ∀ t : Fin cfg0.N, win0_10.index t (0 : Fin 3) = (grid0.coords t 0).val ∧ win0_10.index t (1 : Fin 3) = (grid0.coords t 2).val ∧ win0_10.index t (2 : Fin 3) = 8 + (grid0.coords t 1).val :=
  (by decide +kernel : ∀ t : Fin grid0.N, _)
theorem block_10 (c : Dev nD) (t : Fin cfg0.N) (R : ℕ) (h : R < 2048) (x : Fin 128) :
    at3 (A := 1) (B := 2048) (C := 128) (iblk m c 10 t) 0 R x.val = at3 (arr0 m c) (grid0.coords t 0).val (((grid0.coords t 2).val) * 2048 + R) ((8 + (grid0.coords t 1).val) * 128 + x.val) := by
  obtain ⟨e0, e1, e2⟩ := index_10 t
  refine (at3_ix3 (A := 1) (B := 2048) (C := 128) (iblk m c 10 t) 0 ⟨R, h⟩ x).symm.trans (at3_of (arr0 m c) (((cfg0.win 10).blk t).view.emb (ix3 (n0 := 1) (n1 := 2048) (n2 := 128) 0 ⟨R, h⟩ x)) _ _ _ ?_ ?_ ?_)
  · show win0_10.index t (0 : Fin 3) * 1 + 1 * 0 = _; omega
  · show win0_10.index t (1 : Fin 3) * 2048 + 1 * R = _; rw [e1]; omega
  · show win0_10.index t (2 : Fin 3) * 128 + 1 * x.val = _; rw [e2]; omega
theorem index_11 : ∀ t : Fin cfg0.N, win0_11.index t (0 : Fin 3) = (grid0.coords t 0).val ∧ win0_11.index t (1 : Fin 3) = (grid0.coords t 2).val ∧ win0_11.index t (2 : Fin 3) = 20 + (grid0.coords t 1).val :=
  (by decide +kernel : ∀ t : Fin grid0.N, _)
theorem block_11 (c : Dev nD) (t : Fin cfg0.N) (R : ℕ) (h : R < 2048) (x : Fin 128) :
    at3 (A := 1) (B := 2048) (C := 128) (iblk m c 11 t) 0 R x.val = at3 (arr0 m c) (grid0.coords t 0).val (((grid0.coords t 2).val) * 2048 + R) ((20 + (grid0.coords t 1).val) * 128 + x.val) := by
  obtain ⟨e0, e1, e2⟩ := index_11 t
  refine (at3_ix3 (A := 1) (B := 2048) (C := 128) (iblk m c 11 t) 0 ⟨R, h⟩ x).symm.trans (at3_of (arr0 m c) (((cfg0.win 11).blk t).view.emb (ix3 (n0 := 1) (n1 := 2048) (n2 := 128) 0 ⟨R, h⟩ x)) _ _ _ ?_ ?_ ?_)
  · show win0_11.index t (0 : Fin 3) * 1 + 1 * 0 = _; omega
  · show win0_11.index t (1 : Fin 3) * 2048 + 1 * R = _; rw [e1]; omega
  · show win0_11.index t (2 : Fin 3) * 128 + 1 * x.val = _; rw [e2]; omega
theorem index_12 : ∀ t : Fin cfg0.N, win0_12.index t (0 : Fin 3) = (grid0.coords t 0).val ∧ win0_12.index t (1 : Fin 3) = (grid0.coords t 2).val - 1 ∧ win0_12.index t (2 : Fin 3) = 20 + (grid0.coords t 1).val :=
  (by decide +kernel : ∀ t : Fin grid0.N, _)
theorem block_12 (c : Dev nD) (t : Fin cfg0.N) (R : ℕ) (h : R < 2048) (x : Fin 128) :
    at3 (A := 1) (B := 2048) (C := 128) (iblk m c 12 t) 0 R x.val = at3 (arr0 m c) (grid0.coords t 0).val (((grid0.coords t 2).val - 1) * 2048 + R) ((20 + (grid0.coords t 1).val) * 128 + x.val) := by
  obtain ⟨e0, e1, e2⟩ := index_12 t
  refine (at3_ix3 (A := 1) (B := 2048) (C := 128) (iblk m c 12 t) 0 ⟨R, h⟩ x).symm.trans (at3_of (arr0 m c) (((cfg0.win 12).blk t).view.emb (ix3 (n0 := 1) (n1 := 2048) (n2 := 128) 0 ⟨R, h⟩ x)) _ _ _ ?_ ?_ ?_)
  · show win0_12.index t (0 : Fin 3) * 1 + 1 * 0 = _; omega
  · show win0_12.index t (1 : Fin 3) * 2048 + 1 * R = _; rw [e1]; omega
  · show win0_12.index t (2 : Fin 3) * 128 + 1 * x.val = _; rw [e2]; omega
theorem index_13 : ∀ t : Fin cfg0.N, win0_13.index t (0 : Fin 3) = (grid0.coords t 0).val ∧ win0_13.index t (1 : Fin 3) = (grid0.coords t 2).val ∧ win0_13.index t (2 : Fin 3) = 48 + (grid0.coords t 1).val :=
  (by decide +kernel : ∀ t : Fin grid0.N, _)
theorem block_13 (c : Dev nD) (t : Fin cfg0.N) (R : ℕ) (h : R < 2048) (x : Fin 128) :
    at3 (A := 1) (B := 2048) (C := 128) (iblk m c 13 t) 0 R x.val = at3 (arr1 m c) (grid0.coords t 0).val (((grid0.coords t 2).val) * 2048 + R) ((48 + (grid0.coords t 1).val) * 128 + x.val) := by
  obtain ⟨e0, e1, e2⟩ := index_13 t
  refine (at3_ix3 (A := 1) (B := 2048) (C := 128) (iblk m c 13 t) 0 ⟨R, h⟩ x).symm.trans (at3_of (arr1 m c) (((cfg0.win 13).blk t).view.emb (ix3 (n0 := 1) (n1 := 2048) (n2 := 128) 0 ⟨R, h⟩ x)) _ _ _ ?_ ?_ ?_)
  · show win0_13.index t (0 : Fin 3) * 1 + 1 * 0 = _; omega
  · show win0_13.index t (1 : Fin 3) * 2048 + 1 * R = _; rw [e1]; omega
  · show win0_13.index t (2 : Fin 3) * 128 + 1 * x.val = _; rw [e2]; omega
theorem index_14 : ∀ t : Fin cfg0.N, win0_14.index t (0 : Fin 3) = (grid0.coords t 0).val ∧ win0_14.index t (1 : Fin 3) = (grid0.coords t 2).val - 1 ∧ win0_14.index t (2 : Fin 3) = 48 + (grid0.coords t 1).val :=
  (by decide +kernel : ∀ t : Fin grid0.N, _)
theorem block_14 (c : Dev nD) (t : Fin cfg0.N) (R : ℕ) (h : R < 2048) (x : Fin 128) :
    at3 (A := 1) (B := 2048) (C := 128) (iblk m c 14 t) 0 R x.val = at3 (arr1 m c) (grid0.coords t 0).val (((grid0.coords t 2).val - 1) * 2048 + R) ((48 + (grid0.coords t 1).val) * 128 + x.val) := by
  obtain ⟨e0, e1, e2⟩ := index_14 t
  refine (at3_ix3 (A := 1) (B := 2048) (C := 128) (iblk m c 14 t) 0 ⟨R, h⟩ x).symm.trans (at3_of (arr1 m c) (((cfg0.win 14).blk t).view.emb (ix3 (n0 := 1) (n1 := 2048) (n2 := 128) 0 ⟨R, h⟩ x)) _ _ _ ?_ ?_ ?_)
  · show win0_14.index t (0 : Fin 3) * 1 + 1 * 0 = _; omega
  · show win0_14.index t (1 : Fin 3) * 2048 + 1 * R = _; rw [e1]; omega
  · show win0_14.index t (2 : Fin 3) * 128 + 1 * x.val = _; rw [e2]; omega

theorem held_group1 (c : Dev nD) (t : Fin cfg0.N) : Blk (grid0.coords t 2).val (iblk m c 0 t) (iblk m c 1 t) (iblk m c 2 t) (iblk m c 3 t) (iblk m c 4 t)
    (head (arr0 m c) 0 (grid0.coords t 0).val (4 * 0 + (grid0.coords t 1).val)) (head (arr0 m c) 1536 (grid0.coords t 0).val (4 * 0 + (grid0.coords t 1).val))
    (head (arr1 m c) 5120 (grid0.coords t 0).val (4 * 0 + (grid0.coords t 1).val)) where
  hq R h x := (block_0 m c t R h x).trans (by unfold head; congr 1; omega)
  hk R h x := (block_1 m c t R h x).trans (by unfold head; congr 1; omega)
  hkp _ R h x := (block_2 m c t R h x).trans (by unfold head; congr 1; omega)
  hv R h x := (block_3 m c t R h x).trans (by unfold head; congr 1; omega)
  hvp _ R h x := (block_4 m c t R h x).trans (by unfold head; congr 1; omega)

theorem held_group2 (c : Dev nD) (t : Fin cfg0.N) : Blk (grid0.coords t 2).val (iblk m c 5 t) (iblk m c 6 t) (iblk m c 7 t) (iblk m c 8 t) (iblk m c 9 t)
    (head (arr0 m c) 0 (grid0.coords t 0).val (4 * 1 + (grid0.coords t 1).val)) (head (arr0 m c) 1536 (grid0.coords t 0).val (4 * 1 + (grid0.coords t 1).val))
    (head (arr1 m c) 5120 (grid0.coords t 0).val (4 * 1 + (grid0.coords t 1).val)) where
  hq R h x := (block_5 m c t R h x).trans (by unfold head; congr 1; omega)
  hk R h x := (block_6 m c t R h x).trans (by unfold head; congr 1; omega)
  hkp _ R h x := (block_7 m c t R h x).trans (by unfold head; congr 1; omega)
  hv R h x := (block_8 m c t R h x).trans (by unfold head; congr 1; omega)
  hvp _ R h x := (block_9 m c t R h x).trans (by unfold head; congr 1; omega)

theorem held_group3 (c : Dev nD) (t : Fin cfg0.N) : Blk (grid0.coords t 2).val (iblk m c 10 t) (iblk m c 11 t) (iblk m c 12 t) (iblk m c 13 t) (iblk m c 14 t)
    (head (arr0 m c) 0 (grid0.coords t 0).val (4 * 2 + (grid0.coords t 1).val)) (head (arr0 m c) 1536 (grid0.coords t 0).val (4 * 2 + (grid0.coords t 1).val))
    (head (arr1 m c) 5120 (grid0.coords t 0).val (4 * 2 + (grid0.coords t 1).val)) where
  hq R h x := (block_10 m c t R h x).trans (by unfold head; congr 1; omega)
  hk R h x := (block_11 m c t R h x).trans (by unfold head; congr 1; omega)
  hkp _ R h x := (block_12 m c t R h x).trans (by unfold head; congr 1; omega)
  hv R h x := (block_13 m c t R h x).trans (by unfold head; congr 1; omega)
  hvp _ R h x := (block_14 m c t R h x).trans (by unfold head; congr 1; omega)

/-! ## The array -/

/-- The result array. -/
def resultArr (x : Shape.Idx ⟨3, ![4, 8192, 3072]⟩ → EReal) (y : Shape.Idx ⟨3, ![4, 8192, 8704]⟩ → EReal) : Shape.Idx ⟨3, ![4, 8192, 512]⟩ → EReal := fun j =>
  result x y (j 0).val (j 1).val ((j 2).val / 128) ⟨(j 2).val % 128, Nat.mod_lt _ (by decide)⟩

theorem resultArr_of (x : Shape.Idx ⟨3, ![4, 8192, 3072]⟩ → EReal) (y : Shape.Idx ⟨3, ![4, 8192, 8704]⟩ → EReal) (j : Shape.Idx ⟨3, ![4, 8192, 512]⟩) (b t h : ℕ) (d : Fin 128)
    (h0 : (j 0).val = b) (h1 : (j 1).val = t) (h2 : (j 2).val = h * 128 + d.val) : resultArr x y j = result x y b t h d := by
  subst h0 h1
  have hd := d.isLt
  unfold resultArr
  have e1 : (j 2).val / 128 = h := by omega
  have e2 : (⟨(j 2).val % 128, Nat.mod_lt _ (by decide)⟩ : Fin 128) = d := Fin.ext (by show (j 2).val % 128 = _; omega)
  rw [e1, e2]

theorem index_15 : ∀ t : Fin cfg0.N, win0_15.index t (0 : Fin 3) = (grid0.coords t 0).val ∧ win0_15.index t (1 : Fin 3) = (grid0.coords t 2).val ∧ win0_15.index t (2 : Fin 3) = (grid0.coords t 1).val :=
  (by decide +kernel : ∀ t : Fin grid0.N, _)

theorem after_out (c : Dev nD) (t : Fin cfg0.N) (y : Shape.Idx ⟨3, ![1, 2048, 128]⟩) :
    (dats (F := Ideal) m 0 c).after 15 t y = resultArr (arr0 m c) (arr1 m c) (((cfg0.win 15).blk t).view.emb y) := by
  obtain ⟨e0, e1, e2⟩ := index_15 t
  obtain ⟨z, R, d, rfl⟩ : ∃ (z : Fin 1) (R : Fin 2048) (d : Fin 128), y = ix3 z R d := ⟨y 0, y 1, y 2, eq_ix3 y⟩
  have hz : z = 0 := Subsingleton.elim _ _
  subst hz
  rw [after_15]
  refine (outBlock_at _ (held_group1 m c t) (held_group2 m c t) (held_group3 m c t) R d).trans
    (resultArr_of (arr0 m c) (arr1 m c) _ (grid0.coords t 0).val ((grid0.coords t 2).val * 2048 + R.val) (grid0.coords t 1).val d ?_ ?_ ?_).symm
  · show win0_15.index t (0 : Fin 3) * 1 + 1 * 0 = _; omega
  · show win0_15.index t (1 : Fin 3) * 2048 + 1 * R.val = _; rw [e1]; omega
  · show win0_15.index t (2 : Fin 3) * 128 + 1 * d.val = _; rw [e2]; omega

theorem final (c : Dev nD) : (dats (F := Ideal) m 0 c).arrAt 15 cfg0.N = resultArr (arr0 m c) (arr1 m c) :=
  (dats (F := Ideal) m 0 c).arrAt_eq_of_covers 15 (resultArr (arr0 m c) (arr1 m c)) (by decide +kernel) fun t _ y => after_out m c t y

/-- The run with the result at its function of the arguments. -/
theorem run_value (ρ : Dev nD → PrngReg) : θ_run defs (onTc (τ := τ) (main (F := Ideal))) ⟨m, fun _ => 0, ρ⟩ fun r => ∀ c : Dev nD,
      r.2.mem ((c.tc : Thread nD τ).loc main_v0) = resultArr (arr0 m c) (arr1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  by
  have h1 := run_main (F := Ideal) m ρ
  have h2 := frame (F := Ideal) m ρ
  refine (θ_run defs _ _).mono (fun r h c => ?_) (θ_run_and h1 h2)
  exact ⟨((h.1 c).1 15).trans (final m c), h.2.1 c⟩

end Cert.Proof.Attn

end
-- ==== Proof.Attn.RefHeads.lean ====
/- The reference read at an index: its queries, keys and values by head and position; reductions of a rank-six array along
   its last axis; and the masks of the scores, as tables. -/
module

public import proofs.«01_k».proof.Proof.Gen.ReferenceIdeal.Run
public import proofs.«01_k».proof.Proof.Attn.Tile
public import Idealize.ShloMosaic.Lib.Tactic.CleanTypes

@[expose] public section

set_option maxRecDepth 16384

noncomputable section

namespace Cert.Proof.AttnRef

open Cert.ReferenceIdeal Cert.ReferenceIdeal.Gen Cert.ReferenceIdeal.Value
open Idealize.ShloMosaic Idealize.SL.Sem
open Cert.Proof.Attn

variable (V0 : Valuation τ sig (Elt Ideal))

/-- The two arguments. -/
abbrev qk : Shape.Idx ⟨3, ![4, 8192, 3072]⟩ → EReal := V0 (Proc.devRef .tc main_arg0)
abbrev hh : Shape.Idx ⟨3, ![4, 8192, 8704]⟩ → EReal := V0 (Proc.devRef .tc main_arg1)

/-! ## Heads -/

theorem qk_at (b : Fin 4) (h : Fin 24) (t : Fin 8192) (d : Fin 128) :
    res_main_v1 V0 (ix4 b h t d) = at3 (qk V0) b.val t.val (h.val * 128 + d.val) := by
  unfold res_main_v1
  clean_types
  pointwise
  exact at3_of (qk V0) _ _ _ _ rfl rfl rfl
theorem q_at (b : Fin 4) (h : Fin 12) (t : Fin 8192) (d : Fin 128) :
    res_main_v2 V0 (ix4 b h t d) = head (qk V0) 0 b.val h.val t.val d := by
  unfold res_main_v2
  clean_types
  pointwise [qk_at]
  unfold head
  congr 1; omega
theorem k_at (b : Fin 4) (h : Fin 12) (t : Fin 8192) (d : Fin 128) :
    res_main_v3 V0 (ix4 b h t d) = head (qk V0) 1536 b.val h.val t.val d := by
  unfold res_main_v3
  clean_types
  pointwise [qk_at]
  unfold head
  congr 1; omega
theorem v_at (b : Fin 4) (h : Fin 12) (t : Fin 8192) (d : Fin 128) :
    res_main_v6 V0 (ix4 b h t d) = head (hh V0) 5120 b.val h.val t.val d := by
  unfold res_main_v6
  clean_types
  pointwise
  exact at3_of (hh V0) _ _ _ _ rfl rfl (by show 5120 + (h.val * 128 + d.val) = _; omega)

/-! ## Reductions along the last of six axes -/

section
variable {n0 n1 n2 n3 n4 n5 : ℕ} (h : (⟨6, ![n0, n1, n2, n3, n4, n5]⟩ : Shape).ReducesTo [5] ⟨5, ![n0, n1, n2, n3, n4]⟩)
  (a : Fin n0) (b : Fin n1) (c : Fin n2) (d : Fin n3) (e : Fin n4)

theorem fiber6 (i : (⟨6, ![n0, n1, n2, n3, n4, n5]⟩ : Shape).Idx) : h.drop i = ix5 a b c d e ↔ ∃ k : Fin n5, ix6 a b c d e k = i := by
  constructor
  · intro eq
    refine ⟨i 5, ?_⟩
    funext x; apply Fin.ext
    match x with
    | ⟨0, _⟩ => exact (congrArg Fin.val (congrFun eq (0 : Fin 5))).symm
    | ⟨1, _⟩ => exact (congrArg Fin.val (congrFun eq (1 : Fin 5))).symm
    | ⟨2, _⟩ => exact (congrArg Fin.val (congrFun eq (2 : Fin 5))).symm
    | ⟨3, _⟩ => exact (congrArg Fin.val (congrFun eq (3 : Fin 5))).symm
    | ⟨4, _⟩ => exact (congrArg Fin.val (congrFun eq (4 : Fin 5))).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem sum6 (v : (⟨6, ![n0, n1, n2, n3, n4, n5]⟩ : Shape).Idx → EReal) (init : EReal) :
    Ideal.hostReduceAdd h v init (ix5 a b c d e) = init + ∑ k : Fin n5, v (ix6 a b c d e k) :=
  congrArg (init + ·) (Finset.sum_filter_eq_sum_of_fiber _ (fun k : Fin n5 => ix6 a b c d e k) (fun _ _ eq => congrFun eq 5)
    (fiber6 h a b c d e) v)
theorem fold6 (v : (⟨6, ![n0, n1, n2, n3, n4, n5]⟩ : Shape).Idx → EReal) (init : EReal) :
    (Finset.univ.filter (fun i => h.drop i = ix5 a b c d e)).fold max init v = (Finset.univ : Finset (Fin n5)).fold max init (fun k => v (ix6 a b c d e k)) :=
  Finset.fold_filter_eq_fold_of_fiber max _ (fun k : Fin n5 => ix6 a b c d e k) (fun _ _ eq => congrFun eq 5) (fiber6 h a b c d e) init v
end

/-- The greatest of 256 numbers, by halves. -/
theorem fold_halves (f : Fin 256 → EReal) : (Finset.univ : Finset (Fin 256)).fold max ⊥ f
    = max (Finset.univ.fold max ⊥ fun i : Fin 128 => f ⟨128 + i.val, by omega⟩) (Finset.univ.fold max ⊥ fun i : Fin 128 => f ⟨i.val, by omega⟩) := by
  refine eq_of_forall_ge_iff fun c => ?_
  simp only [Finset.fold_max_le, max_le_iff, bot_le, true_and, Finset.mem_univ, forall_true_left]
  constructor
  · exact fun h => ⟨fun i => h _, fun i => h _⟩
  · rintro ⟨h1, h2⟩ i
    by_cases hi : i.val < 128
    · exact h2 ⟨i.val, hi⟩
    · have h3 := h1 ⟨i.val - 128, by omega⟩
      have e : (⟨128 + (i.val - 128), by omega⟩ : Fin 256) = i := Fin.ext (by show 128 + (i.val - 128) = i.val; omega)
      rwa [e] at h3

/-! ## The masks -/

theorem lo_a : ∀ p i : Fin 128, IntOp.cmpi .sge (IntOp.subi (BitVec.ofNat 32 p.val) (IntOp.subi (BitVec.ofNat 32 i.val) 128#32)) 0#32
    = BitVec.ofBool (decide True) := by decide +kernel
theorem lo_b : ∀ p i : Fin 128, IntOp.cmpi .sle (IntOp.subi (BitVec.ofNat 32 p.val) (IntOp.subi (BitVec.ofNat 32 i.val) 128#32)) 128#32
    = BitVec.ofBool (decide (p.val ≤ i.val)) := by decide +kernel
theorem lo_c : ∀ (n : Fin 64) (i : Fin 128), IntOp.cmpi .sge (IntOp.addi (IntOp.muli (BitVec.ofNat 32 n.val) 128#32) (IntOp.subi (BitVec.ofNat 32 i.val) 128#32)) 0#32
    = BitVec.ofBool (decide (1 ≤ n.val)) := by decide +kernel
theorem hi_a : ∀ p i : Fin 128, IntOp.cmpi .sge (IntOp.subi (BitVec.ofNat 32 p.val) (IntOp.subi (BitVec.ofNat 32 (128 + i.val)) 128#32)) 0#32
    = BitVec.ofBool (decide (i.val ≤ p.val)) := by decide +kernel
theorem hi_b : ∀ p i : Fin 128, IntOp.cmpi .sle (IntOp.subi (BitVec.ofNat 32 p.val) (IntOp.subi (BitVec.ofNat 32 (128 + i.val)) 128#32)) 128#32
    = BitVec.ofBool (decide True) := by decide +kernel
theorem hi_c : ∀ (n : Fin 64) (i : Fin 128), IntOp.cmpi .sge (IntOp.addi (IntOp.muli (BitVec.ofNat 32 n.val) 128#32) (IntOp.subi (BitVec.ofNat 32 (128 + i.val)) 128#32)) 0#32
    = BitVec.ofBool (decide True) := by decide +kernel

theorem mask_lo (n : ℕ) (hn : n < 64) (p i : Fin 128) :
    IntOp.andi (IntOp.andi (IntOp.cmpi .sge (IntOp.subi (BitVec.ofNat 32 p.val) (IntOp.subi (BitVec.ofNat 32 i.val) 128#32)) 0#32)
        (IntOp.cmpi .sle (IntOp.subi (BitVec.ofNat 32 p.val) (IntOp.subi (BitVec.ofNat 32 i.val) 128#32)) 128#32))
      (IntOp.cmpi .sge (IntOp.addi (IntOp.muli (BitVec.ofNat 32 n) 128#32) (IntOp.subi (BitVec.ofNat 32 i.val) 128#32)) 0#32)
      = BitVec.ofBool (decide ((True ∧ p.val ≤ i.val) ∧ 1 ≤ n)) := by
  rw [lo_a, lo_b, lo_c ⟨n, hn⟩, and_ofBool, and_ofBool]
theorem mask_hi (n : ℕ) (hn : n < 64) (p i : Fin 128) :
    IntOp.andi (IntOp.andi (IntOp.cmpi .sge (IntOp.subi (BitVec.ofNat 32 p.val) (IntOp.subi (BitVec.ofNat 32 (128 + i.val)) 128#32)) 0#32)
        (IntOp.cmpi .sle (IntOp.subi (BitVec.ofNat 32 p.val) (IntOp.subi (BitVec.ofNat 32 (128 + i.val)) 128#32)) 128#32))
      (IntOp.cmpi .sge (IntOp.addi (IntOp.muli (BitVec.ofNat 32 n) 128#32) (IntOp.subi (BitVec.ofNat 32 (128 + i.val)) 128#32)) 0#32)
      = BitVec.ofBool (decide ((i.val ≤ p.val ∧ True) ∧ True)) := by
  rw [hi_a, hi_b, hi_c ⟨n, hn⟩, and_ofBool, and_ofBool]

end Cert.Proof.AttnRef

end
-- ==== Proof.Attn.RefGroup1.lean ====
/- The reference's group of dilation 1: the scores, their greatest, the sum of the weights, as the row's. -/
module

public import proofs.«01_k».proof.Proof.Attn.RefHeads

@[expose] public section

set_option maxRecDepth 16384

noncomputable section

namespace Cert.Proof.AttnRef

open Cert.ReferenceIdeal Cert.ReferenceIdeal.Gen Cert.ReferenceIdeal.Value
open Idealize.ShloMosaic Idealize.SL.Sem
open Cert.Proof.Attn

variable (V0 : Valuation τ sig (Elt Ideal))

theorem key1 (i : Fin 256) : (res_main_v33 V0) (ix2 0 i) = IntOp.subi (BitVec.ofNat 32 i.val) 128#32 := by
  unfold res_main_v33
  clean_types
  pointwise
theorem rel1 (p : Fin 128) (i : Fin 256) : (res_main_v36 V0) (ix2 p i) = IntOp.subi (BitVec.ofNat 32 p.val) (IntOp.subi (BitVec.ofNat 32 i.val) 128#32) := by
  unfold res_main_v36
  clean_types
  pointwise [key1]

variable (b j : Fin 4) (n : Fin 64) (p : Fin 128) (T : ℕ) (hT : T = 0 + 1 * (128 * n.val + p.val))

theorem stream_k1 (d : Fin 128) : res_main_v15 V0 (ix6 b j 0 n p d) = head (qk V0) 1536 b.val (4 * 0 + j.val) (0 + 1 * (128 * n.val + p.val)) d := by
  unfold res_main_v15
  clean_types
  pointwise [k_at]
  congr 1 <;> omega
theorem stream_v1 (d : Fin 128) : res_main_v21 V0 (ix6 b j 0 n p d) = head (hh V0) 5120 b.val (4 * 0 + j.val) (0 + 1 * (128 * n.val + p.val)) d := by
  unfold res_main_v21
  clean_types
  pointwise [v_at]
  congr 1 <;> omega

include hT in
/-- Where row `p` of block `n` of the stream `r` stands. -/
theorem rplace1 : T / 1 % 128 = p.val ∧ T / 1 / 128 = n.val ∧ T % 1 = 0 := by
  have hp := p.isLt
  omega

include hT in
theorem score_lo1 (i : Fin 128) : res_main_v56 V0 (ix6 b j 0 n p ⟨i.val, by omega⟩)
    = prevScore 1 (head (qk V0) 0 b.val (4 * 0 + j.val)) (head (qk V0) 1536 b.val (4 * 0 + j.val)) T i := by
  have hpl := rplace1 n p T hT
  have hn := n.isLt
  unfold res_main_v56
  clean_types
  pointwise [q_at, stream_k1, key1, rel1]
  rw [mask_lo n.val (by omega) p i, select_ofBool]
  unfold prevScore score prevPos
  rw [hpl.1, hpl.2.1, hpl.2.2]
  by_cases hc : p.val ≤ i.val ∧ 1 ≤ n.val
  · rw [if_pos ⟨⟨trivial, hc.1⟩, hc.2⟩, if_pos hc]
    refine congrArg (· * scale) (Finset.sum_congr rfl fun x _ => ?_)
    rw [dif_pos (⟨hc.2, by omega⟩ : 1 ≤ n.val ∧ n.val - 1 < 63)]
    congr 2 <;> omega
  · rw [if_neg (fun h => hc ⟨h.1.2, h.2⟩), if_neg hc]
    exact ofBits_bot
include hT in
theorem score_hi1 (i : Fin 128) : res_main_v56 V0 (ix6 b j 0 n p ⟨128 + i.val, by omega⟩)
    = curScore 1 (head (qk V0) 0 b.val (4 * 0 + j.val)) (head (qk V0) 1536 b.val (4 * 0 + j.val)) T i := by
  have hpl := rplace1 n p T hT
  have hn := n.isLt
  unfold res_main_v56
  clean_types
  pointwise [q_at, stream_k1, key1, rel1]
  rw [mask_hi n.val (by omega) p i, select_ofBool]
  unfold curScore score curPos
  rw [hpl.1, hpl.2.1, hpl.2.2]
  by_cases hc : i.val ≤ p.val
  · rw [if_pos ⟨⟨hc, trivial⟩, trivial⟩, if_pos hc]
    refine congrArg (· * scale) (Finset.sum_congr rfl fun x _ => ?_)
    congr 2 <;> omega
  · rw [if_neg (fun h => hc h.1.1), if_neg hc]
    exact ofBits_bot
include hT in
theorem max1 : res_main_v58 V0 (ix6 b j 0 n p 0)
    = rowMax (curScore 1 (head (qk V0) 0 b.val (4 * 0 + j.val)) (head (qk V0) 1536 b.val (4 * 0 + j.val)) T)
        (prevScore 1 (head (qk V0) 0 b.val (4 * 0 + j.val)) (head (qk V0) 1536 b.val (4 * 0 + j.val)) T) := by
  unfold res_main_v58
  clean_types
  pointwise
  rw [ofBits_bot, fold6, fold_halves]
  simp only [score_lo1 V0 b j n p T hT, score_hi1 V0 b j n p T hT, Nat.mul_zero, Nat.zero_add]
  rfl
theorem exp1 (i : Fin 256) : res_main_v61 V0 (ix6 b j 0 n p i) = Ideal.exp (@HSub.hSub EReal EReal EReal _ (res_main_v56 V0 (ix6 b j 0 n p i)) (res_main_v58 V0 (ix6 b j 0 n p 0))) := by
  unfold res_main_v61
  clean_types
  pointwise
include hT in
theorem den1 : res_main_v63 V0 (ix6 b j 0 n p 0)
    = rowDen (curScore 1 (head (qk V0) 0 b.val (4 * 0 + j.val)) (head (qk V0) 1536 b.val (4 * 0 + j.val)) T)
        (prevScore 1 (head (qk V0) 0 b.val (4 * 0 + j.val)) (head (qk V0) 1536 b.val (4 * 0 + j.val)) T) := by
  unfold res_main_v63
  clean_types
  pointwise
  rw [sum6, zero_add, Fin.sum_univ_two_halves 128 128 rfl]
  simp only [exp1, max1 V0 b j n p T hT, score_lo1 V0 b j n p T hT, score_hi1 V0 b j n p T hT, Nat.mul_zero, Nat.zero_add]
  exact add_comm (G := EReal) _ _

end Cert.Proof.AttnRef

end
-- ==== Proof.Attn.RefOut1.lean ====
/- Group 1: the way back from the streams to the positions, of the logarithms and of the outputs. -/
module

public import proofs.«01_k».proof.Proof.Attn.RefGroup1

@[expose] public section

set_option maxRecDepth 16384

noncomputable section

namespace Cert.Proof.AttnRef

open Cert.ReferenceIdeal Cert.ReferenceIdeal.Gen Cert.ReferenceIdeal.Value
open Idealize.ShloMosaic Idealize.SL.Sem
open Cert.Proof.Attn

/-! ## The logarithms -/

theorem la1 (v : (⟨S4x4x8192x1, .f32⟩ : BufTy).Contents (Elt Ideal)) (b j : Fin 4) (t : Fin 8192) :
    (shapeCast S4x4x8192 v shapeCasts_S4x4x8192x1_S4x4x8192) (ix3 b j t) = v (ix4 b j t 0) := by
  pointwise
theorem lb1 (v : (⟨S4x4x1x8192, .f32⟩ : BufTy).Contents (Elt Ideal)) (b j : Fin 4) (t : Fin 8192) :
    (transpose S4x4x8192x1 [0, 1, 3, 2] v transposes_S4x4x1x8192_S4x4x8192x1_0_1_3_2) (ix4 b j t 0) = v (ix4 b j 0 t) := by
  pointwise
theorem lc1 (v : (⟨S4x4x1x64x128, .f32⟩ : BufTy).Contents (Elt Ideal)) (b j : Fin 4) (t : Fin 8192) :
    (shapeCast S4x4x1x8192 v shapeCasts_S4x4x1x64x128_S4x4x1x8192) (ix4 b j 0 t) = v (ix5 b j 0 ⟨t.val / 128, by omega⟩ ⟨t.val % 128, by omega⟩) := by
  pointwise
theorem ld1 (v : (⟨S4x4x1x64x128x1, .f32⟩ : BufTy).Contents (Elt Ideal)) (b j : Fin 4) (n : Fin 64) (p : Fin 128) :
    (shapeCast S4x4x1x64x128 v shapeCasts_S4x4x1x64x128x1_S4x4x1x64x128) (ix5 b j 0 n p) = v (ix6 b j 0 n p 0) := by
  pointwise
theorem unlse1 (v : (⟨S4x4x1x64x128x1, .f32⟩ : BufTy).Contents (Elt Ideal)) (b j : Fin 4) (t : Fin 8192) :
    (shapeCast S4x4x8192 (transpose S4x4x8192x1 [0, 1, 3, 2] (shapeCast S4x4x1x8192 (shapeCast S4x4x1x64x128 v shapeCasts_S4x4x1x64x128x1_S4x4x1x64x128) shapeCasts_S4x4x1x64x128_S4x4x1x8192) transposes_S4x4x1x8192_S4x4x8192x1_0_1_3_2) shapeCasts_S4x4x8192x1_S4x4x8192) (ix3 b j t)
      = v (ix6 b j 0 ⟨t.val / 128, by omega⟩ ⟨t.val % 128, by omega⟩ 0) :=
  (la1 _ b j t).trans ((lb1 _ b j t).trans ((lc1 _ b j t).trans (ld1 v b j ⟨t.val / 128, by omega⟩ ⟨t.val % 128, by omega⟩)))

/-! ## The outputs -/

theorem oa1 (v : (⟨S4x4x8192x1x128, .f32⟩ : BufTy).Contents (Elt Ideal)) (b j : Fin 4) (t : Fin 8192) (d : Fin 128) :
    (shapeCast S4x4x8192x128 v shapeCasts_S4x4x8192x1x128_S4x4x8192x128) (ix4 b j t d) = v (ix5 b j t 0 d) := by
  pointwise
theorem ob1 (v : (⟨S4x4x1x8192x128, .f32⟩ : BufTy).Contents (Elt Ideal)) (b j : Fin 4) (t : Fin 8192) (d : Fin 128) :
    (transpose S4x4x8192x1x128 [0, 1, 3, 2, 4] v transposes_S4x4x1x8192x128_S4x4x8192x1x128_0_1_3_2_4) (ix5 b j t 0 d) = v (ix5 b j 0 t d) := by
  pointwise
theorem oc1 (v : (⟨S4x4x1x64x128x128, .f32⟩ : BufTy).Contents (Elt Ideal)) (b j : Fin 4) (t : Fin 8192) (d : Fin 128) :
    (shapeCast S4x4x1x8192x128 v shapeCasts_S4x4x1x64x128x128_S4x4x1x8192x128) (ix5 b j 0 t d) = v (ix6 b j 0 ⟨t.val / 128, by omega⟩ ⟨t.val % 128, by omega⟩ d) := by
  pointwise
theorem unout1 (v : (⟨S4x4x1x64x128x128, .f32⟩ : BufTy).Contents (Elt Ideal)) (b j : Fin 4) (t : Fin 8192) (d : Fin 128) :
    (shapeCast S4x4x8192x128 (transpose S4x4x8192x1x128 [0, 1, 3, 2, 4] (shapeCast S4x4x1x8192x128 v shapeCasts_S4x4x1x64x128x128_S4x4x1x8192x128) transposes_S4x4x1x8192x128_S4x4x8192x1x128_0_1_3_2_4) shapeCasts_S4x4x8192x1x128_S4x4x8192x128) (ix4 b j t d)
      = v (ix6 b j 0 ⟨t.val / 128, by omega⟩ ⟨t.val % 128, by omega⟩ d) :=
  (oa1 _ b j t d).trans ((ob1 _ b j t d).trans (oc1 v b j t d))

/-! ## One row -/

theorem div1 (x : FVec Ideal S4x4x1x64x128x128 .f32) (y : FVec Ideal S4x4x1x64x128x1 .f32) (b j : Fin 4) (n : Fin 64) (p d : Fin 128) :
    (Host.divf x (broadcastInDim S4x4x1x64x128x128 ![0, 1, 2, 3, 4, 5] bcast_S4x4x1x64x128x1_S4x4x1x64x128x128_0_1_2_3_4_5 y) : FVec Ideal S4x4x1x64x128x128 .f32) (ix6 b j 0 n p d)
      = Ideal.div (x (ix6 b j 0 n p d)) (y (ix6 b j 0 n p 0)) := by
  clean_types
  pointwise
theorem dot1 (w : FVec Ideal S4x4x1x64x128x256 .f32) (z : FVec Ideal S4x4x1x64x256x128 .f32) (b j : Fin 4) (n : Fin 64) (p d : Fin 128) :
    (Host.dotGeneral dot_S4x4x1x64x128x256_S4x4x1x64x256x128_S4x4x1x64x128x128_5_4_4_5_0123_0123 none w z : FVec Ideal S4x4x1x64x128x128 .f32) (ix6 b j 0 n p d)
      = ∑ k : Fin 256, @HMul.hMul EReal EReal EReal _ (w (ix6 b j 0 n p k)) (z (ix6 b j 0 n k d)) := by
  clean_types
  pointwise
theorem join_hi1 (y x : FVec Ideal S4x4x1x64x128x128 .f32) (b j : Fin 4) (n : Fin 64) (p d : Fin 128) :
    (concatenate S4x4x1x64x256x128 4 [⟨S4x4x1x64x128x128, y⟩, ⟨S4x4x1x64x128x128, x⟩] concatenates_S4x4x1x64x128x128_S4x4x1x64x128x128_S4x4x1x64x256x128_d4) (ix6 b j 0 n ⟨128 + p.val, by omega⟩ d) = x (ix6 b j 0 n p d) := by
  clean_types
  pointwise
theorem join_lo1 (y x : FVec Ideal S4x4x1x64x128x128 .f32) (b j : Fin 4) (n : Fin 64) (p d : Fin 128) :
    (concatenate S4x4x1x64x256x128 4 [⟨S4x4x1x64x128x128, y⟩, ⟨S4x4x1x64x128x128, x⟩] concatenates_S4x4x1x64x128x128_S4x4x1x64x128x128_S4x4x1x64x256x128_d4) (ix6 b j 0 n ⟨p.val, by omega⟩ d) = y (ix6 b j 0 n p d) := by
  clean_types
  pointwise
theorem addlog1 (x y : FVec Ideal S4x4x1x64x128x1 .f32) (b j : Fin 4) (n : Fin 64) (p : Fin 128) :
    (addf x (Host.log y) : FVec Ideal S4x4x1x64x128x1 .f32) (ix6 b j 0 n p 0) = @HAdd.hAdd EReal EReal EReal _ (x (ix6 b j 0 n p 0)) (Ideal.log (y (ix6 b j 0 n p 0))) := by
  clean_types
  pointwise
/-- The block before: zeros for the first. -/
theorem before1 (x : FVec Ideal S4x4x1x64x128x128 .f32) (b j : Fin 4) (n : Fin 64) (p d : Fin 128) :
    (pad S4x4x1x64x128x128 ![0, 0, 0, 1, 0, 0] ![0, 0, 0, 0, 0, 0] ![0, 0, 0, 0, 0, 0] (extractStridedSlice S4x4x1x63x128x128 ![0, 0, 0, 0, 0, 0] x slices_S4x4x1x64x128x128_S4x4x1x63x128x128_0_0_0_0_0_0) (sitofp (F := Ideal) .f32 (constantI S_ 32 0#32)) pads_S4x4x1x63x128x128_S4x4x1x64x128x128_000_000_000_100_000_000 h_S_) (ix6 b j 0 n p d)
      = if h : 1 ≤ n.val ∧ n.val - 1 < 63 then x (ix6 b j 0 ⟨n.val - 1, by omega⟩ p d) else FloatOps.sitofp (F := Ideal) .f32 0#32 := by
  clean_types
  pointwise

variable (V0 : Valuation τ sig (Elt Ideal)) (b j : Fin 4) (n : Fin 64) (p : Fin 128) (T : ℕ) (hT : T = 0 + 1 * (128 * n.val + p.val))

/-- The group's outputs, by stream. -/
def tile1 : FVec Ideal S4x4x1x64x128x128 .f32 :=
  (Host.divf (Host.dotGeneral (φ₁ := .f32) (φ₂ := .f32) dot_S4x4x1x64x128x256_S4x4x1x64x256x128_S4x4x1x64x128x128_5_4_4_5_0123_0123 none (res_main_v61 V0) (concatenate S4x4x1x64x256x128 4 [⟨S4x4x1x64x128x128, (pad S4x4x1x64x128x128 ![0, 0, 0, 1, 0, 0] ![0, 0, 0, 0, 0, 0] ![0, 0, 0, 0, 0, 0] (extractStridedSlice S4x4x1x63x128x128 ![0, 0, 0, 0, 0, 0] (res_main_v21 V0) slices_S4x4x1x64x128x128_S4x4x1x63x128x128_0_0_0_0_0_0) (sitofp .f32 (constantI S_ 32 0#32)) pads_S4x4x1x63x128x128_S4x4x1x64x128x128_000_000_000_100_000_000 h_S_)⟩, ⟨S4x4x1x64x128x128, (res_main_v21 V0)⟩] concatenates_S4x4x1x64x128x128_S4x4x1x64x128x128_S4x4x1x64x256x128_d4)) (broadcastInDim S4x4x1x64x128x128 ![0, 1, 2, 3, 4, 5] bcast_S4x4x1x64x128x1_S4x4x1x64x128x128_0_1_2_3_4_5 (res_main_v63 V0)))

include hT in
theorem tile1_at (d : Fin 128) : tile1 V0 (ix6 b j 0 n p d)
    = attnOut 1 (head (qk V0) 0 b.val (4 * 0 + j.val)) (head (qk V0) 1536 b.val (4 * 0 + j.val)) (head (hh V0) 5120 b.val (4 * 0 + j.val)) T d := by
  have hpl := rplace1 n p T hT
  have hn := n.isLt
  unfold tile1 attnOut
  rw [rowOut_congr _ _ _ _ (fun i : Fin 128 => if h : 1 ≤ n.val ∧ n.val - 1 < 63 then head (hh V0) 5120 b.val (4 * 0 + j.val) (0 + 1 * (128 * (n.val - 1) + i.val)) d else FloatOps.sitofp (F := Ideal) .f32 0#32) ?side]
  case side =>
    intro i
    by_cases hc : 1 ≤ n.val
    · right
      have hc' : 1 ≤ n.val ∧ n.val - 1 < 63 := ⟨hc, by omega⟩
      rw [dif_pos hc']
      unfold prevPos
      rw [hpl.2.1, hpl.2.2]
    · left
      unfold prevScore
      rw [hpl.2.1, if_neg (fun h => hc h.2)]
  refine (div1 _ _ b j n p d).trans (congrArg₂ Ideal.div ((dot1 _ _ b j n p d).trans ?_) (den1 V0 b j n p T hT))
  rw [Fin.sum_univ_two_halves 128 128 rfl]
  refine (add_comm (G := EReal) _ _).trans (congrArg₂ HAdd.hAdd (Finset.sum_congr rfl fun i _ => congrArg₂ HMul.hMul ?_ ?_)
    (Finset.sum_congr rfl fun i _ => congrArg₂ HMul.hMul ?_ ?_))
  · refine (exp1 V0 b j n p _).trans ?_
    rw [max1 V0 b j n p T hT, score_hi1 V0 b j n p T hT]
  · refine (join_hi1 _ _ b j n i d).trans ((stream_v1 V0 b j n i d).trans ?_)
    unfold curPos
    rw [hpl.2.1, hpl.2.2]
  · refine (exp1 V0 b j n p _).trans ?_
    rw [max1 V0 b j n p T hT, score_lo1 V0 b j n p T hT]
  · refine (join_lo1 _ _ b j n i d).trans ((before1 _ b j n i d).trans ?_)
    beta_reduce
    by_cases hc : 1 ≤ n.val ∧ n.val - 1 < 63
    · rw [dif_pos hc, dif_pos hc]
      exact stream_v1 V0 b j ⟨n.val - 1, by omega⟩ i d
    · rw [dif_neg hc, dif_neg hc]

include hT in
theorem lse1_at : (addf (res_main_v58 V0) (Host.log (res_main_v63 V0)) : FVec Ideal S4x4x1x64x128x1 .f32) (ix6 b j 0 n p 0)
    = groupLse (qk V0) 0 1 b.val j.val T := by
  refine (addlog1 _ _ b j n p).trans ?_
  rw [max1 V0 b j n p T hT, den1 V0 b j n p T hT]
  rfl

end Cert.Proof.AttnRef

end
-- ==== Proof.Attn.RefGroup2.lean ====
/- The reference's group of dilation 4: the scores, their greatest, the sum of the weights, as the row's. -/
module

public import proofs.«01_k».proof.Proof.Attn.RefHeads

@[expose] public section

set_option maxRecDepth 16384

noncomputable section

namespace Cert.Proof.AttnRef

open Cert.ReferenceIdeal Cert.ReferenceIdeal.Gen Cert.ReferenceIdeal.Value
open Idealize.ShloMosaic Idealize.SL.Sem
open Cert.Proof.Attn

variable (V0 : Valuation τ sig (Elt Ideal))

theorem key2 (i : Fin 256) : (res_main_v102 V0) (ix2 0 i) = IntOp.subi (BitVec.ofNat 32 i.val) 128#32 := by
  unfold res_main_v102
  clean_types
  pointwise
theorem rel2 (p : Fin 128) (i : Fin 256) : (res_main_v105 V0) (ix2 p i) = IntOp.subi (BitVec.ofNat 32 p.val) (IntOp.subi (BitVec.ofNat 32 i.val) 128#32) := by
  unfold res_main_v105
  clean_types
  pointwise [key2]

variable (b j : Fin 4) (r : Fin 4) (n : Fin 16) (p : Fin 128) (T : ℕ) (hT : T = r.val + 4 * (128 * n.val + p.val))

theorem stream_k2 (d : Fin 128) : res_main_v84 V0 (ix6 b j r n p d) = head (qk V0) 1536 b.val (4 * 1 + j.val) (r.val + 4 * (128 * n.val + p.val)) d := by
  unfold res_main_v84
  clean_types
  pointwise [k_at]
  congr 1 <;> omega
theorem stream_v2 (d : Fin 128) : res_main_v90 V0 (ix6 b j r n p d) = head (hh V0) 5120 b.val (4 * 1 + j.val) (r.val + 4 * (128 * n.val + p.val)) d := by
  unfold res_main_v90
  clean_types
  pointwise [v_at]
  congr 1 <;> omega

include hT in
/-- Where row `p` of block `n` of the stream `r` stands. -/
theorem rplace2 : T / 4 % 128 = p.val ∧ T / 4 / 128 = n.val ∧ T % 4 = r.val := by
  have hp := p.isLt
  have hr := r.isLt
  omega

include hT in
theorem score_lo2 (i : Fin 128) : res_main_v125 V0 (ix6 b j r n p ⟨i.val, by omega⟩)
    = prevScore 4 (head (qk V0) 0 b.val (4 * 1 + j.val)) (head (qk V0) 1536 b.val (4 * 1 + j.val)) T i := by
  have hpl := rplace2 r n p T hT
  have hn := n.isLt
  unfold res_main_v125
  clean_types
  pointwise [q_at, stream_k2, key2, rel2]
  rw [mask_lo n.val (by omega) p i, select_ofBool]
  unfold prevScore score prevPos
  rw [hpl.1, hpl.2.1, hpl.2.2]
  by_cases hc : p.val ≤ i.val ∧ 1 ≤ n.val
  · rw [if_pos ⟨⟨trivial, hc.1⟩, hc.2⟩, if_pos hc]
    refine congrArg (· * scale) (Finset.sum_congr rfl fun x _ => ?_)
    rw [dif_pos (⟨hc.2, by omega⟩ : 1 ≤ n.val ∧ n.val - 1 < 15)]
    congr 2 <;> omega
  · rw [if_neg (fun h => hc ⟨h.1.2, h.2⟩), if_neg hc]
    exact ofBits_bot
include hT in
theorem score_hi2 (i : Fin 128) : res_main_v125 V0 (ix6 b j r n p ⟨128 + i.val, by omega⟩)
    = curScore 4 (head (qk V0) 0 b.val (4 * 1 + j.val)) (head (qk V0) 1536 b.val (4 * 1 + j.val)) T i := by
  have hpl := rplace2 r n p T hT
  have hn := n.isLt
  unfold res_main_v125
  clean_types
  pointwise [q_at, stream_k2, key2, rel2]
  rw [mask_hi n.val (by omega) p i, select_ofBool]
  unfold curScore score curPos
  rw [hpl.1, hpl.2.1, hpl.2.2]
  by_cases hc : i.val ≤ p.val
  · rw [if_pos ⟨⟨hc, trivial⟩, trivial⟩, if_pos hc]
    refine congrArg (· * scale) (Finset.sum_congr rfl fun x _ => ?_)
    congr 2 <;> omega
  · rw [if_neg (fun h => hc h.1.1), if_neg hc]
    exact ofBits_bot
include hT in
theorem max2 : res_main_v127 V0 (ix6 b j r n p 0)
    = rowMax (curScore 4 (head (qk V0) 0 b.val (4 * 1 + j.val)) (head (qk V0) 1536 b.val (4 * 1 + j.val)) T)
        (prevScore 4 (head (qk V0) 0 b.val (4 * 1 + j.val)) (head (qk V0) 1536 b.val (4 * 1 + j.val)) T) := by
  unfold res_main_v127
  clean_types
  pointwise
  rw [ofBits_bot, fold6, fold_halves]
  simp only [score_lo2 V0 b j r n p T hT, score_hi2 V0 b j r n p T hT, Nat.mul_zero, Nat.zero_add]
  rfl
theorem exp2 (i : Fin 256) : res_main_v130 V0 (ix6 b j r n p i) = Ideal.exp (@HSub.hSub EReal EReal EReal _ (res_main_v125 V0 (ix6 b j r n p i)) (res_main_v127 V0 (ix6 b j r n p 0))) := by
  unfold res_main_v130
  clean_types
  pointwise
include hT in
theorem den2 : res_main_v132 V0 (ix6 b j r n p 0)
    = rowDen (curScore 4 (head (qk V0) 0 b.val (4 * 1 + j.val)) (head (qk V0) 1536 b.val (4 * 1 + j.val)) T)
        (prevScore 4 (head (qk V0) 0 b.val (4 * 1 + j.val)) (head (qk V0) 1536 b.val (4 * 1 + j.val)) T) := by
  unfold res_main_v132
  clean_types
  pointwise
  rw [sum6, zero_add, Fin.sum_univ_two_halves 128 128 rfl]
  simp only [exp2, max2 V0 b j r n p T hT, score_lo2 V0 b j r n p T hT, score_hi2 V0 b j r n p T hT, Nat.mul_zero, Nat.zero_add]
  exact add_comm (G := EReal) _ _

end Cert.Proof.AttnRef

end
-- ==== Proof.Attn.RefOut2.lean ====
/- Group 2: the way back from the streams to the positions, of the logarithms and of the outputs. -/
module

public import proofs.«01_k».proof.Proof.Attn.RefGroup2

@[expose] public section

set_option maxRecDepth 16384

noncomputable section

namespace Cert.Proof.AttnRef

open Cert.ReferenceIdeal Cert.ReferenceIdeal.Gen Cert.ReferenceIdeal.Value
open Idealize.ShloMosaic Idealize.SL.Sem
open Cert.Proof.Attn

/-! ## The logarithms -/

theorem la2 (v : (⟨S4x4x2048x4, .f32⟩ : BufTy).Contents (Elt Ideal)) (b j : Fin 4) (t : Fin 8192) :
    (shapeCast S4x4x8192 v shapeCasts_S4x4x2048x4_S4x4x8192) (ix3 b j t) = v (ix4 b j ⟨t.val / 4, by omega⟩ ⟨t.val % 4, by omega⟩) := by
  pointwise
theorem lb2 (v : (⟨S4x4x4x2048, .f32⟩ : BufTy).Contents (Elt Ideal)) (b j : Fin 4) (r : Fin 4) (t : Fin 2048) :
    (transpose S4x4x2048x4 [0, 1, 3, 2] v transposes_S4x4x4x2048_S4x4x2048x4_0_1_3_2) (ix4 b j t r) = v (ix4 b j r t) := by
  pointwise
theorem lc2 (v : (⟨S4x4x4x16x128, .f32⟩ : BufTy).Contents (Elt Ideal)) (b j : Fin 4) (r : Fin 4) (t : Fin 2048) :
    (shapeCast S4x4x4x2048 v shapeCasts_S4x4x4x16x128_S4x4x4x2048) (ix4 b j r t) = v (ix5 b j r ⟨t.val / 128, by omega⟩ ⟨t.val % 128, by omega⟩) := by
  pointwise
theorem ld2 (v : (⟨S4x4x4x16x128x1, .f32⟩ : BufTy).Contents (Elt Ideal)) (b j : Fin 4) (r : Fin 4) (n : Fin 16) (p : Fin 128) :
    (shapeCast S4x4x4x16x128 v shapeCasts_S4x4x4x16x128x1_S4x4x4x16x128) (ix5 b j r n p) = v (ix6 b j r n p 0) := by
  pointwise
theorem unlse2 (v : (⟨S4x4x4x16x128x1, .f32⟩ : BufTy).Contents (Elt Ideal)) (b j : Fin 4) (t : Fin 8192) :
    (shapeCast S4x4x8192 (transpose S4x4x2048x4 [0, 1, 3, 2] (shapeCast S4x4x4x2048 (shapeCast S4x4x4x16x128 v shapeCasts_S4x4x4x16x128x1_S4x4x4x16x128) shapeCasts_S4x4x4x16x128_S4x4x4x2048) transposes_S4x4x4x2048_S4x4x2048x4_0_1_3_2) shapeCasts_S4x4x2048x4_S4x4x8192) (ix3 b j t)
      = v (ix6 b j ⟨t.val % 4, by omega⟩ ⟨t.val / 4 / 128, by omega⟩ ⟨t.val / 4 % 128, by omega⟩ 0) :=
  (la2 _ b j t).trans ((lb2 _ b j ⟨t.val % 4, by omega⟩ ⟨t.val / 4, by omega⟩).trans ((lc2 _ b j ⟨t.val % 4, by omega⟩ ⟨t.val / 4, by omega⟩).trans (ld2 v b j ⟨t.val % 4, by omega⟩ ⟨t.val / 4 / 128, by omega⟩ ⟨t.val / 4 % 128, by omega⟩)))

/-! ## The outputs -/

theorem oa2 (v : (⟨S4x4x2048x4x128, .f32⟩ : BufTy).Contents (Elt Ideal)) (b j : Fin 4) (t : Fin 8192) (d : Fin 128) :
    (shapeCast S4x4x8192x128 v shapeCasts_S4x4x2048x4x128_S4x4x8192x128) (ix4 b j t d) = v (ix5 b j ⟨t.val / 4, by omega⟩ ⟨t.val % 4, by omega⟩ d) := by
  pointwise
theorem ob2 (v : (⟨S4x4x4x2048x128, .f32⟩ : BufTy).Contents (Elt Ideal)) (b j : Fin 4) (r : Fin 4) (t : Fin 2048) (d : Fin 128) :
    (transpose S4x4x2048x4x128 [0, 1, 3, 2, 4] v transposes_S4x4x4x2048x128_S4x4x2048x4x128_0_1_3_2_4) (ix5 b j t r d) = v (ix5 b j r t d) := by
  pointwise
theorem oc2 (v : (⟨S4x4x4x16x128x128, .f32⟩ : BufTy).Contents (Elt Ideal)) (b j : Fin 4) (r : Fin 4) (t : Fin 2048) (d : Fin 128) :
    (shapeCast S4x4x4x2048x128 v shapeCasts_S4x4x4x16x128x128_S4x4x4x2048x128) (ix5 b j r t d) = v (ix6 b j r ⟨t.val / 128, by omega⟩ ⟨t.val % 128, by omega⟩ d) := by
  pointwise
theorem unout2 (v : (⟨S4x4x4x16x128x128, .f32⟩ : BufTy).Contents (Elt Ideal)) (b j : Fin 4) (t : Fin 8192) (d : Fin 128) :
    (shapeCast S4x4x8192x128 (transpose S4x4x2048x4x128 [0, 1, 3, 2, 4] (shapeCast S4x4x4x2048x128 v shapeCasts_S4x4x4x16x128x128_S4x4x4x2048x128) transposes_S4x4x4x2048x128_S4x4x2048x4x128_0_1_3_2_4) shapeCasts_S4x4x2048x4x128_S4x4x8192x128) (ix4 b j t d)
      = v (ix6 b j ⟨t.val % 4, by omega⟩ ⟨t.val / 4 / 128, by omega⟩ ⟨t.val / 4 % 128, by omega⟩ d) :=
  (oa2 _ b j t d).trans ((ob2 _ b j ⟨t.val % 4, by omega⟩ ⟨t.val / 4, by omega⟩ d).trans (oc2 v b j ⟨t.val % 4, by omega⟩ ⟨t.val / 4, by omega⟩ d))

/-! ## One row -/

theorem div2 (x : FVec Ideal S4x4x4x16x128x128 .f32) (y : FVec Ideal S4x4x4x16x128x1 .f32) (b j : Fin 4) (r : Fin 4) (n : Fin 16) (p d : Fin 128) :
    (Host.divf x (broadcastInDim S4x4x4x16x128x128 ![0, 1, 2, 3, 4, 5] bcast_S4x4x4x16x128x1_S4x4x4x16x128x128_0_1_2_3_4_5 y) : FVec Ideal S4x4x4x16x128x128 .f32) (ix6 b j r n p d)
      = Ideal.div (x (ix6 b j r n p d)) (y (ix6 b j r n p 0)) := by
  clean_types
  pointwise
theorem dot2 (w : FVec Ideal S4x4x4x16x128x256 .f32) (z : FVec Ideal S4x4x4x16x256x128 .f32) (b j : Fin 4) (r : Fin 4) (n : Fin 16) (p d : Fin 128) :
    (Host.dotGeneral dot_S4x4x4x16x128x256_S4x4x4x16x256x128_S4x4x4x16x128x128_5_4_4_5_0123_0123 none w z : FVec Ideal S4x4x4x16x128x128 .f32) (ix6 b j r n p d)
      = ∑ k : Fin 256, @HMul.hMul EReal EReal EReal _ (w (ix6 b j r n p k)) (z (ix6 b j r n k d)) := by
  clean_types
  pointwise
theorem join_hi2 (y x : FVec Ideal S4x4x4x16x128x128 .f32) (b j : Fin 4) (r : Fin 4) (n : Fin 16) (p d : Fin 128) :
    (concatenate S4x4x4x16x256x128 4 [⟨S4x4x4x16x128x128, y⟩, ⟨S4x4x4x16x128x128, x⟩] concatenates_S4x4x4x16x128x128_S4x4x4x16x128x128_S4x4x4x16x256x128_d4) (ix6 b j r n ⟨128 + p.val, by omega⟩ d) = x (ix6 b j r n p d) := by
  clean_types
  pointwise
theorem join_lo2 (y x : FVec Ideal S4x4x4x16x128x128 .f32) (b j : Fin 4) (r : Fin 4) (n : Fin 16) (p d : Fin 128) :
    (concatenate S4x4x4x16x256x128 4 [⟨S4x4x4x16x128x128, y⟩, ⟨S4x4x4x16x128x128, x⟩] concatenates_S4x4x4x16x128x128_S4x4x4x16x128x128_S4x4x4x16x256x128_d4) (ix6 b j r n ⟨p.val, by omega⟩ d) = y (ix6 b j r n p d) := by
  clean_types
  pointwise
theorem addlog2 (x y : FVec Ideal S4x4x4x16x128x1 .f32) (b j : Fin 4) (r : Fin 4) (n : Fin 16) (p : Fin 128) :
    (addf x (Host.log y) : FVec Ideal S4x4x4x16x128x1 .f32) (ix6 b j r n p 0) = @HAdd.hAdd EReal EReal EReal _ (x (ix6 b j r n p 0)) (Ideal.log (y (ix6 b j r n p 0))) := by
  clean_types
  pointwise
/-- The block before: zeros for the first. -/
theorem before2 (x : FVec Ideal S4x4x4x16x128x128 .f32) (b j : Fin 4) (r : Fin 4) (n : Fin 16) (p d : Fin 128) :
    (pad S4x4x4x16x128x128 ![0, 0, 0, 1, 0, 0] ![0, 0, 0, 0, 0, 0] ![0, 0, 0, 0, 0, 0] (extractStridedSlice S4x4x4x15x128x128 ![0, 0, 0, 0, 0, 0] x slices_S4x4x4x16x128x128_S4x4x4x15x128x128_0_0_0_0_0_0) (sitofp (F := Ideal) .f32 (constantI S_ 32 0#32)) pads_S4x4x4x15x128x128_S4x4x4x16x128x128_000_000_000_100_000_000 h_S_) (ix6 b j r n p d)
      = if h : 1 ≤ n.val ∧ n.val - 1 < 15 then x (ix6 b j r ⟨n.val - 1, by omega⟩ p d) else FloatOps.sitofp (F := Ideal) .f32 0#32 := by
  clean_types
  pointwise

variable (V0 : Valuation τ sig (Elt Ideal)) (b j : Fin 4) (r : Fin 4) (n : Fin 16) (p : Fin 128) (T : ℕ) (hT : T = r.val + 4 * (128 * n.val + p.val))

/-- The group's outputs, by stream. -/
def tile2 : FVec Ideal S4x4x4x16x128x128 .f32 :=
  (Host.divf (Host.dotGeneral (φ₁ := .f32) (φ₂ := .f32) dot_S4x4x4x16x128x256_S4x4x4x16x256x128_S4x4x4x16x128x128_5_4_4_5_0123_0123 none (res_main_v130 V0) (concatenate S4x4x4x16x256x128 4 [⟨S4x4x4x16x128x128, (pad S4x4x4x16x128x128 ![0, 0, 0, 1, 0, 0] ![0, 0, 0, 0, 0, 0] ![0, 0, 0, 0, 0, 0] (extractStridedSlice S4x4x4x15x128x128 ![0, 0, 0, 0, 0, 0] (res_main_v90 V0) slices_S4x4x4x16x128x128_S4x4x4x15x128x128_0_0_0_0_0_0) (sitofp .f32 (constantI S_ 32 0#32)) pads_S4x4x4x15x128x128_S4x4x4x16x128x128_000_000_000_100_000_000 h_S_)⟩, ⟨S4x4x4x16x128x128, (res_main_v90 V0)⟩] concatenates_S4x4x4x16x128x128_S4x4x4x16x128x128_S4x4x4x16x256x128_d4)) (broadcastInDim S4x4x4x16x128x128 ![0, 1, 2, 3, 4, 5] bcast_S4x4x4x16x128x1_S4x4x4x16x128x128_0_1_2_3_4_5 (res_main_v132 V0)))

include hT in
theorem tile2_at (d : Fin 128) : tile2 V0 (ix6 b j r n p d)
    = attnOut 4 (head (qk V0) 0 b.val (4 * 1 + j.val)) (head (qk V0) 1536 b.val (4 * 1 + j.val)) (head (hh V0) 5120 b.val (4 * 1 + j.val)) T d := by
  have hpl := rplace2 r n p T hT
  have hn := n.isLt
  unfold tile2 attnOut
  rw [rowOut_congr _ _ _ _ (fun i : Fin 128 => if h : 1 ≤ n.val ∧ n.val - 1 < 15 then head (hh V0) 5120 b.val (4 * 1 + j.val) (r.val + 4 * (128 * (n.val - 1) + i.val)) d else FloatOps.sitofp (F := Ideal) .f32 0#32) ?side]
  case side =>
    intro i
    by_cases hc : 1 ≤ n.val
    · right
      have hc' : 1 ≤ n.val ∧ n.val - 1 < 15 := ⟨hc, by omega⟩
      rw [dif_pos hc']
      unfold prevPos
      rw [hpl.2.1, hpl.2.2]
    · left
      unfold prevScore
      rw [hpl.2.1, if_neg (fun h => hc h.2)]
  refine (div2 _ _ b j r n p d).trans (congrArg₂ Ideal.div ((dot2 _ _ b j r n p d).trans ?_) (den2 V0 b j r n p T hT))
  rw [Fin.sum_univ_two_halves 128 128 rfl]
  refine (add_comm (G := EReal) _ _).trans (congrArg₂ HAdd.hAdd (Finset.sum_congr rfl fun i _ => congrArg₂ HMul.hMul ?_ ?_)
    (Finset.sum_congr rfl fun i _ => congrArg₂ HMul.hMul ?_ ?_))
  · refine (exp2 V0 b j r n p _).trans ?_
    rw [max2 V0 b j r n p T hT, score_hi2 V0 b j r n p T hT]
  · refine (join_hi2 _ _ b j r n i d).trans ((stream_v2 V0 b j r n i d).trans ?_)
    unfold curPos
    rw [hpl.2.1, hpl.2.2]
  · refine (exp2 V0 b j r n p _).trans ?_
    rw [max2 V0 b j r n p T hT, score_lo2 V0 b j r n p T hT]
  · refine (join_lo2 _ _ b j r n i d).trans ((before2 _ b j r n i d).trans ?_)
    beta_reduce
    by_cases hc : 1 ≤ n.val ∧ n.val - 1 < 15
    · rw [dif_pos hc, dif_pos hc]
      exact stream_v2 V0 b j r ⟨n.val - 1, by omega⟩ i d
    · rw [dif_neg hc, dif_neg hc]

include hT in
theorem lse2_at : (addf (res_main_v127 V0) (Host.log (res_main_v132 V0)) : FVec Ideal S4x4x4x16x128x1 .f32) (ix6 b j r n p 0)
    = groupLse (qk V0) 1 4 b.val j.val T := by
  refine (addlog2 _ _ b j r n p).trans ?_
  rw [max2 V0 b j r n p T hT, den2 V0 b j r n p T hT]
  rfl

end Cert.Proof.AttnRef

end
-- ==== Proof.Attn.RefGroup3.lean ====
/- The reference's group of dilation 16: the scores, their greatest, the sum of the weights, as the row's. -/
module

public import proofs.«01_k».proof.Proof.Attn.RefHeads

@[expose] public section

set_option maxRecDepth 16384

noncomputable section

namespace Cert.Proof.AttnRef

open Cert.ReferenceIdeal Cert.ReferenceIdeal.Gen Cert.ReferenceIdeal.Value
open Idealize.ShloMosaic Idealize.SL.Sem
open Cert.Proof.Attn

variable (V0 : Valuation τ sig (Elt Ideal))

theorem key3 (i : Fin 256) : (res_main_v171 V0) (ix2 0 i) = IntOp.subi (BitVec.ofNat 32 i.val) 128#32 := by
  unfold res_main_v171
  clean_types
  pointwise
theorem rel3 (p : Fin 128) (i : Fin 256) : (res_main_v174 V0) (ix2 p i) = IntOp.subi (BitVec.ofNat 32 p.val) (IntOp.subi (BitVec.ofNat 32 i.val) 128#32) := by
  unfold res_main_v174
  clean_types
  pointwise [key3]

variable (b j : Fin 4) (r : Fin 16) (n : Fin 4) (p : Fin 128) (T : ℕ) (hT : T = r.val + 16 * (128 * n.val + p.val))

theorem stream_k3 (d : Fin 128) : res_main_v153 V0 (ix6 b j r n p d) = head (qk V0) 1536 b.val (4 * 2 + j.val) (r.val + 16 * (128 * n.val + p.val)) d := by
  unfold res_main_v153
  clean_types
  pointwise [k_at]
  congr 1 <;> omega
theorem stream_v3 (d : Fin 128) : res_main_v159 V0 (ix6 b j r n p d) = head (hh V0) 5120 b.val (4 * 2 + j.val) (r.val + 16 * (128 * n.val + p.val)) d := by
  unfold res_main_v159
  clean_types
  pointwise [v_at]
  congr 1 <;> omega

include hT in
/-- Where row `p` of block `n` of the stream `r` stands. -/
theorem rplace3 : T / 16 % 128 = p.val ∧ T / 16 / 128 = n.val ∧ T % 16 = r.val := by
  have hp := p.isLt
  have hr := r.isLt
  omega

include hT in
theorem score_lo3 (i : Fin 128) : res_main_v194 V0 (ix6 b j r n p ⟨i.val, by omega⟩)
    = prevScore 16 (head (qk V0) 0 b.val (4 * 2 + j.val)) (head (qk V0) 1536 b.val (4 * 2 + j.val)) T i := by
  have hpl := rplace3 r n p T hT
  have hn := n.isLt
  unfold res_main_v194
  clean_types
  pointwise [q_at, stream_k3, key3, rel3]
  rw [mask_lo n.val (by omega) p i, select_ofBool]
  unfold prevScore score prevPos
  rw [hpl.1, hpl.2.1, hpl.2.2]
  by_cases hc : p.val ≤ i.val ∧ 1 ≤ n.val
  · rw [if_pos ⟨⟨trivial, hc.1⟩, hc.2⟩, if_pos hc]
    refine congrArg (· * scale) (Finset.sum_congr rfl fun x _ => ?_)
    rw [dif_pos (⟨hc.2, by omega⟩ : 1 ≤ n.val ∧ n.val - 1 < 3)]
    congr 2 <;> omega
  · rw [if_neg (fun h => hc ⟨h.1.2, h.2⟩), if_neg hc]
    exact ofBits_bot
include hT in
theorem score_hi3 (i : Fin 128) : res_main_v194 V0 (ix6 b j r n p ⟨128 + i.val, by omega⟩)
    = curScore 16 (head (qk V0) 0 b.val (4 * 2 + j.val)) (head (qk V0) 1536 b.val (4 * 2 + j.val)) T i := by
  have hpl := rplace3 r n p T hT
  have hn := n.isLt
  unfold res_main_v194
  clean_types
  pointwise [q_at, stream_k3, key3, rel3]
  rw [mask_hi n.val (by omega) p i, select_ofBool]
  unfold curScore score curPos
  rw [hpl.1, hpl.2.1, hpl.2.2]
  by_cases hc : i.val ≤ p.val
  · rw [if_pos ⟨⟨hc, trivial⟩, trivial⟩, if_pos hc]
    refine congrArg (· * scale) (Finset.sum_congr rfl fun x _ => ?_)
    congr 2 <;> omega
  · rw [if_neg (fun h => hc h.1.1), if_neg hc]
    exact ofBits_bot
include hT in
theorem max3 : res_main_v196 V0 (ix6 b j r n p 0)
    = rowMax (curScore 16 (head (qk V0) 0 b.val (4 * 2 + j.val)) (head (qk V0) 1536 b.val (4 * 2 + j.val)) T)
        (prevScore 16 (head (qk V0) 0 b.val (4 * 2 + j.val)) (head (qk V0) 1536 b.val (4 * 2 + j.val)) T) := by
  unfold res_main_v196
  clean_types
  pointwise
  rw [ofBits_bot, fold6, fold_halves]
  simp only [score_lo3 V0 b j r n p T hT, score_hi3 V0 b j r n p T hT, Nat.mul_zero, Nat.zero_add]
  rfl
theorem exp3 (i : Fin 256) : res_main_v199 V0 (ix6 b j r n p i) = Ideal.exp (@HSub.hSub EReal EReal EReal _ (res_main_v194 V0 (ix6 b j r n p i)) (res_main_v196 V0 (ix6 b j r n p 0))) := by
  unfold res_main_v199
  clean_types
  pointwise
include hT in
theorem den3 : res_main_v201 V0 (ix6 b j r n p 0)
    = rowDen (curScore 16 (head (qk V0) 0 b.val (4 * 2 + j.val)) (head (qk V0) 1536 b.val (4 * 2 + j.val)) T)
        (prevScore 16 (head (qk V0) 0 b.val (4 * 2 + j.val)) (head (qk V0) 1536 b.val (4 * 2 + j.val)) T) := by
  unfold res_main_v201
  clean_types
  pointwise
  rw [sum6, zero_add, Fin.sum_univ_two_halves 128 128 rfl]
  simp only [exp3, max3 V0 b j r n p T hT, score_lo3 V0 b j r n p T hT, score_hi3 V0 b j r n p T hT, Nat.mul_zero, Nat.zero_add]
  exact add_comm (G := EReal) _ _

end Cert.Proof.AttnRef

end
-- ==== Proof.Attn.RefOut3.lean ====
/- Group 3: the way back from the streams to the positions, of the logarithms and of the outputs. -/
module

public import proofs.«01_k».proof.Proof.Attn.RefGroup3

@[expose] public section

set_option maxRecDepth 16384

noncomputable section

namespace Cert.Proof.AttnRef

open Cert.ReferenceIdeal Cert.ReferenceIdeal.Gen Cert.ReferenceIdeal.Value
open Idealize.ShloMosaic Idealize.SL.Sem
open Cert.Proof.Attn

/-! ## The logarithms -/

theorem la3 (v : (⟨S4x4x512x16, .f32⟩ : BufTy).Contents (Elt Ideal)) (b j : Fin 4) (t : Fin 8192) :
    (shapeCast S4x4x8192 v shapeCasts_S4x4x512x16_S4x4x8192) (ix3 b j t) = v (ix4 b j ⟨t.val / 16, by omega⟩ ⟨t.val % 16, by omega⟩) := by
  pointwise
theorem lb3 (v : (⟨S4x4x16x512, .f32⟩ : BufTy).Contents (Elt Ideal)) (b j : Fin 4) (r : Fin 16) (t : Fin 512) :
    (transpose S4x4x512x16 [0, 1, 3, 2] v transposes_S4x4x16x512_S4x4x512x16_0_1_3_2) (ix4 b j t r) = v (ix4 b j r t) := by
  pointwise
theorem lc3 (v : (⟨S4x4x16x4x128, .f32⟩ : BufTy).Contents (Elt Ideal)) (b j : Fin 4) (r : Fin 16) (t : Fin 512) :
    (shapeCast S4x4x16x512 v shapeCasts_S4x4x16x4x128_S4x4x16x512) (ix4 b j r t) = v (ix5 b j r ⟨t.val / 128, by omega⟩ ⟨t.val % 128, by omega⟩) := by
  pointwise
theorem ld3 (v : (⟨S4x4x16x4x128x1, .f32⟩ : BufTy).Contents (Elt Ideal)) (b j : Fin 4) (r : Fin 16) (n : Fin 4) (p : Fin 128) :
    (shapeCast S4x4x16x4x128 v shapeCasts_S4x4x16x4x128x1_S4x4x16x4x128) (ix5 b j r n p) = v (ix6 b j r n p 0) := by
  pointwise
theorem unlse3 (v : (⟨S4x4x16x4x128x1, .f32⟩ : BufTy).Contents (Elt Ideal)) (b j : Fin 4) (t : Fin 8192) :
    (shapeCast S4x4x8192 (transpose S4x4x512x16 [0, 1, 3, 2] (shapeCast S4x4x16x512 (shapeCast S4x4x16x4x128 v shapeCasts_S4x4x16x4x128x1_S4x4x16x4x128) shapeCasts_S4x4x16x4x128_S4x4x16x512) transposes_S4x4x16x512_S4x4x512x16_0_1_3_2) shapeCasts_S4x4x512x16_S4x4x8192) (ix3 b j t)
      = v (ix6 b j ⟨t.val % 16, by omega⟩ ⟨t.val / 16 / 128, by omega⟩ ⟨t.val / 16 % 128, by omega⟩ 0) :=
  (la3 _ b j t).trans ((lb3 _ b j ⟨t.val % 16, by omega⟩ ⟨t.val / 16, by omega⟩).trans ((lc3 _ b j ⟨t.val % 16, by omega⟩ ⟨t.val / 16, by omega⟩).trans (ld3 v b j ⟨t.val % 16, by omega⟩ ⟨t.val / 16 / 128, by omega⟩ ⟨t.val / 16 % 128, by omega⟩)))

/-! ## The outputs -/

theorem oa3 (v : (⟨S4x4x512x16x128, .f32⟩ : BufTy).Contents (Elt Ideal)) (b j : Fin 4) (t : Fin 8192) (d : Fin 128) :
    (shapeCast S4x4x8192x128 v shapeCasts_S4x4x512x16x128_S4x4x8192x128) (ix4 b j t d) = v (ix5 b j ⟨t.val / 16, by omega⟩ ⟨t.val % 16, by omega⟩ d) := by
  pointwise
theorem ob3 (v : (⟨S4x4x16x512x128, .f32⟩ : BufTy).Contents (Elt Ideal)) (b j : Fin 4) (r : Fin 16) (t : Fin 512) (d : Fin 128) :
    (transpose S4x4x512x16x128 [0, 1, 3, 2, 4] v transposes_S4x4x16x512x128_S4x4x512x16x128_0_1_3_2_4) (ix5 b j t r d) = v (ix5 b j r t d) := by
  pointwise
theorem oc3 (v : (⟨S4x4x16x4x128x128, .f32⟩ : BufTy).Contents (Elt Ideal)) (b j : Fin 4) (r : Fin 16) (t : Fin 512) (d : Fin 128) :
    (shapeCast S4x4x16x512x128 v shapeCasts_S4x4x16x4x128x128_S4x4x16x512x128) (ix5 b j r t d) = v (ix6 b j r ⟨t.val / 128, by omega⟩ ⟨t.val % 128, by omega⟩ d) := by
  pointwise
theorem unout3 (v : (⟨S4x4x16x4x128x128, .f32⟩ : BufTy).Contents (Elt Ideal)) (b j : Fin 4) (t : Fin 8192) (d : Fin 128) :
    (shapeCast S4x4x8192x128 (transpose S4x4x512x16x128 [0, 1, 3, 2, 4] (shapeCast S4x4x16x512x128 v shapeCasts_S4x4x16x4x128x128_S4x4x16x512x128) transposes_S4x4x16x512x128_S4x4x512x16x128_0_1_3_2_4) shapeCasts_S4x4x512x16x128_S4x4x8192x128) (ix4 b j t d)
      = v (ix6 b j ⟨t.val % 16, by omega⟩ ⟨t.val / 16 / 128, by omega⟩ ⟨t.val / 16 % 128, by omega⟩ d) :=
  (oa3 _ b j t d).trans ((ob3 _ b j ⟨t.val % 16, by omega⟩ ⟨t.val / 16, by omega⟩ d).trans (oc3 v b j ⟨t.val % 16, by omega⟩ ⟨t.val / 16, by omega⟩ d))

/-! ## One row -/

theorem div3 (x : FVec Ideal S4x4x16x4x128x128 .f32) (y : FVec Ideal S4x4x16x4x128x1 .f32) (b j : Fin 4) (r : Fin 16) (n : Fin 4) (p d : Fin 128) :
    (Host.divf x (broadcastInDim S4x4x16x4x128x128 ![0, 1, 2, 3, 4, 5] bcast_S4x4x16x4x128x1_S4x4x16x4x128x128_0_1_2_3_4_5 y) : FVec Ideal S4x4x16x4x128x128 .f32) (ix6 b j r n p d)
      = Ideal.div (x (ix6 b j r n p d)) (y (ix6 b j r n p 0)) := by
  clean_types
  pointwise
theorem dot3 (w : FVec Ideal S4x4x16x4x128x256 .f32) (z : FVec Ideal S4x4x16x4x256x128 .f32) (b j : Fin 4) (r : Fin 16) (n : Fin 4) (p d : Fin 128) :
    (Host.dotGeneral dot_S4x4x16x4x128x256_S4x4x16x4x256x128_S4x4x16x4x128x128_5_4_4_5_0123_0123 none w z : FVec Ideal S4x4x16x4x128x128 .f32) (ix6 b j r n p d)
      = ∑ k : Fin 256, @HMul.hMul EReal EReal EReal _ (w (ix6 b j r n p k)) (z (ix6 b j r n k d)) := by
  clean_types
  pointwise
theorem join_hi3 (y x : FVec Ideal S4x4x16x4x128x128 .f32) (b j : Fin 4) (r : Fin 16) (n : Fin 4) (p d : Fin 128) :
    (concatenate S4x4x16x4x256x128 4 [⟨S4x4x16x4x128x128, y⟩, ⟨S4x4x16x4x128x128, x⟩] concatenates_S4x4x16x4x128x128_S4x4x16x4x128x128_S4x4x16x4x256x128_d4) (ix6 b j r n ⟨128 + p.val, by omega⟩ d) = x (ix6 b j r n p d) := by
  clean_types
  pointwise
theorem join_lo3 (y x : FVec Ideal S4x4x16x4x128x128 .f32) (b j : Fin 4) (r : Fin 16) (n : Fin 4) (p d : Fin 128) :
    (concatenate S4x4x16x4x256x128 4 [⟨S4x4x16x4x128x128, y⟩, ⟨S4x4x16x4x128x128, x⟩] concatenates_S4x4x16x4x128x128_S4x4x16x4x128x128_S4x4x16x4x256x128_d4) (ix6 b j r n ⟨p.val, by omega⟩ d) = y (ix6 b j r n p d) := by
  clean_types
  pointwise
theorem addlog3 (x y : FVec Ideal S4x4x16x4x128x1 .f32) (b j : Fin 4) (r : Fin 16) (n : Fin 4) (p : Fin 128) :
    (addf x (Host.log y) : FVec Ideal S4x4x16x4x128x1 .f32) (ix6 b j r n p 0) = @HAdd.hAdd EReal EReal EReal _ (x (ix6 b j r n p 0)) (Ideal.log (y (ix6 b j r n p 0))) := by
  clean_types
  pointwise
/-- The block before: zeros for the first. -/
theorem before3 (x : FVec Ideal S4x4x16x4x128x128 .f32) (b j : Fin 4) (r : Fin 16) (n : Fin 4) (p d : Fin 128) :
    (pad S4x4x16x4x128x128 ![0, 0, 0, 1, 0, 0] ![0, 0, 0, 0, 0, 0] ![0, 0, 0, 0, 0, 0] (extractStridedSlice S4x4x16x3x128x128 ![0, 0, 0, 0, 0, 0] x slices_S4x4x16x4x128x128_S4x4x16x3x128x128_0_0_0_0_0_0) (sitofp (F := Ideal) .f32 (constantI S_ 32 0#32)) pads_S4x4x16x3x128x128_S4x4x16x4x128x128_000_000_000_100_000_000 h_S_) (ix6 b j r n p d)
      = if h : 1 ≤ n.val ∧ n.val - 1 < 3 then x (ix6 b j r ⟨n.val - 1, by omega⟩ p d) else FloatOps.sitofp (F := Ideal) .f32 0#32 := by
  clean_types
  pointwise

variable (V0 : Valuation τ sig (Elt Ideal)) (b j : Fin 4) (r : Fin 16) (n : Fin 4) (p : Fin 128) (T : ℕ) (hT : T = r.val + 16 * (128 * n.val + p.val))

/-- The group's outputs, by stream. -/
def tile3 : FVec Ideal S4x4x16x4x128x128 .f32 :=
  (Host.divf (Host.dotGeneral (φ₁ := .f32) (φ₂ := .f32) dot_S4x4x16x4x128x256_S4x4x16x4x256x128_S4x4x16x4x128x128_5_4_4_5_0123_0123 none (res_main_v199 V0) (concatenate S4x4x16x4x256x128 4 [⟨S4x4x16x4x128x128, (pad S4x4x16x4x128x128 ![0, 0, 0, 1, 0, 0] ![0, 0, 0, 0, 0, 0] ![0, 0, 0, 0, 0, 0] (extractStridedSlice S4x4x16x3x128x128 ![0, 0, 0, 0, 0, 0] (res_main_v159 V0) slices_S4x4x16x4x128x128_S4x4x16x3x128x128_0_0_0_0_0_0) (sitofp .f32 (constantI S_ 32 0#32)) pads_S4x4x16x3x128x128_S4x4x16x4x128x128_000_000_000_100_000_000 h_S_)⟩, ⟨S4x4x16x4x128x128, (res_main_v159 V0)⟩] concatenates_S4x4x16x4x128x128_S4x4x16x4x128x128_S4x4x16x4x256x128_d4)) (broadcastInDim S4x4x16x4x128x128 ![0, 1, 2, 3, 4, 5] bcast_S4x4x16x4x128x1_S4x4x16x4x128x128_0_1_2_3_4_5 (res_main_v201 V0)))

include hT in
theorem tile3_at (d : Fin 128) : tile3 V0 (ix6 b j r n p d)
    = attnOut 16 (head (qk V0) 0 b.val (4 * 2 + j.val)) (head (qk V0) 1536 b.val (4 * 2 + j.val)) (head (hh V0) 5120 b.val (4 * 2 + j.val)) T d := by
  have hpl := rplace3 r n p T hT
  have hn := n.isLt
  unfold tile3 attnOut
  rw [rowOut_congr _ _ _ _ (fun i : Fin 128 => if h : 1 ≤ n.val ∧ n.val - 1 < 3 then head (hh V0) 5120 b.val (4 * 2 + j.val) (r.val + 16 * (128 * (n.val - 1) + i.val)) d else FloatOps.sitofp (F := Ideal) .f32 0#32) ?side]
  case side =>
    intro i
    by_cases hc : 1 ≤ n.val
    · right
      have hc' : 1 ≤ n.val ∧ n.val - 1 < 3 := ⟨hc, by omega⟩
      rw [dif_pos hc']
      unfold prevPos
      rw [hpl.2.1, hpl.2.2]
    · left
      unfold prevScore
      rw [hpl.2.1, if_neg (fun h => hc h.2)]
  refine (div3 _ _ b j r n p d).trans (congrArg₂ Ideal.div ((dot3 _ _ b j r n p d).trans ?_) (den3 V0 b j r n p T hT))
  rw [Fin.sum_univ_two_halves 128 128 rfl]
  refine (add_comm (G := EReal) _ _).trans (congrArg₂ HAdd.hAdd (Finset.sum_congr rfl fun i _ => congrArg₂ HMul.hMul ?_ ?_)
    (Finset.sum_congr rfl fun i _ => congrArg₂ HMul.hMul ?_ ?_))
  · refine (exp3 V0 b j r n p _).trans ?_
    rw [max3 V0 b j r n p T hT, score_hi3 V0 b j r n p T hT]
  · refine (join_hi3 _ _ b j r n i d).trans ((stream_v3 V0 b j r n i d).trans ?_)
    unfold curPos
    rw [hpl.2.1, hpl.2.2]
  · refine (exp3 V0 b j r n p _).trans ?_
    rw [max3 V0 b j r n p T hT, score_lo3 V0 b j r n p T hT]
  · refine (join_lo3 _ _ b j r n i d).trans ((before3 _ b j r n i d).trans ?_)
    beta_reduce
    by_cases hc : 1 ≤ n.val ∧ n.val - 1 < 3
    · rw [dif_pos hc, dif_pos hc]
      exact stream_v3 V0 b j r ⟨n.val - 1, by omega⟩ i d
    · rw [dif_neg hc, dif_neg hc]

include hT in
theorem lse3_at : (addf (res_main_v196 V0) (Host.log (res_main_v201 V0)) : FVec Ideal S4x4x16x4x128x1 .f32) (ix6 b j r n p 0)
    = groupLse (qk V0) 2 16 b.val j.val T := by
  refine (addlog3 _ _ b j r n p).trans ?_
  rw [max3 V0 b j r n p T hT, den3 V0 b j r n p T hT]
  rfl

end Cert.Proof.AttnRef

end
-- ==== Proof.Attn.RefValue.lean ====
/- The reference: the three groups stacked and merged, and its result, element by element. -/
module

public import proofs.«01_k».proof.Proof.Attn.RefOut1
public import proofs.«01_k».proof.Proof.Attn.RefOut2
public import proofs.«01_k».proof.Proof.Attn.RefOut3

@[expose] public section

set_option maxRecDepth 16384

noncomputable section

namespace Cert.Proof.AttnRef

open Cert.ReferenceIdeal Cert.ReferenceIdeal.Gen Cert.ReferenceIdeal.Value
open Idealize.ShloMosaic Idealize.SL.Sem
open Cert.Proof.Attn

theorem stack_l1 (v1 v2 v3 : (⟨S4x4x8192, .f32⟩ : BufTy).Contents (Elt Ideal)) (b j : Fin 4) (t : Fin 8192) :
    (concatenate S3x4x4x8192 0 [⟨S1x4x4x8192, ((broadcastInDim S1x4x4x8192 ![1, 2, 3] bcast_S4x4x8192_S1x4x4x8192_1_2_3 v1) : (⟨S1x4x4x8192, .f32⟩ : BufTy).Contents (Elt Ideal))⟩, ⟨S1x4x4x8192, ((broadcastInDim S1x4x4x8192 ![1, 2, 3] bcast_S4x4x8192_S1x4x4x8192_1_2_3 v2) : (⟨S1x4x4x8192, .f32⟩ : BufTy).Contents (Elt Ideal))⟩, ⟨S1x4x4x8192, ((broadcastInDim S1x4x4x8192 ![1, 2, 3] bcast_S4x4x8192_S1x4x4x8192_1_2_3 v3) : (⟨S1x4x4x8192, .f32⟩ : BufTy).Contents (Elt Ideal))⟩] concatenates_S1x4x4x8192_S1x4x4x8192_S1x4x4x8192_S3x4x4x8192_d0 : (⟨S3x4x4x8192, .f32⟩ : BufTy).Contents (Elt Ideal)) (ix4 0 b j t) = v1 (ix3 b j t) := by
  pointwise
theorem stack_o1 (v1 v2 v3 : (⟨S4x4x8192x128, .f32⟩ : BufTy).Contents (Elt Ideal)) (b j : Fin 4) (t : Fin 8192) (d : Fin 128) :
    (concatenate S3x4x4x8192x128 0 [⟨S1x4x4x8192x128, ((broadcastInDim S1x4x4x8192x128 ![1, 2, 3, 4] bcast_S4x4x8192x128_S1x4x4x8192x128_1_2_3_4 v1) : (⟨S1x4x4x8192x128, .f32⟩ : BufTy).Contents (Elt Ideal))⟩, ⟨S1x4x4x8192x128, ((broadcastInDim S1x4x4x8192x128 ![1, 2, 3, 4] bcast_S4x4x8192x128_S1x4x4x8192x128_1_2_3_4 v2) : (⟨S1x4x4x8192x128, .f32⟩ : BufTy).Contents (Elt Ideal))⟩, ⟨S1x4x4x8192x128, ((broadcastInDim S1x4x4x8192x128 ![1, 2, 3, 4] bcast_S4x4x8192x128_S1x4x4x8192x128_1_2_3_4 v3) : (⟨S1x4x4x8192x128, .f32⟩ : BufTy).Contents (Elt Ideal))⟩] concatenates_S1x4x4x8192x128_S1x4x4x8192x128_S1x4x4x8192x128_S3x4x4x8192x128_d0 : (⟨S3x4x4x8192x128, .f32⟩ : BufTy).Contents (Elt Ideal)) (ix5 0 b j t d) = v1 (ix4 b j t d) := by
  pointwise
theorem stack_l2 (v1 v2 v3 : (⟨S4x4x8192, .f32⟩ : BufTy).Contents (Elt Ideal)) (b j : Fin 4) (t : Fin 8192) :
    (concatenate S3x4x4x8192 0 [⟨S1x4x4x8192, ((broadcastInDim S1x4x4x8192 ![1, 2, 3] bcast_S4x4x8192_S1x4x4x8192_1_2_3 v1) : (⟨S1x4x4x8192, .f32⟩ : BufTy).Contents (Elt Ideal))⟩, ⟨S1x4x4x8192, ((broadcastInDim S1x4x4x8192 ![1, 2, 3] bcast_S4x4x8192_S1x4x4x8192_1_2_3 v2) : (⟨S1x4x4x8192, .f32⟩ : BufTy).Contents (Elt Ideal))⟩, ⟨S1x4x4x8192, ((broadcastInDim S1x4x4x8192 ![1, 2, 3] bcast_S4x4x8192_S1x4x4x8192_1_2_3 v3) : (⟨S1x4x4x8192, .f32⟩ : BufTy).Contents (Elt Ideal))⟩] concatenates_S1x4x4x8192_S1x4x4x8192_S1x4x4x8192_S3x4x4x8192_d0 : (⟨S3x4x4x8192, .f32⟩ : BufTy).Contents (Elt Ideal)) (ix4 1 b j t) = v2 (ix3 b j t) := by
  pointwise
theorem stack_o2 (v1 v2 v3 : (⟨S4x4x8192x128, .f32⟩ : BufTy).Contents (Elt Ideal)) (b j : Fin 4) (t : Fin 8192) (d : Fin 128) :
    (concatenate S3x4x4x8192x128 0 [⟨S1x4x4x8192x128, ((broadcastInDim S1x4x4x8192x128 ![1, 2, 3, 4] bcast_S4x4x8192x128_S1x4x4x8192x128_1_2_3_4 v1) : (⟨S1x4x4x8192x128, .f32⟩ : BufTy).Contents (Elt Ideal))⟩, ⟨S1x4x4x8192x128, ((broadcastInDim S1x4x4x8192x128 ![1, 2, 3, 4] bcast_S4x4x8192x128_S1x4x4x8192x128_1_2_3_4 v2) : (⟨S1x4x4x8192x128, .f32⟩ : BufTy).Contents (Elt Ideal))⟩, ⟨S1x4x4x8192x128, ((broadcastInDim S1x4x4x8192x128 ![1, 2, 3, 4] bcast_S4x4x8192x128_S1x4x4x8192x128_1_2_3_4 v3) : (⟨S1x4x4x8192x128, .f32⟩ : BufTy).Contents (Elt Ideal))⟩] concatenates_S1x4x4x8192x128_S1x4x4x8192x128_S1x4x4x8192x128_S3x4x4x8192x128_d0 : (⟨S3x4x4x8192x128, .f32⟩ : BufTy).Contents (Elt Ideal)) (ix5 1 b j t d) = v2 (ix4 b j t d) := by
  pointwise
theorem stack_l3 (v1 v2 v3 : (⟨S4x4x8192, .f32⟩ : BufTy).Contents (Elt Ideal)) (b j : Fin 4) (t : Fin 8192) :
    (concatenate S3x4x4x8192 0 [⟨S1x4x4x8192, ((broadcastInDim S1x4x4x8192 ![1, 2, 3] bcast_S4x4x8192_S1x4x4x8192_1_2_3 v1) : (⟨S1x4x4x8192, .f32⟩ : BufTy).Contents (Elt Ideal))⟩, ⟨S1x4x4x8192, ((broadcastInDim S1x4x4x8192 ![1, 2, 3] bcast_S4x4x8192_S1x4x4x8192_1_2_3 v2) : (⟨S1x4x4x8192, .f32⟩ : BufTy).Contents (Elt Ideal))⟩, ⟨S1x4x4x8192, ((broadcastInDim S1x4x4x8192 ![1, 2, 3] bcast_S4x4x8192_S1x4x4x8192_1_2_3 v3) : (⟨S1x4x4x8192, .f32⟩ : BufTy).Contents (Elt Ideal))⟩] concatenates_S1x4x4x8192_S1x4x4x8192_S1x4x4x8192_S3x4x4x8192_d0 : (⟨S3x4x4x8192, .f32⟩ : BufTy).Contents (Elt Ideal)) (ix4 2 b j t) = v3 (ix3 b j t) := by
  pointwise
theorem stack_o3 (v1 v2 v3 : (⟨S4x4x8192x128, .f32⟩ : BufTy).Contents (Elt Ideal)) (b j : Fin 4) (t : Fin 8192) (d : Fin 128) :
    (concatenate S3x4x4x8192x128 0 [⟨S1x4x4x8192x128, ((broadcastInDim S1x4x4x8192x128 ![1, 2, 3, 4] bcast_S4x4x8192x128_S1x4x4x8192x128_1_2_3_4 v1) : (⟨S1x4x4x8192x128, .f32⟩ : BufTy).Contents (Elt Ideal))⟩, ⟨S1x4x4x8192x128, ((broadcastInDim S1x4x4x8192x128 ![1, 2, 3, 4] bcast_S4x4x8192x128_S1x4x4x8192x128_1_2_3_4 v2) : (⟨S1x4x4x8192x128, .f32⟩ : BufTy).Contents (Elt Ideal))⟩, ⟨S1x4x4x8192x128, ((broadcastInDim S1x4x4x8192x128 ![1, 2, 3, 4] bcast_S4x4x8192x128_S1x4x4x8192x128_1_2_3_4 v3) : (⟨S1x4x4x8192x128, .f32⟩ : BufTy).Contents (Elt Ideal))⟩] concatenates_S1x4x4x8192x128_S1x4x4x8192x128_S1x4x4x8192x128_S3x4x4x8192x128_d0 : (⟨S3x4x4x8192x128, .f32⟩ : BufTy).Contents (Elt Ideal)) (ix5 2 b j t d) = v3 (ix4 b j t d) := by
  pointwise
/-- The stack of outputs times their weights. -/
theorem weigh (W : FVec Ideal S3x4x4x8192 .f32) (O : FVec Ideal S3x4x4x8192x128 .f32) (g : Fin 3) (b j : Fin 4) (t : Fin 8192) (d : Fin 128) :
    (mulf (broadcastInDim S3x4x4x8192x128 ![0, 1, 2, 3, 4] bcast_S3x4x4x8192x1_S3x4x4x8192x128_0_1_2_3_4 (broadcastInDim S3x4x4x8192x1 ![0, 1, 2, 3] bcast_S3x4x4x8192_S3x4x4x8192x1_0_1_2_3 (Host.divf W (broadcastInDim S3x4x4x8192 ![0, 1, 2, 3] bcast_S1x4x4x8192_S3x4x4x8192_0_1_2_3 (broadcastInDim S1x4x4x8192 ![1, 2, 3] bcast_S4x4x8192_S1x4x4x8192_1_2_3 (Host.reduceAdd W (constant S_ .f32 0x00000000#32) reducesTo_S3x4x4x8192_S4x4x8192_d0 h_S_)))))) O : FVec Ideal S3x4x4x8192x128 .f32) (ix5 g b j t d)
      = Ideal.div (W (ix4 g b j t)) (∑ x : Fin 3, W (ix4 x b j t)) * O (ix5 g b j t d) := by
  clean_types
  pointwise

variable (V0 : Valuation τ sig (Elt Ideal)) (b j : Fin 4) (t : Fin 8192)

theorem lses1 : res_main_v217 V0 (ix4 0 b j t) = groupLse (qk V0) 0 1 b.val j.val t.val := by
  unfold res_main_v217
  exact (stack_l1 _ _ _ b j t).trans ((unlse1 _ b j t).trans (lse1_at V0 b j ⟨t.val / 128, by omega⟩ ⟨t.val % 128, by omega⟩ t.val (by show t.val = 0 + 1 * (128 * (t.val / 128) + t.val % 128); omega)))
theorem prod1 (d : Fin 128) : res_main_v235 V0 (ix5 0 b j t d)
    = Ideal.div (res_main_v224 V0 (ix4 0 b j t)) (∑ x : Fin 3, res_main_v224 V0 (ix4 x b j t)) * groupOut (qk V0) (hh V0) 0 1 b.val j.val t.val d := by
  unfold res_main_v235
  refine (weigh _ _ 0 b j t d).trans (congrArg (HMul.hMul _) ?_)
  exact (stack_o1 _ _ _ b j t d).trans ((unout1 (tile1 V0) b j t d).trans (tile1_at V0 b j ⟨t.val / 128, by omega⟩ ⟨t.val % 128, by omega⟩ t.val (by show t.val = 0 + 1 * (128 * (t.val / 128) + t.val % 128); omega) d))
theorem lses2 : res_main_v217 V0 (ix4 1 b j t) = groupLse (qk V0) 1 4 b.val j.val t.val := by
  unfold res_main_v217
  exact (stack_l2 _ _ _ b j t).trans ((unlse2 _ b j t).trans (lse2_at V0 b j ⟨t.val % 4, by omega⟩ ⟨t.val / 4 / 128, by omega⟩ ⟨t.val / 4 % 128, by omega⟩ t.val (by show t.val = t.val % 4 + 4 * (128 * (t.val / 4 / 128) + t.val / 4 % 128); omega)))
theorem prod2 (d : Fin 128) : res_main_v235 V0 (ix5 1 b j t d)
    = Ideal.div (res_main_v224 V0 (ix4 1 b j t)) (∑ x : Fin 3, res_main_v224 V0 (ix4 x b j t)) * groupOut (qk V0) (hh V0) 1 4 b.val j.val t.val d := by
  unfold res_main_v235
  refine (weigh _ _ 1 b j t d).trans (congrArg (HMul.hMul _) ?_)
  exact (stack_o2 _ _ _ b j t d).trans ((unout2 (tile2 V0) b j t d).trans (tile2_at V0 b j ⟨t.val % 4, by omega⟩ ⟨t.val / 4 / 128, by omega⟩ ⟨t.val / 4 % 128, by omega⟩ t.val (by show t.val = t.val % 4 + 4 * (128 * (t.val / 4 / 128) + t.val / 4 % 128); omega) d))
theorem lses3 : res_main_v217 V0 (ix4 2 b j t) = groupLse (qk V0) 2 16 b.val j.val t.val := by
  unfold res_main_v217
  exact (stack_l3 _ _ _ b j t).trans ((unlse3 _ b j t).trans (lse3_at V0 b j ⟨t.val % 16, by omega⟩ ⟨t.val / 16 / 128, by omega⟩ ⟨t.val / 16 % 128, by omega⟩ t.val (by show t.val = t.val % 16 + 16 * (128 * (t.val / 16 / 128) + t.val / 16 % 128); omega)))
theorem prod3 (d : Fin 128) : res_main_v235 V0 (ix5 2 b j t d)
    = Ideal.div (res_main_v224 V0 (ix4 2 b j t)) (∑ x : Fin 3, res_main_v224 V0 (ix4 x b j t)) * groupOut (qk V0) (hh V0) 2 16 b.val j.val t.val d := by
  unfold res_main_v235
  refine (weigh _ _ 2 b j t d).trans (congrArg (HMul.hMul _) ?_)
  exact (stack_o3 _ _ _ b j t d).trans ((unout3 (tile3 V0) b j t d).trans (tile3_at V0 b j ⟨t.val % 16, by omega⟩ ⟨t.val / 16 / 128, by omega⟩ ⟨t.val / 16 % 128, by omega⟩ t.val (by show t.val = t.val % 16 + 16 * (128 * (t.val / 16 / 128) + t.val / 16 % 128); omega) d))

/-- The greatest of the three logarithms. -/
def top : EReal := max (max (groupLse (qk V0) 0 1 b.val j.val t.val) (groupLse (qk V0) 1 4 b.val j.val t.val)) (groupLse (qk V0) 2 16 b.val j.val t.val)

theorem fold_three (f : Fin 3 → EReal) : (Finset.univ : Finset (Fin 3)).fold max ⊥ f = max (max (f 0) (f 1)) (f 2) := by
  refine eq_of_forall_ge_iff fun c => ?_
  simp only [Finset.fold_max_le, max_le_iff, bot_le, true_and, Finset.mem_univ, forall_true_left]
  exact ⟨fun h => ⟨⟨h 0, h 1⟩, h 2⟩, fun h i => by
    match i with
    | ⟨0, _⟩ => exact h.1.1
    | ⟨1, _⟩ => exact h.1.2
    | ⟨2, _⟩ => exact h.2⟩

theorem weigh_exp (W : FVec Ideal S3x4x4x8192 .f32) (g : Fin 3) :
    (Host.exp (subf W (broadcastInDim S3x4x4x8192 ![0, 1, 2, 3] bcast_S1x4x4x8192_S3x4x4x8192_0_1_2_3 (broadcastInDim S1x4x4x8192 ![1, 2, 3] bcast_S4x4x8192_S1x4x4x8192_1_2_3 (maximumf (broadcastInDim S4x4x8192 ![] bcast_S_S4x4x8192 (constant S_ .f32 0xFF800000#32)) (Host.reduce FloatOps.maximumf W (constant S_ .f32 0xFF800000#32) reducesTo_S3x4x4x8192_S4x4x8192_d0 h_S_))))) : FVec Ideal S3x4x4x8192 .f32) (ix4 g b j t)
      = Ideal.exp (@HSub.hSub EReal EReal EReal _ (W (ix4 g b j t)) (max (Ideal.ofBits .f32 0xFF800000#32) ((Finset.univ : Finset (Fin 3)).fold max (Ideal.ofBits .f32 0xFF800000#32) fun x => W (ix4 x b j t)))) := by
  clean_types
  pointwise

theorem weight_at (g : Fin 3) : res_main_v224 V0 (ix4 g b j t) = Ideal.exp (@HSub.hSub EReal EReal EReal _ (res_main_v217 V0 (ix4 g b j t)) (top V0 b j t)) := by
  unfold res_main_v224
  refine (weigh_exp b j t _ g).trans ?_
  rw [ofBits_bot, fold_three, max_eq_right bot_le, lses1, lses2, lses3]
  rfl

theorem sum_at (d : Fin 128) : (∑ g : Fin 3, @id EReal (res_main_v235 V0 (ix5 g b j t d))) = result (qk V0) (hh V0) b.val t.val j.val d := by
  rw [Fin.sum_univ_three]
  show @HAdd.hAdd EReal EReal EReal _ (@HAdd.hAdd EReal EReal EReal _ (res_main_v235 V0 (ix5 0 b j t d)) (res_main_v235 V0 (ix5 1 b j t d))) (res_main_v235 V0 (ix5 2 b j t d)) = _
  rw [prod1, prod2, prod3, Fin.sum_univ_three, weight_at, weight_at, weight_at, lses1, lses2, lses3]
  rfl

theorem ra (v : (⟨S4x8192x4x128, .f32⟩ : BufTy).Contents (Elt Ideal)) (c : Fin 512) :
    (shapeCast S4x8192x512 v shapeCasts_S4x8192x4x128_S4x8192x512) (ix3 b t c) = v (ix4 b t ⟨c.val / 128, by omega⟩ ⟨c.val % 128, by omega⟩) := by
  pointwise
theorem rb (v : (⟨S4x4x8192x128, .f32⟩ : BufTy).Contents (Elt Ideal)) (d : Fin 128) :
    (transpose S4x8192x4x128 [0, 2, 1, 3] v transposes_S4x4x8192x128_S4x8192x4x128_0_2_1_3) (ix4 b t j d) = v (ix4 b j t d) := by
  pointwise
theorem rc (v : FVec Ideal S3x4x4x8192x128 .f32) (d : Fin 128) :
    (Host.reduceAdd v (constant S_ .f32 0x00000000#32) reducesTo_S3x4x4x8192x128_S4x4x8192x128_d0 h_S_ : FVec Ideal S4x4x8192x128 .f32) (ix4 b j t d)
      = ∑ g : Fin 3, @id EReal (v (ix5 g b j t d)) := by
  clean_types
  pointwise
  rfl

/-- The reference's result: heads side by side. -/
theorem ref_at (c : Fin 512) :
    (shapeCast S4x8192x512 (transpose S4x8192x4x128 [0, 2, 1, 3] (Host.reduceAdd (res_main_v235 V0) (constant S_ .f32 0x00000000#32) reducesTo_S3x4x4x8192x128_S4x4x8192x128_d0 h_S_) transposes_S4x4x8192x128_S4x8192x4x128_0_2_1_3) shapeCasts_S4x8192x4x128_S4x8192x512) (ix3 b t c)
      = result (qk V0) (hh V0) b.val t.val (c.val / 128) ⟨c.val % 128, by omega⟩ :=
  (ra b t _ c).trans ((rb b ⟨c.val / 128, by omega⟩ t _ ⟨c.val % 128, by omega⟩).trans
    ((rc b ⟨c.val / 128, by omega⟩ t _ ⟨c.val % 128, by omega⟩).trans (sum_at V0 b ⟨c.val / 128, by omega⟩ t ⟨c.val % 128, by omega⟩)))

end Cert.Proof.AttnRef

end
-- ==== Proof.Proj.Spec.lean ====
/- The mathematics of the input projection, over the extended reals: a row normalised by the root of its mean square, scaled
   and shifted, times a column of the weights. -/
module

public import Idealize.ShloMosaic.Lib.Pointwise

@[expose] public section

noncomputable section

namespace Cert.Proof.Proj

open Idealize.ShloMosaic

/-- One over the root of the mean square of a row. -/
def inv (x : Fin 1024 → EReal) : EReal :=
  Ideal.rsqrt (Ideal.div (∑ j, x j * x j) (Ideal.ofBits .f32 0x44800000#32) + Ideal.ofBits .f32 0x358637BD#32)

/-- An element of the row after the norm, its weight `w`, the scale `s` and the shift `h`. -/
def act (x : Fin 1024 → EReal) (k : Fin 1024) (w s h : EReal) : EReal :=
  x k * inv x * w * (1 + s) + h

/-- The projection's element at batch `b`, position `t` and column `j`. -/
def proj (x : Shape.Idx ⟨3, ![4, 8192, 1024]⟩ → EReal) (sc sh : Shape.Idx ⟨3, ![4, 1, 1024]⟩ → EReal)
    (nw : Shape.Idx ⟨1, ![1024]⟩ → EReal) (w : Shape.Idx ⟨2, ![1024, 8704]⟩ → EReal) (b : Fin 4) (t : Fin 8192) (j : Fin 8704) : EReal :=
  ∑ k : Fin 1024, act (fun i => x (ix3 b t i)) k (nw (ix1 k)) (sc (ix3 b 0 k)) (sh (ix3 b 0 k)) * w (ix2 k j)

theorem of2 {n0 n1 : ℕ} (f : Shape.Idx ⟨2, ![n0, n1]⟩ → EReal) (i : Shape.Idx ⟨2, ![n0, n1]⟩) (a : Fin n0) (b : Fin n1)
    (h0 : (i 0).val = a.val) (h1 : (i 1).val = b.val) : f i = f (ix2 a b) := by
  refine congrArg f ((eq_ix2 i).trans ?_)
  rw [Fin.ext (a := i 0) (b := a) h0, Fin.ext (a := i 1) (b := b) h1]

theorem of3 {n0 n1 n2 : ℕ} (f : Shape.Idx ⟨3, ![n0, n1, n2]⟩ → EReal) (i : Shape.Idx ⟨3, ![n0, n1, n2]⟩) (a : Fin n0) (b : Fin n1) (d : Fin n2)
    (h0 : (i 0).val = a.val) (h1 : (i 1).val = b.val) (h2 : (i 2).val = d.val) : f i = f (ix3 a b d) := by
  refine congrArg f ((eq_ix3 i).trans ?_)
  rw [Fin.ext (a := i 0) (b := a) h0, Fin.ext (a := i 1) (b := b) h1, Fin.ext (a := i 2) (b := d) h2]

/-- The array of 32768 rows. -/
def projArr (x : Shape.Idx ⟨3, ![4, 8192, 1024]⟩ → EReal) (sc sh : Shape.Idx ⟨3, ![4, 1, 1024]⟩ → EReal)
    (nw : Shape.Idx ⟨1, ![1024]⟩ → EReal) (w : Shape.Idx ⟨2, ![1024, 8704]⟩ → EReal) : Shape.Idx ⟨2, ![32768, 8704]⟩ → EReal := fun i =>
  proj x sc sh nw w ⟨(i 0).val / 8192, by have : (i 0).val < 32768 := (i 0).isLt; omega⟩ ⟨(i 0).val % 8192, Nat.mod_lt _ (by decide)⟩ (i 1)

end Cert.Proof.Proj

end
-- ==== Proof.Proj.Tile.lean ====
/- A step of the input projection: the rows it keeps at the first of a row's four steps, and the tile it writes at each. -/
module

public import proofs.«01_k».proof.Proof.Gen.Kernel2Ideal.Frame
public import proofs.«01_k».proof.Proof.Proj.Spec

@[expose] public section

set_option maxRecDepth 16384

noncomputable section

namespace Cert.Proof.Proj

open Cert.Kernel2Ideal Cert.Kernel2Ideal.Gen
open Idealize.ShloMosaic Idealize.ShloMosaic.TcCoe Idealize.ShloMosaic.Tactic Idealize.SL.Sem

/-- The rows kept: the norm, the scale and the shift. -/
theorem pay1 (x : Vec Ideal S1024x1024 .f32) (w : Vec Ideal S1x1024 .f32) (s h : Vec Ideal S1x1x1024 .f32) (r k : Fin 1024) :
    k0_pay1 x w s h (ix2 r k) = act (fun j => x (ix2 r j)) k (w (ix2 0 k)) (s (ix3 0 0 k)) (h (ix3 0 0 k)) := by
  pointwise [k0_pay1]
  rfl

/-- The tile written: the kept rows times the weights' columns. -/
theorem pay2 (a : Vec Ideal S1024x1024 .bf16) (w : Vec Ideal S1024x2176 .bf16) (r : Fin 1024) (j : Fin 2176) :
    k0_pay2 a w (ix2 r j) = ∑ k : Fin 1024, @HMul.hMul EReal EReal EReal _ (a (ix2 r k)) (w (ix2 k j)) := by
  pointwise [k0_pay2]

theorem hz2 : (![0, 0] : Fin 2 → Nat) = fun _ => 0 := funext fun a => by fin_cases a <;> rfl
theorem hz3 : (![0, 0, 0] : Fin 3 → Nat) = fun _ => 0 := funext fun a => by fin_cases a <;> rfl

theorem out_B (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x2176 .bf16) (harg6 : arg6.IsWhole) (arg7 : Memref sig .tc .vmem S1024x2176 .f32) (harg7 : arg7.IsWhole) (arg8 : Memref sig .tc .vmem S1024x1024 .bf16) (harg8 : arg8.IsWhole) (hc : ¬cond0_0 i)
    (x0 : Vec Ideal S1024x1024 .f32) (x1 : Vec Ideal S1x1x1024 .f32) (x2 : Vec Ideal S1x1x1024 .f32) (x3 : Vec Ideal S1x1024 .f32) (x4 : Vec Ideal S1024x2176 .bf16) (xs0 : Vec Ideal S1024x1024 .bf16) :
    out0_B_5 c i arg2 harg2 arg3 harg3 arg4 harg4 arg5 harg5 arg6 harg6 arg7 harg7 arg8 harg8 hc x0 x1 x2 x3 x4 xs0 = k0_pay2 xs0 x4 := by
  unfold out0_B_5
  rw [View.read_writes_eq_canon _ _ _ (cover0_B_5 c i arg2 harg2 arg3 harg3 arg4 harg4 arg5 harg5 arg6 harg6 arg7 harg7 arg8 harg8 hc x0 x1 x2 x3 x4 xs0)]
  unfold kernelRun0_B
  dsimp only
  rw [View.canon_unit_zero hz2]
  simp only [View.readAt_eq_ld, harg2.read_unread, harg3.read_unread, harg4.read_unread, harg5.read_unread, harg6.read_unread, harg8.read_unread, View.ld_unit_zero (S := S1024x1024) hz2, View.ld_unit_zero (S := S1024x2176) hz2, View.ld_unit_zero (S := S1x1024) hz2, View.ld_unit_zero (S := S1x1x1024) hz3]

theorem out_A (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x2176 .bf16) (harg6 : arg6.IsWhole) (arg7 : Memref sig .tc .vmem S1024x2176 .f32) (harg7 : arg7.IsWhole) (arg8 : Memref sig .tc .vmem S1024x1024 .bf16) (harg8 : arg8.IsWhole) (hc : cond0_0 i)
    (x0 : Vec Ideal S1024x1024 .f32) (x1 : Vec Ideal S1x1x1024 .f32) (x2 : Vec Ideal S1x1x1024 .f32) (x3 : Vec Ideal S1x1024 .f32) (x4 : Vec Ideal S1024x2176 .bf16) :
    out0_A_5 c i arg2 harg2 arg3 harg3 arg4 harg4 arg5 harg5 arg6 harg6 arg7 harg7 arg8 harg8 hc x0 x1 x2 x3 x4 = k0_pay2 (k0_pay1 x0 x3 x1 x2) x4 := by
  unfold out0_A_5
  rw [View.read_writes_eq_canon _ _ _ (cover0_A_5 c i arg2 harg2 arg3 harg3 arg4 harg4 arg5 harg5 arg6 harg6 arg7 harg7 arg8 harg8 hc x0 x1 x2 x3 x4)]
  unfold kernelRun0_A
  dsimp only
  sl_unfold_words
  rw [View.canon_unit_zero hz2, View.readCov_unit_zero (S := S1024x1024) _ hz2]
  simp only [View.readAt_eq_ld, harg2.read_unread, harg3.read_unread, harg4.read_unread, harg5.read_unread, harg6.read_unread, View.ld_unit_zero (S := S1024x1024) hz2, View.ld_unit_zero (S := S1024x2176) hz2, View.ld_unit_zero (S := S1x1024) hz2, View.ld_unit_zero (S := S1x1x1024) hz3]

theorem sout_A (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x2176 .bf16) (harg6 : arg6.IsWhole) (arg7 : Memref sig .tc .vmem S1024x2176 .f32) (harg7 : arg7.IsWhole) (arg8 : Memref sig .tc .vmem S1024x1024 .bf16) (harg8 : arg8.IsWhole) (hc : cond0_0 i)
    (x0 : Vec Ideal S1024x1024 .f32) (x1 : Vec Ideal S1x1x1024 .f32) (x2 : Vec Ideal S1x1x1024 .f32) (x3 : Vec Ideal S1x1024 .f32) (x4 : Vec Ideal S1024x2176 .bf16) :
    sout0_A_0 c i arg2 harg2 arg3 harg3 arg4 harg4 arg5 harg5 arg6 harg6 arg7 harg7 arg8 harg8 hc x0 x1 x2 x3 x4 = k0_pay1 x0 x3 x1 x2 := by
  unfold sout0_A_0
  rw [View.read_writes_eq_canon _ _ _ (scover0_A_0 c i arg2 harg2 arg3 harg3 arg4 harg4 arg5 harg5 arg6 harg6 arg7 harg7 arg8 harg8 hc x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, View.ld_unit_zero (S := S1024x1024) hz2, View.ld_unit_zero (S := S1024x2176) hz2, View.ld_unit_zero (S := S1x1024) hz2, View.ld_unit_zero (S := S1x1x1024) hz3]

end Cert.Proof.Proj

end
-- ==== Proof.Proj.Value.lean ====
/- The input projection's result: each step leaves its tile of one function of the five arguments, and the tiles fill the array. -/
module

public import proofs.«01_k».proof.Proof.Gen.Kernel2Ideal.Value
public import proofs.«01_k».proof.Proof.Proj.Tile
public import Idealize.ShloMosaic.Lib.Pipeline.ValueKit

@[expose] public section

set_option maxRecDepth 16384

noncomputable section

namespace Cert.Proof.Proj

open Cert.Kernel2Ideal Cert.Kernel2Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! ## The five arguments, and the arrays the steps read -/

abbrev ax (c : Dev nD) : Shape.Idx ⟨3, ![4, 8192, 1024]⟩ → EReal := m ((c : Thread nD τ).loc main_arg0)
abbrev asc (c : Dev nD) : Shape.Idx ⟨3, ![4, 1, 1024]⟩ → EReal := m ((c : Thread nD τ).loc main_arg1)
abbrev ash (c : Dev nD) : Shape.Idx ⟨3, ![4, 1, 1024]⟩ → EReal := m ((c : Thread nD τ).loc main_arg2)
abbrev anw (c : Dev nD) : Shape.Idx ⟨1, ![1024]⟩ → EReal := m ((c : Thread nD τ).loc main_arg3)
abbrev aw (c : Dev nD) : Shape.Idx ⟨2, ![1024, 8704]⟩ → EReal := m ((c : Thread nD τ).loc main_arg4)

theorem V_v0 (c : Dev nD) : V m c main_v0 = shapeCast S32768x1024 (m ((c : Thread nD τ).loc main_arg0)) shapeCasts_S4x8192x1024_S32768x1024 := by
  show StableHlo.after hostOps0 _ (Proc.devRef .tc main_v0) = _
  after_results
  rfl
theorem V_v1 (c : Dev nD) : V m c main_v1 = truncf (F := Ideal) (s := S1024x8704) (φ := .f32) .bf16 (m ((c : Thread nD τ).loc main_arg4)) bitsLt_bf16_f32 := by
  show StableHlo.after hostOps0 _ (Proc.devRef .tc main_v1) = _
  after_results
theorem V_v2 (c : Dev nD) : V m c main_v2 = shapeCast S1x1024 (m ((c : Thread nD τ).loc main_arg3)) shapeCasts_S1024_S1x1024 := by
  show StableHlo.after hostOps0 _ (Proc.devRef .tc main_v2) = _
  after_results
  rfl

theorem rows_at (x : Vec Ideal S4x8192x1024 .f32) (R : Fin 32768) (k : Fin 1024) :
    (shapeCast S32768x1024 x shapeCasts_S4x8192x1024_S32768x1024) (ix2 R k) = x (ix3 ⟨R.val / 8192, by omega⟩ ⟨R.val % 8192, by omega⟩ k) := by
  pointwise
theorem line_at (x : Vec Ideal S1024 .f32) (k : Fin 1024) : (shapeCast S1x1024 x shapeCasts_S1024_S1x1024) (ix2 0 k) = x (ix1 k) := by
  pointwise

/-! ## The blocks of a step -/

theorem lt128 (t : Fin cfg0.N) : t.val < 128 := Nat.lt_of_lt_of_eq t.isLt N_0

/-- The batch of a step. -/
def bat (t : Fin cfg0.N) : Fin 4 := ⟨t.val / 32, by have := lt128 t; omega⟩
/-- The position, inside its batch, of a row of a step. -/
def pos (t : Fin cfg0.N) (r : Fin 1024) : Fin 8192 := ⟨t.val / 4 % 8 * 1024 + r.val, by omega⟩
/-- The column of a step's tile. -/
def col (t : Fin cfg0.N) (j : Fin 2176) : Fin 8704 := ⟨t.val % 4 * 2176 + j.val, by omega⟩

theorem index_0 : ∀ t : Fin cfg0.N, win0_0.index t (0 : Fin 2) = t.val / 4 ∧ win0_0.index t (1 : Fin 2) = 0 := (by decide +kernel : ∀ t : Fin grid0.N, _)
theorem index_1 : ∀ t : Fin cfg0.N, win0_1.index t (0 : Fin 3) = t.val / 32 ∧ win0_1.index t (1 : Fin 3) = 0 ∧ win0_1.index t (2 : Fin 3) = 0 := (by decide +kernel : ∀ t : Fin grid0.N, _)
theorem index_2 : ∀ t : Fin cfg0.N, win0_2.index t (0 : Fin 3) = t.val / 32 ∧ win0_2.index t (1 : Fin 3) = 0 ∧ win0_2.index t (2 : Fin 3) = 0 := (by decide +kernel : ∀ t : Fin grid0.N, _)
theorem index_3 : ∀ t : Fin cfg0.N, win0_3.index t (0 : Fin 2) = 0 ∧ win0_3.index t (1 : Fin 2) = 0 := (by decide +kernel : ∀ t : Fin grid0.N, _)
theorem index_4 : ∀ t : Fin cfg0.N, win0_4.index t (0 : Fin 2) = 0 ∧ win0_4.index t (1 : Fin 2) = t.val % 4 := (by decide +kernel : ∀ t : Fin grid0.N, _)
theorem index_5 : ∀ t : Fin cfg0.N, win0_5.index t (0 : Fin 2) = t.val / 4 ∧ win0_5.index t (1 : Fin 2) = t.val % 4 := (by decide +kernel : ∀ t : Fin grid0.N, _)

theorem block_0 (c : Dev nD) (t : Fin cfg0.N) (r k : Fin 1024) :
    (iblk m c 0 t : Vec Ideal S1024x1024 .f32) (ix2 r k) = ax m c (ix3 (bat t) (pos t r) k) := by
  obtain ⟨e0, e1⟩ := index_0 t
  have ht := lt128 t
  refine (of2 (V m c main_v0) (((cfg0.win 0).blk t).view.emb (ix2 (n0 := 1024) (n1 := 1024) r k)) ⟨t.val / 4 * 1024 + r.val, by omega⟩ k ?_ ?_).trans ?_
  · show win0_0.index t (0 : Fin 2) * 1024 + 1 * r.val = t.val / 4 * 1024 + r.val; rw [e0]; omega
  · show win0_0.index t (1 : Fin 2) * 1024 + 1 * k.val = _; rw [e1]; omega
  · rw [V_v0]
    refine (rows_at _ _ _).trans (of3 _ _ _ _ _ ?_ ?_ rfl)
    · show (t.val / 4 * 1024 + r.val) / 8192 = t.val / 32; omega
    · show (t.val / 4 * 1024 + r.val) % 8192 = t.val / 4 % 8 * 1024 + r.val; omega

theorem block_1 (c : Dev nD) (t : Fin cfg0.N) (k : Fin 1024) :
    (iblk m c 1 t : Vec Ideal S1x1x1024 .f32) (ix3 0 0 k) = asc m c (ix3 (bat t) 0 k) := by
  obtain ⟨e0, e1, e2⟩ := index_1 t
  refine (of3 (V m c main_arg1) (((cfg0.win 1).blk t).view.emb (ix3 (n0 := 1) (n1 := 1) (n2 := 1024) 0 0 k)) (bat t) 0 k ?_ ?_ ?_).trans ?_
  · show win0_1.index t (0 : Fin 3) * 1 + 1 * 0 = t.val / 32; rw [e0]; omega
  · show win0_1.index t (1 : Fin 3) * 1 + 1 * 0 = _; rw [e1]; rfl
  · show win0_1.index t (2 : Fin 3) * 1024 + 1 * k.val = _; rw [e2]; omega
  · rw [V_main_arg1]

theorem block_2 (c : Dev nD) (t : Fin cfg0.N) (k : Fin 1024) :
    (iblk m c 2 t : Vec Ideal S1x1x1024 .f32) (ix3 0 0 k) = ash m c (ix3 (bat t) 0 k) := by
  obtain ⟨e0, e1, e2⟩ := index_2 t
  refine (of3 (V m c main_arg2) (((cfg0.win 2).blk t).view.emb (ix3 (n0 := 1) (n1 := 1) (n2 := 1024) 0 0 k)) (bat t) 0 k ?_ ?_ ?_).trans ?_
  · show win0_2.index t (0 : Fin 3) * 1 + 1 * 0 = t.val / 32; rw [e0]; omega
  · show win0_2.index t (1 : Fin 3) * 1 + 1 * 0 = _; rw [e1]; rfl
  · show win0_2.index t (2 : Fin 3) * 1024 + 1 * k.val = _; rw [e2]; omega
  · rw [V_main_arg2]

theorem block_3 (c : Dev nD) (t : Fin cfg0.N) (k : Fin 1024) :
    (iblk m c 3 t : Vec Ideal S1x1024 .f32) (ix2 0 k) = anw m c (ix1 k) := by
  obtain ⟨e0, e1⟩ := index_3 t
  refine (of2 (V m c main_v2) (((cfg0.win 3).blk t).view.emb (ix2 (n0 := 1) (n1 := 1024) 0 k)) 0 k ?_ ?_).trans ?_
  · show win0_3.index t (0 : Fin 2) * 1 + 1 * 0 = _; rw [e0]; rfl
  · show win0_3.index t (1 : Fin 2) * 1024 + 1 * k.val = _; rw [e1]; omega
  · rw [V_v2]
    exact line_at _ _

theorem block_4 (c : Dev nD) (t : Fin cfg0.N) (k : Fin 1024) (j : Fin 2176) :
    (iblk m c 4 t : Vec Ideal S1024x2176 .bf16) (ix2 k j) = aw m c (ix2 k (col t j)) := by
  obtain ⟨e0, e1⟩ := index_4 t
  refine (of2 (V m c main_v1) (((cfg0.win 4).blk t).view.emb (ix2 (n0 := 1024) (n1 := 2176) k j)) k (col t j) ?_ ?_).trans ?_
  · show win0_4.index t (0 : Fin 2) * 1024 + 1 * k.val = _; rw [e0]; omega
  · show win0_4.index t (1 : Fin 2) * 2176 + 1 * j.val = _; rw [e1]; show _ = t.val % 4 * 2176 + j.val; omega
  · rw [V_v1]
    rfl

/-! ## What the steps keep and write -/

/-- The kept element at row `r` of a step. -/
def kept (c : Dev nD) (b : Fin 4) (p : Fin 8192) (k : Fin 1024) : EReal :=
  act (fun i => ax m c (ix3 b p i)) k (anw m c (ix1 k)) (asc m c (ix3 b 0 k)) (ash m c (ix3 b 0 k))

theorem rows_A (c : Dev nD) (t : Fin cfg0.N) (r k : Fin 1024) :
    k0_pay1 (F := Ideal) (iblk m c 0 t) (iblk m c 3 t) (iblk m c 1 t) (iblk m c 2 t) (ix2 r k) = kept m c (bat t) (pos t r) k := by
  refine (pay1 _ _ _ _ r k).trans ?_
  unfold kept
  rw [block_1, block_2, block_3]
  congr 1
  exact funext fun i => block_0 m c t r i

/-- Every step holds the rows its row of tiles began with. -/
theorem kept_at (c : Dev nD) : ∀ (n : ℕ) (hn : n < cfg0.N) (r k : Fin 1024),
    ((outsAt0 m c n hn).2 : Vec Ideal S1024x1024 .bf16) (ix2 r k) = kept m c (bat ⟨n, hn⟩) (pos ⟨n, hn⟩ r) k := by
  intro n
  induction n with
  | zero =>
    intro hn r k
    rw [outsAt0_A m c ⟨0, hn⟩ rfl]
    dsimp only
    rw [sout_A]
    exact rows_A m c ⟨0, hn⟩ r k
  | succ n ih =>
    intro hn r k
    by_cases h0 : (n + 1) % 4 = 0
    · rw [outsAt0_A m c ⟨n + 1, hn⟩ h0]
      dsimp only
      rw [sout_A]
      exact rows_A m c ⟨n + 1, hn⟩ r k
    · rw [outsAt0_B m c ⟨n + 1, hn⟩ h0]
      refine (ih (Nat.lt_of_succ_lt hn) r k).trans ?_
      have eb : bat ⟨n, Nat.lt_of_succ_lt hn⟩ = bat ⟨n + 1, hn⟩ := Fin.ext (by show n / 32 = (n + 1) / 32; omega)
      have ep : pos ⟨n, Nat.lt_of_succ_lt hn⟩ r = pos ⟨n + 1, hn⟩ r :=
        Fin.ext (by show n / 4 % 8 * 1024 + r.val = (n + 1) / 4 % 8 * 1024 + r.val; have : n / 4 = (n + 1) / 4 := by omega
                    rw [this])
      rw [eb, ep]

theorem tile_eq (c : Dev nD) (t : Fin cfg0.N) : (outsAt0 m c t.val t.isLt).1 = k0_pay2 (F := Ideal) (outsAt0 m c t.val t.isLt).2 (iblk m c 4 t) := by
  by_cases h0 : t.val % 4 = 0
  · rw [outsAt0_A m c t h0]
    dsimp only
    rw [sout_A, out_A]
  · rw [outsAt0_B m c t h0]
    dsimp only
    rw [out_B]
    rfl

theorem tile_at (c : Dev nD) (t : Fin cfg0.N) (r : Fin 1024) (j : Fin 2176) :
    ((outsAt0 m c t.val t.isLt).1 : Vec Ideal S1024x2176 .f32) (ix2 r j)
      = proj (ax m c) (asc m c) (ash m c) (anw m c) (aw m c) (bat t) (pos t r) (col t j) := by
  rw [tile_eq]
  refine (pay2 _ _ r j).trans ?_
  unfold proj
  refine Finset.sum_congr rfl fun k _ => ?_
  rw [kept_at m c t.val t.isLt r k, block_4]
  rfl

/-! ## The array -/

theorem projArr_of (x : Shape.Idx ⟨3, ![4, 8192, 1024]⟩ → EReal) (sc sh : Shape.Idx ⟨3, ![4, 1, 1024]⟩ → EReal)
    (nw : Shape.Idx ⟨1, ![1024]⟩ → EReal) (w : Shape.Idx ⟨2, ![1024, 8704]⟩ → EReal) (i : Shape.Idx ⟨2, ![32768, 8704]⟩)
    (b : Fin 4) (p : Fin 8192) (j : Fin 8704) (h0 : (i 0).val = b.val * 8192 + p.val) (h1 : (i 1).val = j.val) :
    projArr x sc sh nw w i = proj x sc sh nw w b p j := by
  unfold projArr
  have hp := p.isLt
  have e0 : ∀ h, (⟨(i 0).val / 8192, h⟩ : Fin 4) = b := fun _ => Fin.ext (by show (i 0).val / 8192 = _; omega)
  have e1 : ∀ h, (⟨(i 0).val % 8192, h⟩ : Fin 8192) = p := fun _ => Fin.ext (by show (i 0).val % 8192 = _; omega)
  rw [e0, e1]
  exact congrArg _ (Fin.ext h1)

/-- The result, as a function of the launch. -/
abbrev value (c : Dev nD) : Shape.Idx ⟨2, ![32768, 8704]⟩ → EReal := projArr (ax m c) (asc m c) (ash m c) (anw m c) (aw m c)

theorem after_out (c : Dev nD) (t : Fin cfg0.N) (y : Shape.Idx ⟨2, ![1024, 2176]⟩) :
    (dats (F := Ideal) m 0 c).after 5 t y = value m c (((cfg0.win 5).blk t).view.emb y) := by
  obtain ⟨e0, e1⟩ := index_5 t
  obtain ⟨r, j, rfl⟩ : ∃ (r : Fin 1024) (j : Fin 2176), y = ix2 r j := ⟨y 0, y 1, eq_ix2 y⟩
  rw [after0_5]
  refine (tile_at m c t r j).trans (projArr_of _ _ _ _ _ _ (bat t) (pos t r) (col t j) ?_ ?_).symm
  · show win0_5.index t (0 : Fin 2) * 1024 + 1 * r.val = t.val / 32 * 8192 + (t.val / 4 % 8 * 1024 + r.val); rw [e0]; omega
  · show win0_5.index t (1 : Fin 2) * 2176 + 1 * j.val = t.val % 4 * 2176 + j.val; rw [e1]; omega

theorem final (c : Dev nD) : (dats (F := Ideal) m 0 c).arrAt 5 cfg0.N = value m c :=
  (dats (F := Ideal) m 0 c).arrAt_eq_of_covers 5 (value m c) (by decide +kernel) fun t _ y => after_out m c t y

/-- The run with the result at its function of the arguments. -/
theorem run_value (ρ : Dev nD → PrngReg) : θ_run defs (onTc (τ := τ) (main (F := Ideal))) ⟨m, fun _ => 0, ρ⟩ fun r => ∀ c : Dev nD,
      r.2.mem ((c.tc : Thread nD τ).loc main_v3) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩) (Cert.Kernel2Ideal.Value.run_blocks (F := Ideal) m ρ)

end Cert.Proof.Proj

end
-- ==== Proof.Proj.RefValue.lean ====
/- The reference's term, read element by element: the same rows times the same columns. -/
module

public import proofs.«01_k».proof.Proof.Gen.Reference2Ideal.Run
public import Idealize.ShloMosaic.Lib.Tactic.CleanTypes
public import proofs.«01_k».proof.Proof.Proj.Spec

@[expose] public section

set_option maxRecDepth 16384

noncomputable section

namespace Cert.Proof.ProjRef

open Cert.Reference2Ideal Cert.Reference2Ideal.Gen
open Idealize.ShloMosaic Idealize.SL.Sem
open Cert.Proof.Proj

theorem e_sum (x : FVec Ideal S4x8192x1024 .f32) (b : Fin 4) (t : Fin 8192) :
    (Host.reduceAdd (mulf x x) (constant S_ .f32 0x00000000#32) reducesTo_S4x8192x1024_S4x8192_d2 h_S_ : FVec Ideal S4x8192 .f32) (ix2 b t)
      = ∑ j : Fin 1024, @HMul.hMul EReal EReal EReal _ (x (ix3 b t j)) (x (ix3 b t j)) := by
  clean_types
  pointwise

theorem e_inv (y : FVec Ideal S4x8192 .f32) (b : Fin 4) (t : Fin 8192) (k : Fin 1024) :
    (broadcastInDim S4x8192x1024 ![0, 1, 2] bcast_S4x8192x1_S4x8192x1024_0_1_2 (Host.rsqrt (addf (Host.divf (broadcastInDim S4x8192x1 ![0, 1] bcast_S4x8192_S4x8192x1_0_1 y) (broadcastInDim S4x8192x1 ![] bcast_S_S4x8192x1 (constant S_ .f32 0x44800000#32))) (broadcastInDim S4x8192x1 ![] bcast_S_S4x8192x1 (constant S_ .f32 0x358637BD#32)))) : FVec Ideal S4x8192x1024 .f32) (ix3 b t k)
      = Ideal.rsqrt (@HAdd.hAdd EReal EReal EReal _ (Ideal.div (y (ix2 b t)) (Ideal.ofBits .f32 0x44800000#32)) (Ideal.ofBits .f32 0x358637BD#32)) := by
  clean_types
  pointwise

theorem e_act (x z : FVec Ideal S4x8192x1024 .f32) (w : FVec Ideal S1024 .f32) (s h : FVec Ideal S4x1x1024 .f32) (b : Fin 4) (t : Fin 8192) (k : Fin 1024) :
    (addf (mulf (mulf (mulf x z) (broadcastInDim S4x8192x1024 ![0, 1, 2] bcast_S1x1x1024_S4x8192x1024_0_1_2 (broadcastInDim S1x1x1024 ![2] bcast_S1024_S1x1x1024_2 w))) (broadcastInDim S4x8192x1024 ![0, 1, 2] bcast_S4x1x1024_S4x8192x1024_0_1_2 (addf (broadcastInDim S4x1x1024 ![] bcast_S_S4x1x1024 (constant S_ .f32 0x3F800000#32)) s))) (broadcastInDim S4x8192x1024 ![0, 1, 2] bcast_S4x1x1024_S4x8192x1024_0_1_2 h) : FVec Ideal S4x8192x1024 .f32) (ix3 b t k)
      = @HAdd.hAdd EReal EReal EReal _ (@HMul.hMul EReal EReal EReal _ (@HMul.hMul EReal EReal EReal _ (@HMul.hMul EReal EReal EReal _ (x (ix3 b t k)) (z (ix3 b t k))) (w (ix1 k))) (@HAdd.hAdd EReal EReal EReal _ 1 (s (ix3 b 0 k)))) (h (ix3 b 0 k)) := by
  clean_types
  pointwise

theorem e_dot (a : FVec Ideal S4x8192x1024 .f32) (w : FVec Ideal S1024x8704 .f32) (b : Fin 4) (t : Fin 8192) (j : Fin 8704) :
    (Host.dotGeneral dot_S4x8192x1024_S1024x8704_S4x8192x8704_2_0_01_1_n_n none a w : FVec Ideal S4x8192x8704 .f32) (ix3 b t j)
      = ∑ k : Fin 1024, @HMul.hMul EReal EReal EReal _ (a (ix3 b t k)) (w (ix2 k j)) := by
  clean_types
  pointwise

theorem e_rows (v : FVec Ideal S4x8192x8704 .f32) (R : Fin 32768) (j : Fin 8704) :
    (shapeCast S32768x8704 v shapeCasts_S4x8192x8704_S32768x8704) (ix2 R j) = v (ix3 ⟨R.val / 8192, by omega⟩ ⟨R.val % 8192, by omega⟩ j) := by
  pointwise

/-- The reference's term of its five arguments. -/
def term (x : FVec Ideal S4x8192x1024 .f32) (s h : FVec Ideal S4x1x1024 .f32) (nw : FVec Ideal S1024 .f32) (w : FVec Ideal S1024x8704 .f32) : FVec Ideal S32768x8704 .f32 :=
  shapeCast _ (Host.dotGeneral dot_S4x8192x1024_S1024x8704_S4x8192x8704_2_0_01_1_n_n none (addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 nw))) (broadcastInDim S4x8192x1024 ![0, 1, 2] bcast_S4x1x1024_S4x8192x1024_0_1_2 (addf (broadcastInDim S4x1x1024 ![] bcast_S_S4x1x1024 (constant S_ .f32 0x3F800000#32)) s))) (broadcastInDim S4x8192x1024 ![0, 1, 2] bcast_S4x1x1024_S4x8192x1024_0_1_2 h)) w) shapeCasts_S4x8192x8704_S32768x8704

theorem term_at (x : FVec Ideal S4x8192x1024 .f32) (s h : FVec Ideal S4x1x1024 .f32) (nw : FVec Ideal S1024 .f32) (w : FVec Ideal S1024x8704 .f32)
    (R : Fin 32768) (j : Fin 8704) : term x s h nw w (ix2 R j) = proj x s h nw w ⟨R.val / 8192, by omega⟩ ⟨R.val % 8192, by omega⟩ j := by
  unfold term
  refine (e_rows _ R j).trans ((e_dot _ w _ _ j).trans ?_)
  unfold proj
  refine Finset.sum_congr rfl fun k _ => congrArg (fun a : EReal => @HMul.hMul EReal EReal EReal _ a (w (ix2 k j))) ?_
  refine (e_act x _ nw s h _ _ k).trans ?_
  rw [e_inv, e_sum]
  rfl

theorem term_eq (x : FVec Ideal S4x8192x1024 .f32) (s h : FVec Ideal S4x1x1024 .f32) (nw : FVec Ideal S1024 .f32) (w : FVec Ideal S1024x8704 .f32) :
    term x s h nw w = projArr x s h nw w := by
  funext i
  refine (congrArg (term x s h nw w) (eq_ix2 i)).trans ((term_at x s h nw w (i 0) (i 1)).trans ?_)
  rfl

end Cert.Proof.ProjRef

end
-- ==== Proof.Out.Spec.lean ====
/- The mathematics of the output projection, over the extended reals: the two branches, each under its gate, mixed and projected
   onto the residual, and the second norm of the row that this gives. -/
module

public import proofs.«01_k».proof.Proof.Proj.Spec

@[expose] public section

set_option maxRecDepth 16384

noncomputable section

namespace Cert.Proof.Out

open Idealize.ShloMosaic

/-- The gate. -/
def gate (x : EReal) : EReal := Ideal.div 1 (1 + Ideal.exp (-x))

/-- A row's element of the two branches under their gates. -/
def mixed (oa ob : Fin 512 → EReal) (ga gb : EReal) (wa wb : Fin 512 → EReal) : EReal :=
  gate ga * (∑ i, oa i * wa i) + gate gb * (∑ i, ob i * wb i)

/-- The residual with the projected mix under the modulation's gate. -/
def resid (x g : EReal) (mx wo : Fin 1024 → EReal) : EReal := x + g * ∑ k, mx k * wo k

/-- The eleven arguments. -/
structure Args where
  oa : Shape.Idx ⟨3, ![4, 8192, 512]⟩ → EReal
  ob : Shape.Idx ⟨3, ![4, 8192, 512]⟩ → EReal
  h : Shape.Idx ⟨3, ![4, 8192, 8704]⟩ → EReal
  x : Shape.Idx ⟨3, ![4, 8192, 1024]⟩ → EReal
  g : Shape.Idx ⟨3, ![4, 1, 1024]⟩ → EReal
  sc : Shape.Idx ⟨3, ![4, 1, 1024]⟩ → EReal
  sh : Shape.Idx ⟨3, ![4, 1, 1024]⟩ → EReal
  nw : Shape.Idx ⟨1, ![1024]⟩ → EReal
  wa : Shape.Idx ⟨2, ![512, 1024]⟩ → EReal
  wb : Shape.Idx ⟨2, ![512, 1024]⟩ → EReal
  wo : Shape.Idx ⟨2, ![1024, 1024]⟩ → EReal

/-- Arguments that agree one by one are the same. -/
theorem gather_eq {oa oa' : Shape.Idx ⟨3, ![4, 8192, 512]⟩ → EReal} {ob ob' : Shape.Idx ⟨3, ![4, 8192, 512]⟩ → EReal} {h h' : Shape.Idx ⟨3, ![4, 8192, 8704]⟩ → EReal} {x x' : Shape.Idx ⟨3, ![4, 8192, 1024]⟩ → EReal} {g g' : Shape.Idx ⟨3, ![4, 1, 1024]⟩ → EReal} {sc sc' : Shape.Idx ⟨3, ![4, 1, 1024]⟩ → EReal} {sh sh' : Shape.Idx ⟨3, ![4, 1, 1024]⟩ → EReal} {nw nw' : Shape.Idx ⟨1, ![1024]⟩ → EReal} {wa wa' : Shape.Idx ⟨2, ![512, 1024]⟩ → EReal} {wb wb' : Shape.Idx ⟨2, ![512, 1024]⟩ → EReal} {wo wo' : Shape.Idx ⟨2, ![1024, 1024]⟩ → EReal}
    (h0 : oa = oa') (h1 : ob = ob') (h2 : h = h') (h3 : x = x') (h4 : g = g') (h5 : sc = sc') (h6 : sh = sh') (h7 : nw = nw') (h8 : wa = wa') (h9 : wb = wb') (h10 : wo = wo') :
    (⟨oa, ob, h, x, g, sc, sh, nw, wa, wb, wo⟩ : Args) = ⟨oa', ob', h', x', g', sc', sh', nw', wa', wb', wo'⟩ := by
  subst h0 h1 h2 h3 h4 h5 h6 h7 h8 h9 h10
  rfl

/-- The mix at batch `b`, position `t` and column `k`. -/
def mixAt (A : Args) (b : Fin 4) (t : Fin 8192) (k : Fin 1024) : EReal :=
  mixed (fun i => A.oa (ix3 b t i)) (fun i => A.ob (ix3 b t i)) (A.h (ix3 b t ⟨6656 + k.val, by omega⟩)) (A.h (ix3 b t ⟨7680 + k.val, by omega⟩))
    (fun i => A.wa (ix2 i k)) (fun i => A.wb (ix2 i k))

/-- The first result's element. -/
def first (A : Args) (b : Fin 4) (t : Fin 8192) (j : Fin 1024) : EReal :=
  resid (A.x (ix3 b t j)) (A.g (ix3 b 0 j)) (mixAt A b t) (fun k => A.wo (ix2 k j))

/-- The second result's element. -/
def second (A : Args) (b : Fin 4) (t : Fin 8192) (j : Fin 1024) : EReal :=
  Proj.act (first A b t) j (A.nw (ix1 j)) (A.sc (ix3 b 0 j)) (A.sh (ix3 b 0 j))

/-- An array of 32768 rows. -/
def rows (f : Fin 4 → Fin 8192 → Fin 1024 → EReal) : Shape.Idx ⟨2, ![32768, 1024]⟩ → EReal := fun i =>
  f ⟨(i 0).val / 8192, by have : (i 0).val < 32768 := (i 0).isLt; omega⟩ ⟨(i 0).val % 8192, Nat.mod_lt _ (by decide)⟩ (i 1)

theorem rows_of (f : Fin 4 → Fin 8192 → Fin 1024 → EReal) (i : Shape.Idx ⟨2, ![32768, 1024]⟩)
    (b : Fin 4) (p : Fin 8192) (j : Fin 1024) (h0 : (i 0).val = b.val * 8192 + p.val) (h1 : (i 1).val = j.val) : rows f i = f b p j := by
  unfold rows
  have hp := p.isLt
  have e0 : ∀ h, (⟨(i 0).val / 8192, h⟩ : Fin 4) = b := fun _ => Fin.ext (by show (i 0).val / 8192 = _; omega)
  have e1 : ∀ h, (⟨(i 0).val % 8192, h⟩ : Fin 8192) = p := fun _ => Fin.ext (by show (i 0).val % 8192 = _; omega)
  rw [e0, e1]
  exact congrArg _ (Fin.ext h1)

end Cert.Proof.Out

end
-- ==== Proof.Out.Tile.lean ====
/- A step of the output projection: the tiles of its two results, from the blocks that it reads. -/
module

public import proofs.«01_k».proof.Proof.Gen.Kernel3Ideal.Frame
public import proofs.«01_k».proof.Proof.Out.Spec

@[expose] public section

set_option maxRecDepth 16384

noncomputable section

namespace Cert.Proof.Out

open Cert.Kernel3Ideal Cert.Kernel3Ideal.Gen
open Idealize.ShloMosaic Idealize.ShloMosaic.TcCoe Idealize.ShloMosaic.Tactic Idealize.SL.Sem

theorem branch_a (a : Vec Ideal S512x512 .f32) (w : Vec Ideal S512x1024 .bf16) (r : Fin 512) (k : Fin 1024) :
    k0_pay2 a w (ix2 r k) = ∑ i : Fin 512, @HMul.hMul EReal EReal EReal _ (a (ix2 r i)) (w (ix2 i k)) := by
  pointwise [k0_pay2]

theorem branch_b (a : Vec Ideal S512x512 .f32) (w : Vec Ideal S512x1024 .bf16) (r : Fin 512) (k : Fin 1024) :
    k0_pay3 a w (ix2 r k) = ∑ i : Fin 512, @HMul.hMul EReal EReal EReal _ (a (ix2 r i)) (w (ix2 i k)) := by
  pointwise [k0_pay3]

/-- Two blocks beside each other, read at a column. -/
def beside (a b : Vec Ideal S512x512 .f32) (r : Fin 512) (k : Fin 1024) : EReal :=
  if h : k.val < 512 then a (ix2 r ⟨k.val, h⟩) else b (ix2 r ⟨k.val - 512, by omega⟩)

theorem gate_a (a b : Vec Ideal S512x512 .f32) (r : Fin 512) (k : Fin 1024) : k0_pay4 a b (ix2 r k) = gate (beside a b r k) := by
  unfold gate beside
  pointwise [k0_pay4]
  rw [zero_sub]

theorem gate_b (a b : Vec Ideal S512x512 .f32) (r : Fin 512) (k : Fin 1024) :
    Ideal.div (k0_pay6 (F := Ideal) (ix2 r k)) (k0_pay5 a b (ix2 r k)) = gate (beside a b r k) := by
  unfold gate beside
  pointwise [k0_pay5, k0_pay6]
  rw [zero_sub]

theorem pay7 (ya yb ga gb one : FVec Ideal S512x1024 .f32) (wo : Vec Ideal S1024x1024 .bf16) (x : Vec Ideal S512x1024 .f32) (g : Vec Ideal S1x1x1024 .f32)
    (r : Fin 512) (j : Fin 1024) :
    k0_pay7 ya yb ga gb one wo x g (ix2 r j) = resid (x (ix2 r j)) (g (ix3 0 0 j))
      (fun k => @HAdd.hAdd EReal EReal EReal _ (@HMul.hMul EReal EReal EReal _ (ga (ix2 r k)) (ya (ix2 r k))) (@HMul.hMul EReal EReal EReal _ (Ideal.div (one (ix2 r k)) (gb (ix2 r k))) (yb (ix2 r k))))
      (fun k => wo (ix2 k j)) := by
  unfold resid
  pointwise [k0_pay7]

theorem pay8 (ya yb ga gb one : FVec Ideal S512x1024 .f32) (wo : Vec Ideal S1024x1024 .bf16) (x : Vec Ideal S512x1024 .f32) (g : Vec Ideal S1x1x1024 .f32)
    (w : Vec Ideal S1x1024 .f32) (s h : Vec Ideal S1x1x1024 .f32) (r : Fin 512) (j : Fin 1024) :
    k0_pay1 (k0_pay8 ya yb ga gb one wo x g w s) h (ix2 r j)
      = Proj.act (fun i => k0_pay7 ya yb ga gb one wo x g (ix2 r i)) j (w (ix2 0 j)) (s (ix3 0 0 j)) (h (ix3 0 0 j)) := by
  unfold k0_pay8
  generalize k0_pay7 ya yb ga gb one wo x g = y
  pointwise [k0_pay1]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The first tile's element, of the blocks. -/
def tile1 (x0 : Vec Ideal S512x512 .f32) (x1 : Vec Ideal S512x512 .f32) (x2 : Vec Ideal S512x512 .f32) (x3 : Vec Ideal S512x512 .f32) (x4 : Vec Ideal S512x512 .f32) (x5 : Vec Ideal S512x512 .f32) (x6 : Vec Ideal S512x1024 .f32) (x7 : Vec Ideal S1x1x1024 .f32) (x8 : Vec Ideal S1x1x1024 .f32) (x9 : Vec Ideal S1x1x1024 .f32) (x10 : Vec Ideal S1x1024 .f32) (x11 : Vec Ideal S512x1024 .bf16) (x12 : Vec Ideal S512x1024 .bf16) (x13 : Vec Ideal S1024x1024 .bf16) (r : Fin 512) (j : Fin 1024) : EReal :=
  resid (x6 (ix2 r j)) (x7 (ix3 0 0 j)) (fun k => mixed (fun i => x0 (ix2 r i)) (fun i => x1 (ix2 r i)) (beside x2 x3 r k) (beside x4 x5 r k) (fun i => x11 (ix2 i k)) (fun i => x12 (ix2 i k)))
    (fun k => x13 (ix2 k j))

theorem pay_tile (x0 : Vec Ideal S512x512 .f32) (x1 : Vec Ideal S512x512 .f32) (x2 : Vec Ideal S512x512 .f32) (x3 : Vec Ideal S512x512 .f32) (x4 : Vec Ideal S512x512 .f32) (x5 : Vec Ideal S512x512 .f32) (x6 : Vec Ideal S512x1024 .f32) (x7 : Vec Ideal S1x1x1024 .f32) (x8 : Vec Ideal S1x1x1024 .f32) (x9 : Vec Ideal S1x1x1024 .f32) (x10 : Vec Ideal S1x1024 .f32) (x11 : Vec Ideal S512x1024 .bf16) (x12 : Vec Ideal S512x1024 .bf16) (x13 : Vec Ideal S1024x1024 .bf16) (r : Fin 512) (j : Fin 1024) :
    k0_pay7 (k0_pay2 x0 x11) (k0_pay3 x1 x12) (k0_pay4 x2 x3) (k0_pay5 x4 x5) (k0_pay6 (F := Ideal)) x13 x6 x7 (ix2 r j) = tile1 x0 x1 x2 x3 x4 x5 x6 x7 x8 x9 x10 x11 x12 x13 r j := by
  refine (pay7 _ _ _ _ _ _ _ _ r j).trans ?_
  unfold tile1
  refine congrArg (fun f => resid _ _ f _) (funext fun k => ?_)
  rw [branch_a, branch_b, gate_a, gate_b]
  rfl

theorem out14_at (x0 : Vec Ideal S512x512 .f32) (x1 : Vec Ideal S512x512 .f32) (x2 : Vec Ideal S512x512 .f32) (x3 : Vec Ideal S512x512 .f32) (x4 : Vec Ideal S512x512 .f32) (x5 : Vec Ideal S512x512 .f32) (x6 : Vec Ideal S512x1024 .f32) (x7 : Vec Ideal S1x1x1024 .f32) (x8 : Vec Ideal S1x1x1024 .f32) (x9 : Vec Ideal S1x1x1024 .f32) (x10 : Vec Ideal S1x1024 .f32) (x11 : Vec Ideal S512x1024 .bf16) (x12 : Vec Ideal S512x1024 .bf16) (x13 : Vec Ideal S1024x1024 .bf16) (r : Fin 512) (j : Fin 1024) : out0_14 x0 x1 x2 x3 x4 x5 x6 x7 x8 x9 x10 x11 x12 x13 (ix2 r j) = tile1 x0 x1 x2 x3 x4 x5 x6 x7 x8 x9 x10 x11 x12 x13 r j := by
  unfold out0_14 k0_pay13 k0_pay12 k0_pay11 k0_pay10 k0_pay9
  rw [View.canon_unit_zero hz2]
  simp only [View.ld_unit_zero (S := S512x512) hz2, View.ld_unit_zero (S := S512x1024) hz2, View.ld_unit_zero (S := S1024x1024) hz2, View.ld_unit_zero (S := S1x1x1024) hz3]
  exact pay_tile x0 x1 x2 x3 x4 x5 x6 x7 x8 x9 x10 x11 x12 x13 r j

theorem out15_at (x0 : Vec Ideal S512x512 .f32) (x1 : Vec Ideal S512x512 .f32) (x2 : Vec Ideal S512x512 .f32) (x3 : Vec Ideal S512x512 .f32) (x4 : Vec Ideal S512x512 .f32) (x5 : Vec Ideal S512x512 .f32) (x6 : Vec Ideal S512x1024 .f32) (x7 : Vec Ideal S1x1x1024 .f32) (x8 : Vec Ideal S1x1x1024 .f32) (x9 : Vec Ideal S1x1x1024 .f32) (x10 : Vec Ideal S1x1024 .f32) (x11 : Vec Ideal S512x1024 .bf16) (x12 : Vec Ideal S512x1024 .bf16) (x13 : Vec Ideal S1024x1024 .bf16) (r : Fin 512) (j : Fin 1024) :
    out0_15 x0 x1 x2 x3 x4 x5 x6 x7 x8 x9 x10 x11 x12 x13 (ix2 r j) = Proj.act (tile1 x0 x1 x2 x3 x4 x5 x6 x7 x8 x9 x10 x11 x12 x13 r) j (x10 (ix2 0 j)) (x8 (ix3 0 0 j)) (x9 (ix3 0 0 j)) := by
  unfold out0_15 k0_pay13 k0_pay12 k0_pay11 k0_pay10 k0_pay9
  rw [View.canon_unit_zero hz2]
  simp only [View.ld_unit_zero (S := S512x512) hz2, View.ld_unit_zero (S := S512x1024) hz2, View.ld_unit_zero (S := S1024x1024) hz2, View.ld_unit_zero (S := S1x1024) hz2, View.ld_unit_zero (S := S1x1x1024) hz3]
  refine (pay8 _ _ _ _ _ _ _ _ _ _ _ r j).trans ?_
  exact congrArg (fun f => Proj.act f j _ _ _) (funext fun i => pay_tile x0 x1 x2 x3 x4 x5 x6 x7 x8 x9 x10 x11 x12 x13 r i)

end Cert.Proof.Out

end
-- ==== Proof.Out.Blocks.lean ====
/- The arrays that the output projection's steps read, and the blocks of a step, at the eleven arguments. -/
module

public import proofs.«01_k».proof.Proof.Gen.Kernel3Ideal.Frame
public import proofs.«01_k».proof.Proof.Out.Spec

@[expose] public section

set_option maxRecDepth 16384

noncomputable section

namespace Cert.Proof.Out

open Cert.Kernel3Ideal Cert.Kernel3Ideal.Gen
open Idealize.ShloMosaic Idealize.ShloMosaic.TcCoe Idealize.ShloMosaic.Tactic Idealize.SL.Sem
open Cert.Proof.Proj (of2 of3)

variable (m : (ℓ : Loc nD τ sig) → Buf (Elt Ideal) ℓ)

/-- The eleven arguments of a launch. -/
abbrev args (c : Dev nD) : Args where
  oa := m ((c : Thread nD τ).loc main_arg0)
  ob := m ((c : Thread nD τ).loc main_arg1)
  h := m ((c : Thread nD τ).loc main_arg2)
  x := m ((c : Thread nD τ).loc main_arg3)
  g := m ((c : Thread nD τ).loc main_arg4)
  sc := m ((c : Thread nD τ).loc main_arg5)
  sh := m ((c : Thread nD τ).loc main_arg6)
  nw := m ((c : Thread nD τ).loc main_arg7)
  wa := m ((c : Thread nD τ).loc main_arg8)
  wb := m ((c : Thread nD τ).loc main_arg9)
  wo := m ((c : Thread nD τ).loc main_arg10)

theorem V_v0 (c : Dev nD) : V m c main_v0 = shapeCast S32768x512 (m ((c : Thread nD τ).loc main_arg0)) shapeCasts_S4x8192x512_S32768x512 := by
  show StableHlo.after hostOps0 _ (Proc.devRef .tc main_v0) = _
  after_results <;> rfl
theorem V_v1 (c : Dev nD) : V m c main_v1 = shapeCast S32768x512 (m ((c : Thread nD τ).loc main_arg1)) shapeCasts_S4x8192x512_S32768x512 := by
  show StableHlo.after hostOps0 _ (Proc.devRef .tc main_v1) = _
  after_results <;> rfl
theorem V_v2 (c : Dev nD) : V m c main_v2 = shapeCast S32768x8704 (m ((c : Thread nD τ).loc main_arg2)) shapeCasts_S4x8192x8704_S32768x8704 := by
  show StableHlo.after hostOps0 _ (Proc.devRef .tc main_v2) = _
  after_results <;> rfl
theorem V_v3 (c : Dev nD) : V m c main_v3 = shapeCast S32768x1024 (m ((c : Thread nD τ).loc main_arg3)) shapeCasts_S4x8192x1024_S32768x1024 := by
  show StableHlo.after hostOps0 _ (Proc.devRef .tc main_v3) = _
  after_results <;> rfl
theorem V_v7 (c : Dev nD) : V m c main_v7 = shapeCast S1x1024 (m ((c : Thread nD τ).loc main_arg7)) shapeCasts_S1024_S1x1024 := by
  show StableHlo.after hostOps0 _ (Proc.devRef .tc main_v7) = _
  after_results <;> rfl
theorem V_v4 (c : Dev nD) : V m c main_v4 = truncf (F := Ideal) (s := S512x1024) (φ := .f32) .bf16 (m ((c : Thread nD τ).loc main_arg8)) bitsLt_bf16_f32 := by
  show StableHlo.after hostOps0 _ (Proc.devRef .tc main_v4) = _
  after_results
theorem V_v5 (c : Dev nD) : V m c main_v5 = truncf (F := Ideal) (s := S512x1024) (φ := .f32) .bf16 (m ((c : Thread nD τ).loc main_arg9)) bitsLt_bf16_f32 := by
  show StableHlo.after hostOps0 _ (Proc.devRef .tc main_v5) = _
  after_results
theorem V_v6 (c : Dev nD) : V m c main_v6 = truncf (F := Ideal) (s := S1024x1024) (φ := .f32) .bf16 (m ((c : Thread nD τ).loc main_arg10)) bitsLt_bf16_f32 := by
  show StableHlo.after hostOps0 _ (Proc.devRef .tc main_v6) = _
  after_results

theorem rows_512 (x : Vec Ideal S4x8192x512 .f32) (R : Fin 32768) (k : Fin 512) :
    (shapeCast S32768x512 x shapeCasts_S4x8192x512_S32768x512) (ix2 R k) = x (ix3 ⟨R.val / 8192, by omega⟩ ⟨R.val % 8192, by omega⟩ k) := by
  pointwise
theorem rows_1024 (x : Vec Ideal S4x8192x1024 .f32) (R : Fin 32768) (k : Fin 1024) :
    (shapeCast S32768x1024 x shapeCasts_S4x8192x1024_S32768x1024) (ix2 R k) = x (ix3 ⟨R.val / 8192, by omega⟩ ⟨R.val % 8192, by omega⟩ k) := by
  pointwise
theorem rows_8704 (x : Vec Ideal S4x8192x8704 .f32) (R : Fin 32768) (k : Fin 8704) :
    (shapeCast S32768x8704 x shapeCasts_S4x8192x8704_S32768x8704) (ix2 R k) = x (ix3 ⟨R.val / 8192, by omega⟩ ⟨R.val % 8192, by omega⟩ k) := by
  pointwise
theorem line (x : Vec Ideal S1024 .f32) (k : Fin 1024) : (shapeCast S1x1024 x shapeCasts_S1024_S1x1024) (ix2 0 k) = x (ix1 k) := by
  pointwise

theorem lt64 (t : Fin cfg0.N) : t.val < 64 := Nat.lt_of_lt_of_eq t.isLt N_0

/-- The batch of a step. -/
def bat (t : Fin cfg0.N) : Fin 4 := ⟨t.val / 16, by have := lt64 t; omega⟩
/-- The position, inside its batch, of a row of a step. -/
def pos (t : Fin cfg0.N) (r : Fin 512) : Fin 8192 := ⟨t.val % 16 * 512 + r.val, by omega⟩

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = t.val ∧ win0_1.index t (1 : Fin 2) = 0 := (by decide +kernel : ∀ t : Fin grid0.N, _)
theorem index_2 : ∀ t : Fin cfg0.N, win0_2.index t (0 : Fin 2) = t.val ∧ win0_2.index t (1 : Fin 2) = 13 := (by decide +kernel : ∀ t : Fin grid0.N, _)
theorem index_3 : ∀ t : Fin cfg0.N, win0_3.index t (0 : Fin 2) = t.val ∧ win0_3.index t (1 : Fin 2) = 14 := (by decide +kernel : ∀ t : Fin grid0.N, _)
theorem index_4 : ∀ t : Fin cfg0.N, win0_4.index t (0 : Fin 2) = t.val ∧ win0_4.index t (1 : Fin 2) = 15 := (by decide +kernel : ∀ t : Fin grid0.N, _)
theorem index_5 : ∀ t : Fin cfg0.N, win0_5.index t (0 : Fin 2) = t.val ∧ win0_5.index t (1 : Fin 2) = 16 := (by decide +kernel : ∀ t : Fin grid0.N, _)
theorem index_6 : ∀ t : Fin cfg0.N, win0_6.index t (0 : Fin 2) = t.val ∧ win0_6.index t (1 : Fin 2) = 0 := (by decide +kernel : ∀ t : Fin grid0.N, _)
theorem index_7 : ∀ t : Fin cfg0.N, win0_7.index t (0 : Fin 3) = t.val / 16 ∧ win0_7.index t (1 : Fin 3) = 0 ∧ win0_7.index t (2 : Fin 3) = 0 := (by decide +kernel : ∀ t : Fin grid0.N, _)
theorem index_8 : ∀ t : Fin cfg0.N, win0_8.index t (0 : Fin 3) = t.val / 16 ∧ win0_8.index t (1 : Fin 3) = 0 ∧ win0_8.index t (2 : Fin 3) = 0 := (by decide +kernel : ∀ t : Fin grid0.N, _)
theorem index_9 : ∀ t : Fin cfg0.N, win0_9.index t (0 : Fin 3) = t.val / 16 ∧ win0_9.index t (1 : Fin 3) = 0 ∧ win0_9.index t (2 : Fin 3) = 0 := (by decide +kernel : ∀ t : Fin grid0.N, _)
theorem index_10 : ∀ t : Fin cfg0.N, win0_10.index t (0 : Fin 2) = 0 ∧ win0_10.index t (1 : Fin 2) = 0 := (by decide +kernel : ∀ t : Fin grid0.N, _)
theorem index_11 : ∀ t : Fin cfg0.N, win0_11.index t (0 : Fin 2) = 0 ∧ win0_11.index t (1 : Fin 2) = 0 := (by decide +kernel : ∀ t : Fin grid0.N, _)
theorem index_12 : ∀ t : Fin cfg0.N, win0_12.index t (0 : Fin 2) = 0 ∧ win0_12.index t (1 : Fin 2) = 0 := (by decide +kernel : ∀ t : Fin grid0.N, _)
theorem index_13 : ∀ t : Fin cfg0.N, win0_13.index t (0 : Fin 2) = 0 ∧ win0_13.index t (1 : Fin 2) = 0 := (by decide +kernel : ∀ t : Fin grid0.N, _)
theorem index_14 : ∀ t : Fin cfg0.N, win0_14.index t (0 : Fin 2) = t.val ∧ win0_14.index t (1 : Fin 2) = 0 := (by decide +kernel : ∀ t : Fin grid0.N, _)
theorem index_15 : ∀ t : Fin cfg0.N, win0_15.index t (0 : Fin 2) = t.val ∧ win0_15.index t (1 : Fin 2) = 0 := (by decide +kernel : ∀ t : Fin grid0.N, _)

theorem block_0 (c : Dev nD) (t : Fin cfg0.N) (r : Fin 512) (k : Fin 512) :
    (iblk m c 0 t : Vec Ideal S512x512 .f32) (ix2 r k) = (args m c).oa (ix3 (bat t) (pos t r) k) := by
  obtain ⟨e0, e1⟩ := index_0 t
  have ht := lt64 t
  refine (of2 (V m c main_v0) (((cfg0.win 0).blk t).view.emb (ix2 (n0 := 512) (n1 := 512) r k)) ⟨t.val * 512 + r.val, by omega⟩ k ?_ ?_).trans ?_
  · show win0_0.index t (0 : Fin 2) * 512 + 1 * r.val = t.val * 512 + r.val; rw [e0]; omega
  · show win0_0.index t (1 : Fin 2) * 512 + 1 * k.val = k.val; rw [e1]; omega
  · rw [V_v0]
    refine (rows_512 _ _ _).trans (of3 _ _ _ _ _ ?_ ?_ rfl)
    · show (t.val * 512 + r.val) / 8192 = t.val / 16; omega
    · show (t.val * 512 + r.val) % 8192 = t.val % 16 * 512 + r.val; omega

theorem block_1 (c : Dev nD) (t : Fin cfg0.N) (r : Fin 512) (k : Fin 512) :
    (iblk m c 1 t : Vec Ideal S512x512 .f32) (ix2 r k) = (args m c).ob (ix3 (bat t) (pos t r) k) := by
  obtain ⟨e0, e1⟩ := index_1 t
  have ht := lt64 t
  refine (of2 (V m c main_v1) (((cfg0.win 1).blk t).view.emb (ix2 (n0 := 512) (n1 := 512) r k)) ⟨t.val * 512 + r.val, by omega⟩ k ?_ ?_).trans ?_
  · show win0_1.index t (0 : Fin 2) * 512 + 1 * r.val = t.val * 512 + r.val; rw [e0]; omega
  · show win0_1.index t (1 : Fin 2) * 512 + 1 * k.val = k.val; rw [e1]; omega
  · rw [V_v1]
    refine (rows_512 _ _ _).trans (of3 _ _ _ _ _ ?_ ?_ rfl)
    · show (t.val * 512 + r.val) / 8192 = t.val / 16; omega
    · show (t.val * 512 + r.val) % 8192 = t.val % 16 * 512 + r.val; omega

theorem block_6 (c : Dev nD) (t : Fin cfg0.N) (r : Fin 512) (k : Fin 1024) :
    (iblk m c 6 t : Vec Ideal S512x1024 .f32) (ix2 r k) = (args m c).x (ix3 (bat t) (pos t r) k) := by
  obtain ⟨e0, e1⟩ := index_6 t
  have ht := lt64 t
  refine (of2 (V m c main_v3) (((cfg0.win 6).blk t).view.emb (ix2 (n0 := 512) (n1 := 1024) r k)) ⟨t.val * 512 + r.val, by omega⟩ k ?_ ?_).trans ?_
  · show win0_6.index t (0 : Fin 2) * 512 + 1 * r.val = t.val * 512 + r.val; rw [e0]; omega
  · show win0_6.index t (1 : Fin 2) * 1024 + 1 * k.val = k.val; rw [e1]; omega
  · rw [V_v3]
    refine (rows_1024 _ _ _).trans (of3 _ _ _ _ _ ?_ ?_ rfl)
    · show (t.val * 512 + r.val) / 8192 = t.val / 16; omega
    · show (t.val * 512 + r.val) % 8192 = t.val % 16 * 512 + r.val; omega

theorem block_2 (c : Dev nD) (t : Fin cfg0.N) (r : Fin 512) (k : Fin 512) :
    (iblk m c 2 t : Vec Ideal S512x512 .f32) (ix2 r k) = (args m c).h (ix3 (bat t) (pos t r) ⟨6656 + k.val, by omega⟩) := by
  obtain ⟨e0, e1⟩ := index_2 t
  have ht := lt64 t
  refine (of2 (V m c main_v2) (((cfg0.win 2).blk t).view.emb (ix2 (n0 := 512) (n1 := 512) r k)) ⟨t.val * 512 + r.val, by omega⟩ ⟨6656 + k.val, by omega⟩ ?_ ?_).trans ?_
  · show win0_2.index t (0 : Fin 2) * 512 + 1 * r.val = t.val * 512 + r.val; rw [e0]; omega
  · show win0_2.index t (1 : Fin 2) * 512 + 1 * k.val = 6656 + k.val; rw [e1]; omega
  · rw [V_v2]
    refine (rows_8704 _ _ _).trans (of3 _ _ _ _ _ ?_ ?_ rfl)
    · show (t.val * 512 + r.val) / 8192 = t.val / 16; omega
    · show (t.val * 512 + r.val) % 8192 = t.val % 16 * 512 + r.val; omega

theorem block_3 (c : Dev nD) (t : Fin cfg0.N) (r : Fin 512) (k : Fin 512) :
    (iblk m c 3 t : Vec Ideal S512x512 .f32) (ix2 r k) = (args m c).h (ix3 (bat t) (pos t r) ⟨7168 + k.val, by omega⟩) := by
  obtain ⟨e0, e1⟩ := index_3 t
  have ht := lt64 t
  refine (of2 (V m c main_v2) (((cfg0.win 3).blk t).view.emb (ix2 (n0 := 512) (n1 := 512) r k)) ⟨t.val * 512 + r.val, by omega⟩ ⟨7168 + k.val, by omega⟩ ?_ ?_).trans ?_
  · show win0_3.index t (0 : Fin 2) * 512 + 1 * r.val = t.val * 512 + r.val; rw [e0]; omega
  · show win0_3.index t (1 : Fin 2) * 512 + 1 * k.val = 7168 + k.val; rw [e1]; omega
  · rw [V_v2]
    refine (rows_8704 _ _ _).trans (of3 _ _ _ _ _ ?_ ?_ rfl)
    · show (t.val * 512 + r.val) / 8192 = t.val / 16; omega
    · show (t.val * 512 + r.val) % 8192 = t.val % 16 * 512 + r.val; omega

theorem block_4 (c : Dev nD) (t : Fin cfg0.N) (r : Fin 512) (k : Fin 512) :
    (iblk m c 4 t : Vec Ideal S512x512 .f32) (ix2 r k) = (args m c).h (ix3 (bat t) (pos t r) ⟨7680 + k.val, by omega⟩) := by
  obtain ⟨e0, e1⟩ := index_4 t
  have ht := lt64 t
  refine (of2 (V m c main_v2) (((cfg0.win 4).blk t).view.emb (ix2 (n0 := 512) (n1 := 512) r k)) ⟨t.val * 512 + r.val, by omega⟩ ⟨7680 + k.val, by omega⟩ ?_ ?_).trans ?_
  · show win0_4.index t (0 : Fin 2) * 512 + 1 * r.val = t.val * 512 + r.val; rw [e0]; omega
  · show win0_4.index t (1 : Fin 2) * 512 + 1 * k.val = 7680 + k.val; rw [e1]; omega
  · rw [V_v2]
    refine (rows_8704 _ _ _).trans (of3 _ _ _ _ _ ?_ ?_ rfl)
    · show (t.val * 512 + r.val) / 8192 = t.val / 16; omega
    · show (t.val * 512 + r.val) % 8192 = t.val % 16 * 512 + r.val; omega

theorem block_5 (c : Dev nD) (t : Fin cfg0.N) (r : Fin 512) (k : Fin 512) :
    (iblk m c 5 t : Vec Ideal S512x512 .f32) (ix2 r k) = (args m c).h (ix3 (bat t) (pos t r) ⟨8192 + k.val, by omega⟩) := by
  obtain ⟨e0, e1⟩ := index_5 t
  have ht := lt64 t
  refine (of2 (V m c main_v2) (((cfg0.win 5).blk t).view.emb (ix2 (n0 := 512) (n1 := 512) r k)) ⟨t.val * 512 + r.val, by omega⟩ ⟨8192 + k.val, by omega⟩ ?_ ?_).trans ?_
  · show win0_5.index t (0 : Fin 2) * 512 + 1 * r.val = t.val * 512 + r.val; rw [e0]; omega
  · show win0_5.index t (1 : Fin 2) * 512 + 1 * k.val = 8192 + k.val; rw [e1]; omega
  · rw [V_v2]
    refine (rows_8704 _ _ _).trans (of3 _ _ _ _ _ ?_ ?_ rfl)
    · show (t.val * 512 + r.val) / 8192 = t.val / 16; omega
    · show (t.val * 512 + r.val) % 8192 = t.val % 16 * 512 + r.val; omega

theorem block_7 (c : Dev nD) (t : Fin cfg0.N) (k : Fin 1024) :
    (iblk m c 7 t : Vec Ideal S1x1x1024 .f32) (ix3 0 0 k) = (args m c).g (ix3 (bat t) 0 k) := by
  obtain ⟨e0, e1, e2⟩ := index_7 t
  refine (of3 (V m c main_arg4) (((cfg0.win 7).blk t).view.emb (ix3 (n0 := 1) (n1 := 1) (n2 := 1024) 0 0 k)) (bat t) 0 k ?_ ?_ ?_).trans ?_
  · show win0_7.index t (0 : Fin 3) * 1 + 1 * 0 = t.val / 16; rw [e0]; omega
  · show win0_7.index t (1 : Fin 3) * 1 + 1 * 0 = _; rw [e1]; rfl
  · show win0_7.index t (2 : Fin 3) * 1024 + 1 * k.val = _; rw [e2]; omega
  · rw [V_main_arg4]

theorem block_8 (c : Dev nD) (t : Fin cfg0.N) (k : Fin 1024) :
    (iblk m c 8 t : Vec Ideal S1x1x1024 .f32) (ix3 0 0 k) = (args m c).sc (ix3 (bat t) 0 k) := by
  obtain ⟨e0, e1, e2⟩ := index_8 t
  refine (of3 (V m c main_arg5) (((cfg0.win 8).blk t).view.emb (ix3 (n0 := 1) (n1 := 1) (n2 := 1024) 0 0 k)) (bat t) 0 k ?_ ?_ ?_).trans ?_
  · show win0_8.index t (0 : Fin 3) * 1 + 1 * 0 = t.val / 16; rw [e0]; omega
  · show win0_8.index t (1 : Fin 3) * 1 + 1 * 0 = _; rw [e1]; rfl
  · show win0_8.index t (2 : Fin 3) * 1024 + 1 * k.val = _; rw [e2]; omega
  · rw [V_main_arg5]

theorem block_9 (c : Dev nD) (t : Fin cfg0.N) (k : Fin 1024) :
    (iblk m c 9 t : Vec Ideal S1x1x1024 .f32) (ix3 0 0 k) = (args m c).sh (ix3 (bat t) 0 k) := by
  obtain ⟨e0, e1, e2⟩ := index_9 t
  refine (of3 (V m c main_arg6) (((cfg0.win 9).blk t).view.emb (ix3 (n0 := 1) (n1 := 1) (n2 := 1024) 0 0 k)) (bat t) 0 k ?_ ?_ ?_).trans ?_
  · show win0_9.index t (0 : Fin 3) * 1 + 1 * 0 = t.val / 16; rw [e0]; omega
  · show win0_9.index t (1 : Fin 3) * 1 + 1 * 0 = _; rw [e1]; rfl
  · show win0_9.index t (2 : Fin 3) * 1024 + 1 * k.val = _; rw [e2]; omega
  · rw [V_main_arg6]

theorem block_10 (c : Dev nD) (t : Fin cfg0.N) (k : Fin 1024) :
    (iblk m c 10 t : Vec Ideal S1x1024 .f32) (ix2 0 k) = (args m c).nw (ix1 k) := by
  obtain ⟨e0, e1⟩ := index_10 t
  refine (of2 (V m c main_v7) (((cfg0.win 10).blk t).view.emb (ix2 (n0 := 1) (n1 := 1024) 0 k)) 0 k ?_ ?_).trans ?_
  · show win0_10.index t (0 : Fin 2) * 1 + 1 * 0 = _; rw [e0]; rfl
  · show win0_10.index t (1 : Fin 2) * 1024 + 1 * k.val = _; rw [e1]; omega
  · rw [V_v7]
    exact line _ _

theorem block_11 (c : Dev nD) (t : Fin cfg0.N) (i : Fin 512) (k : Fin 1024) :
    (iblk m c 11 t : Vec Ideal S512x1024 .bf16) (ix2 i k) = (args m c).wa (ix2 i k) := by
  obtain ⟨e0, e1⟩ := index_11 t
  refine (of2 (V m c main_v4) (((cfg0.win 11).blk t).view.emb (ix2 (n0 := 512) (n1 := 1024) i k)) i k ?_ ?_).trans ?_
  · show win0_11.index t (0 : Fin 2) * 512 + 1 * i.val = _; rw [e0]; omega
  · show win0_11.index t (1 : Fin 2) * 1024 + 1 * k.val = _; rw [e1]; omega
  · rw [V_v4]
    rfl

theorem block_12 (c : Dev nD) (t : Fin cfg0.N) (i : Fin 512) (k : Fin 1024) :
    (iblk m c 12 t : Vec Ideal S512x1024 .bf16) (ix2 i k) = (args m c).wb (ix2 i k) := by
  obtain ⟨e0, e1⟩ := index_12 t
  refine (of2 (V m c main_v5) (((cfg0.win 12).blk t).view.emb (ix2 (n0 := 512) (n1 := 1024) i k)) i k ?_ ?_).trans ?_
  · show win0_12.index t (0 : Fin 2) * 512 + 1 * i.val = _; rw [e0]; omega
  · show win0_12.index t (1 : Fin 2) * 1024 + 1 * k.val = _; rw [e1]; omega
  · rw [V_v5]
    rfl

theorem block_13 (c : Dev nD) (t : Fin cfg0.N) (i : Fin 1024) (k : Fin 1024) :
    (iblk m c 13 t : Vec Ideal S1024x1024 .bf16) (ix2 i k) = (args m c).wo (ix2 i k) := by
  obtain ⟨e0, e1⟩ := index_13 t
  refine (of2 (V m c main_v6) (((cfg0.win 13).blk t).view.emb (ix2 (n0 := 1024) (n1 := 1024) i k)) i k ?_ ?_).trans ?_
  · show win0_13.index t (0 : Fin 2) * 1024 + 1 * i.val = _; rw [e0]; omega
  · show win0_13.index t (1 : Fin 2) * 1024 + 1 * k.val = _; rw [e1]; omega
  · rw [V_v6]
    rfl

end Cert.Proof.Out

end
-- ==== Proof.Out.Value.lean ====
/- The output projection's two results: each step leaves its tile of one function of the eleven arguments, and the tiles fill the arrays. -/
module

public import proofs.«01_k».proof.Proof.Gen.Kernel3Ideal.Value
public import proofs.«01_k».proof.Proof.Out.Tile
public import proofs.«01_k».proof.Proof.Out.Blocks
public import Idealize.ShloMosaic.Lib.Pipeline.ValueKit

@[expose] public section

set_option maxRecDepth 16384

noncomputable section

namespace Cert.Proof.Out

open Cert.Kernel3Ideal Cert.Kernel3Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

theorem beside_a (c : Dev nD) (t : Fin cfg0.N) (r : Fin 512) (k : Fin 1024) :
    beside (iblk m c 2 t) (iblk m c 3 t) r k = (args m c).h (ix3 (bat t) (pos t r) ⟨6656 + k.val, by omega⟩) := by
  unfold beside
  split
  · exact block_2 m c t r _
  · exact (block_3 m c t r _).trans (congrArg (fun j => (args m c).h (ix3 (bat t) (pos t r) j)) (Fin.ext (by show 7168 + (k.val - 512) = 6656 + k.val; omega)))

theorem beside_b (c : Dev nD) (t : Fin cfg0.N) (r : Fin 512) (k : Fin 1024) :
    beside (iblk m c 4 t) (iblk m c 5 t) r k = (args m c).h (ix3 (bat t) (pos t r) ⟨7680 + k.val, by omega⟩) := by
  unfold beside
  split
  · exact block_4 m c t r _
  · exact (block_5 m c t r _).trans (congrArg (fun j => (args m c).h (ix3 (bat t) (pos t r) j)) (Fin.ext (by show 8192 + (k.val - 512) = 7680 + k.val; omega)))

theorem resid_congr {x x' g g' : EReal} {f f' w w' : Fin 1024 → EReal} (hx : x = x') (hg : g = g') (hf : f = f') (hw : w = w') :
    resid x g f w = resid x' g' f' w' := by subst hx hg hf hw; rfl

theorem mixed_congr {oa oa' ob ob' : Fin 512 → EReal} {a a' b b' : EReal} {wa wa' wb wb' : Fin 512 → EReal} (h0 : oa = oa') (h1 : ob = ob')
    (h2 : a = a') (h3 : b = b') (h4 : wa = wa') (h5 : wb = wb') : mixed oa ob a b wa wb = mixed oa' ob' a' b' wa' wb' := by
  subst h0 h1 h2 h3 h4 h5; rfl

theorem act_congr {x x' : Fin 1024 → EReal} (k : Fin 1024) {w w' s s' h h' : EReal} (hx : x = x') (hw : w = w') (hs : s = s') (hh : h = h') :
    Proj.act x k w s h = Proj.act x' k w' s' h' := by subst hx hw hs hh; rfl

theorem tile_first (c : Dev nD) (t : Fin cfg0.N) (r : Fin 512) (j : Fin 1024) :
    tile1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j = first (args m c) (bat t) (pos t r) j := by
  unfold tile1 first
  exact resid_congr (block_6 m c t r j) (block_7 m c t j)
    (funext fun k => mixed_congr (funext fun i => block_0 m c t r i) (funext fun i => block_1 m c t r i) (beside_a m c t r k) (beside_b m c t r k)
      (funext fun i => block_11 m c t i k) (funext fun i => block_12 m c t i k))
    (funext fun k => block_13 m c t k j)

/-- The results, as functions of the launch. -/
abbrev value1 (c : Dev nD) : Shape.Idx ⟨2, ![32768, 1024]⟩ → EReal := rows (first (args m c))
abbrev value2 (c : Dev nD) : Shape.Idx ⟨2, ![32768, 1024]⟩ → EReal := rows (second (args m c))

theorem after_first (c : Dev nD) (t : Fin cfg0.N) (y : Shape.Idx ⟨2, ![512, 1024]⟩) :
    (dats (F := Ideal) m 0 c).after 14 t y = value1 m c (((cfg0.win 14).blk t).view.emb y) := by
  obtain ⟨e0, e1⟩ := index_14 t
  obtain ⟨r, j, rfl⟩ : ∃ (r : Fin 512) (j : Fin 1024), y = ix2 r j := ⟨y 0, y 1, eq_ix2 y⟩
  rw [after0_14]
  refine ((out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j).trans (tile_first m c t r j)).trans (rows_of _ _ (bat t) (pos t r) j ?_ ?_).symm
  · show win0_14.index t (0 : Fin 2) * 512 + 1 * r.val = t.val / 16 * 8192 + (t.val % 16 * 512 + r.val); rw [e0]; omega
  · show win0_14.index t (1 : Fin 2) * 1024 + 1 * j.val = j.val; rw [e1]; omega

theorem after_second (c : Dev nD) (t : Fin cfg0.N) (y : Shape.Idx ⟨2, ![512, 1024]⟩) :
    (dats (F := Ideal) m 0 c).after 15 t y = value2 m c (((cfg0.win 15).blk t).view.emb y) := by
  obtain ⟨e0, e1⟩ := index_15 t
  obtain ⟨r, j, rfl⟩ : ∃ (r : Fin 512) (j : Fin 1024), y = ix2 r j := ⟨y 0, y 1, eq_ix2 y⟩
  rw [after0_15]
  refine ((out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j).trans
    (act_congr j (funext fun i => tile_first m c t r i) (block_10 m c t j) (block_8 m c t j) (block_9 m c t j))).trans (rows_of (second (args m c)) _ (bat t) (pos t r) j ?_ ?_).symm
  · show win0_15.index t (0 : Fin 2) * 512 + 1 * r.val = t.val / 16 * 8192 + (t.val % 16 * 512 + r.val); rw [e0]; omega
  · show win0_15.index t (1 : Fin 2) * 1024 + 1 * j.val = j.val; rw [e1]; omega

theorem final1 (c : Dev nD) : (dats (F := Ideal) m 0 c).arrAt 14 cfg0.N = value1 m c :=
  (dats (F := Ideal) m 0 c).arrAt_eq_of_covers 14 (value1 m c) (by decide +kernel) fun t _ y => after_first m c t y

theorem final2 (c : Dev nD) : (dats (F := Ideal) m 0 c).arrAt 15 cfg0.N = value2 m c :=
  (dats (F := Ideal) m 0 c).arrAt_eq_of_covers 15 (value2 m c) (by decide +kernel) fun t _ y => after_second m c t y

/-- The run with the results at their functions of the arguments. -/
theorem run_value (ρ : Dev nD → PrngReg) : θ_run defs (onTc (τ := τ) (main (F := Ideal))) ⟨m, fun _ => 0, ρ⟩ fun r => ∀ c : Dev nD,
      r.2.mem ((c.tc : Thread nD τ).loc main_v8_0) = value1 m c
      ∧ r.2.mem ((c.tc : Thread nD τ).loc main_v8_1) = value2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (final1 m c), (h c).2.1.trans (final2 m c), (h c).2.2⟩) (Cert.Kernel3Ideal.Value.run_blocks (F := Ideal) m ρ)

end Cert.Proof.Out

end
-- ==== Proof.Out.RefValue.lean ====
/- The reference's two terms, read element by element. -/
module

public import proofs.«01_k».proof.Proof.Gen.Reference3Ideal.Run
public import Idealize.ShloMosaic.Lib.Tactic.CleanTypes
public import proofs.«01_k».proof.Proof.Out.Spec

@[expose] public section

set_option maxRecDepth 16384

noncomputable section

namespace Cert.Proof.OutRef

open Cert.Reference3Ideal Cert.Reference3Ideal.Gen
open Idealize.ShloMosaic Idealize.SL.Sem
open Cert.Proof.Proj Cert.Proof.Out

theorem e_sum (x : FVec Ideal S4x8192x1024 .f32) (b : Fin 4) (t : Fin 8192) :
    (Host.reduceAdd (mulf x x) (constant S_ .f32 0x00000000#32) reducesTo_S4x8192x1024_S4x8192_d2 h_S_ : FVec Ideal S4x8192 .f32) (ix2 b t)
      = ∑ j : Fin 1024, @HMul.hMul EReal EReal EReal _ (x (ix3 b t j)) (x (ix3 b t j)) := by
  clean_types
  pointwise

theorem e_inv (y : FVec Ideal S4x8192 .f32) (b : Fin 4) (t : Fin 8192) (k : Fin 1024) :
    (broadcastInDim S4x8192x1024 ![0, 1, 2] bcast_S4x8192x1_S4x8192x1024_0_1_2 (Host.rsqrt (addf (Host.divf (broadcastInDim S4x8192x1 ![0, 1] bcast_S4x8192_S4x8192x1_0_1 y) (broadcastInDim S4x8192x1 ![] bcast_S_S4x8192x1 (constant S_ .f32 0x44800000#32))) (broadcastInDim S4x8192x1 ![] bcast_S_S4x8192x1 (constant S_ .f32 0x358637BD#32)))) : FVec Ideal S4x8192x1024 .f32) (ix3 b t k)
      = Ideal.rsqrt (@HAdd.hAdd EReal EReal EReal _ (Ideal.div (y (ix2 b t)) (Ideal.ofBits .f32 0x44800000#32)) (Ideal.ofBits .f32 0x358637BD#32)) := by
  clean_types
  pointwise

theorem e_act (x z : FVec Ideal S4x8192x1024 .f32) (w : FVec Ideal S1024 .f32) (s h : FVec Ideal S4x1x1024 .f32) (b : Fin 4) (t : Fin 8192) (k : Fin 1024) :
    (addf (mulf (mulf (mulf x z) (broadcastInDim S4x8192x1024 ![0, 1, 2] bcast_S1x1x1024_S4x8192x1024_0_1_2 (broadcastInDim S1x1x1024 ![2] bcast_S1024_S1x1x1024_2 w))) (broadcastInDim S4x8192x1024 ![0, 1, 2] bcast_S4x1x1024_S4x8192x1024_0_1_2 (addf (broadcastInDim S4x1x1024 ![] bcast_S_S4x1x1024 (constant S_ .f32 0x3F800000#32)) s))) (broadcastInDim S4x8192x1024 ![0, 1, 2] bcast_S4x1x1024_S4x8192x1024_0_1_2 h) : FVec Ideal S4x8192x1024 .f32) (ix3 b t k)
      = @HAdd.hAdd EReal EReal EReal _ (@HMul.hMul EReal EReal EReal _ (@HMul.hMul EReal EReal EReal _ (@HMul.hMul EReal EReal EReal _ (x (ix3 b t k)) (z (ix3 b t k))) (w (ix1 k))) (@HAdd.hAdd EReal EReal EReal _ 1 (s (ix3 b 0 k)))) (h (ix3 b 0 k)) := by
  clean_types
  pointwise

theorem e_gate (h : FVec Ideal S4x8192x8704 .f32) (b : Fin 4) (t : Fin 8192) (k : Fin 2048) :
    (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (extractStridedSlice S4x8192x2048 ![0, 0, 6656] h slices_S4x8192x8704_S4x8192x2048_0_0_6656)))) : FVec Ideal S4x8192x2048 .f32) (ix3 b t k) = gate (h (ix3 b t ⟨6656 + k.val, by omega⟩)) := by
  unfold gate
  clean_types
  pointwise

theorem e_left (s : FVec Ideal S4x8192x2048 .f32) (b : Fin 4) (t : Fin 8192) (k : Fin 1024) :
    (extractStridedSlice S4x8192x1024 ![0, 0, 0] s slices_S4x8192x2048_S4x8192x1024_0_0_0 : FVec Ideal S4x8192x1024 .f32) (ix3 b t k) = s (ix3 b t ⟨k.val, by omega⟩) := by
  clean_types
  pointwise

theorem e_right (s : FVec Ideal S4x8192x2048 .f32) (b : Fin 4) (t : Fin 8192) (k : Fin 1024) :
    (extractStridedSlice S4x8192x1024 ![0, 0, 1024] s slices_S4x8192x2048_S4x8192x1024_0_0_1024 : FVec Ideal S4x8192x1024 .f32) (ix3 b t k) = s (ix3 b t ⟨1024 + k.val, by omega⟩) := by
  clean_types
  pointwise

theorem e_branch (a : FVec Ideal S4x8192x512 .f32) (w : FVec Ideal S512x1024 .f32) (b : Fin 4) (t : Fin 8192) (j : Fin 1024) :
    (Host.dotGeneral dot_S4x8192x512_S512x1024_S4x8192x1024_2_0_01_1_n_n none a w : FVec Ideal S4x8192x1024 .f32) (ix3 b t j)
      = ∑ k : Fin 512, @HMul.hMul EReal EReal EReal _ (a (ix3 b t k)) (w (ix2 k j)) := by
  clean_types
  pointwise

theorem e_dot (a : FVec Ideal S4x8192x1024 .f32) (w : FVec Ideal S1024x1024 .f32) (b : Fin 4) (t : Fin 8192) (j : Fin 1024) :
    (Host.dotGeneral dot_S4x8192x1024_S1024x1024_S4x8192x1024_2_0_01_1_n_n none a w : FVec Ideal S4x8192x1024 .f32) (ix3 b t j)
      = ∑ k : Fin 1024, @HMul.hMul EReal EReal EReal _ (a (ix3 b t k)) (w (ix2 k j)) := by
  clean_types
  pointwise

theorem e_mix (p q u v : FVec Ideal S4x8192x1024 .f32) (b : Fin 4) (t : Fin 8192) (k : Fin 1024) :
    (addf (mulf p q) (mulf u v) : FVec Ideal S4x8192x1024 .f32) (ix3 b t k)
      = @HAdd.hAdd EReal EReal EReal _ (@HMul.hMul EReal EReal EReal _ (p (ix3 b t k)) (q (ix3 b t k))) (@HMul.hMul EReal EReal EReal _ (u (ix3 b t k)) (v (ix3 b t k))) := by
  clean_types
  pointwise

theorem e_resid (x d : FVec Ideal S4x8192x1024 .f32) (g : FVec Ideal S4x1x1024 .f32) (b : Fin 4) (t : Fin 8192) (k : Fin 1024) :
    (addf x (mulf (broadcastInDim S4x8192x1024 ![0, 1, 2] bcast_S4x1x1024_S4x8192x1024_0_1_2 g) d) : FVec Ideal S4x8192x1024 .f32) (ix3 b t k)
      = @HAdd.hAdd EReal EReal EReal _ (x (ix3 b t k)) (@HMul.hMul EReal EReal EReal _ (g (ix3 b 0 k)) (d (ix3 b t k))) := by
  clean_types
  pointwise

theorem e_rows (v : FVec Ideal S4x8192x1024 .f32) (R : Fin 32768) (j : Fin 1024) :
    (shapeCast S32768x1024 v shapeCasts_S4x8192x1024_S32768x1024) (ix2 R j) = v (ix3 ⟨R.val / 8192, by omega⟩ ⟨R.val % 8192, by omega⟩ j) := by
  pointwise

/-- The mix of the two branches. -/
def mixT (oa ob : FVec Ideal S4x8192x512 .f32) (h : FVec Ideal S4x8192x8704 .f32) (wa wb : FVec Ideal S512x1024 .f32) : FVec Ideal S4x8192x1024 .f32 :=
  addf (mulf (extractStridedSlice S4x8192x1024 ![0, 0, 0] (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (extractStridedSlice S4x8192x2048 ![0, 0, 6656] h slices_S4x8192x8704_S4x8192x2048_0_0_6656))))) slices_S4x8192x2048_S4x8192x1024_0_0_0) (Host.dotGeneral dot_S4x8192x512_S512x1024_S4x8192x1024_2_0_01_1_n_n none oa wa)) (mulf (extractStridedSlice S4x8192x1024 ![0, 0, 1024] (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (extractStridedSlice S4x8192x2048 ![0, 0, 6656] h slices_S4x8192x8704_S4x8192x2048_0_0_6656))))) slices_S4x8192x2048_S4x8192x1024_0_0_1024) (Host.dotGeneral dot_S4x8192x512_S512x1024_S4x8192x1024_2_0_01_1_n_n none ob wb))

/-- The first result, before it is laid out in rows. -/
def firstT (oa ob : FVec Ideal S4x8192x512 .f32) (h : FVec Ideal S4x8192x8704 .f32) (x : FVec Ideal S4x8192x1024 .f32) (g : FVec Ideal S4x1x1024 .f32) (wa wb : FVec Ideal S512x1024 .f32) (wo : FVec Ideal S1024x1024 .f32) : FVec Ideal S4x8192x1024 .f32 :=
  addf x (mulf (broadcastInDim S4x8192x1024 ![0, 1, 2] bcast_S4x1x1024_S4x8192x1024_0_1_2 g) (Host.dotGeneral dot_S4x8192x1024_S1024x1024_S4x8192x1024_2_0_01_1_n_n none (mixT oa ob h wa wb) wo))

/-- The second result, of the first, before it is laid out in rows. -/
def secondT (y : FVec Ideal S4x8192x1024 .f32) (sc sh : FVec Ideal S4x1x1024 .f32) (nw : FVec Ideal S1024 .f32) : FVec Ideal S4x8192x1024 .f32 :=
  addf (mulf (mulf (mulf y (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf y y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 nw))) (broadcastInDim S4x8192x1024 ![0, 1, 2] bcast_S4x1x1024_S4x8192x1024_0_1_2 (addf (broadcastInDim S4x1x1024 ![] bcast_S_S4x1x1024 (constant S_ .f32 0x3F800000#32)) sc))) (broadcastInDim S4x8192x1024 ![0, 1, 2] bcast_S4x1x1024_S4x8192x1024_0_1_2 sh)

/-- The eleven arguments, gathered. -/
abbrev pack (oa ob : FVec Ideal S4x8192x512 .f32) (h : FVec Ideal S4x8192x8704 .f32) (x : FVec Ideal S4x8192x1024 .f32) (g sc sh : FVec Ideal S4x1x1024 .f32) (nw : FVec Ideal S1024 .f32) (wa wb : FVec Ideal S512x1024 .f32) (wo : FVec Ideal S1024x1024 .f32) : Args := ⟨oa, ob, h, x, g, sc, sh, nw, wa, wb, wo⟩

theorem mix_at (oa ob : FVec Ideal S4x8192x512 .f32) (h : FVec Ideal S4x8192x8704 .f32) (x : FVec Ideal S4x8192x1024 .f32) (g sc sh : FVec Ideal S4x1x1024 .f32) (nw : FVec Ideal S1024 .f32) (wa wb : FVec Ideal S512x1024 .f32) (wo : FVec Ideal S1024x1024 .f32) (b : Fin 4) (t : Fin 8192) (k : Fin 1024) :
    mixT oa ob h wa wb (ix3 b t k) = mixAt (pack oa ob h x g sc sh nw wa wb wo) b t k := by
  unfold mixT mixAt mixed
  refine (e_mix _ _ _ _ b t k).trans ?_
  rw [e_left, e_right, e_branch, e_branch, e_gate, e_gate]
  have e : ∀ q, (⟨6656 + (1024 + k.val), q⟩ : Fin 8704) = ⟨7680 + k.val, by omega⟩ := fun _ => Fin.ext (by show 6656 + (1024 + k.val) = 7680 + k.val; omega)
  rw [e]

theorem first_at (oa ob : FVec Ideal S4x8192x512 .f32) (h : FVec Ideal S4x8192x8704 .f32) (x : FVec Ideal S4x8192x1024 .f32) (g sc sh : FVec Ideal S4x1x1024 .f32) (nw : FVec Ideal S1024 .f32) (wa wb : FVec Ideal S512x1024 .f32) (wo : FVec Ideal S1024x1024 .f32) (b : Fin 4) (t : Fin 8192) (j : Fin 1024) :
    firstT oa ob h x g wa wb wo (ix3 b t j) = first (pack oa ob h x g sc sh nw wa wb wo) b t j := by
  unfold firstT first resid
  refine (e_resid _ _ _ b t j).trans ?_
  rw [e_dot]
  refine congrArg (fun s : EReal => @HAdd.hAdd EReal EReal EReal _ (x (ix3 b t j)) (@HMul.hMul EReal EReal EReal _ (g (ix3 b 0 j)) s)) (Finset.sum_congr rfl fun k _ => ?_)
  exact congrArg (fun a : EReal => @HMul.hMul EReal EReal EReal _ a (wo (ix2 k j))) (mix_at oa ob h x g sc sh nw wa wb wo b t k)

theorem second_of (y : FVec Ideal S4x8192x1024 .f32) (sc sh : FVec Ideal S4x1x1024 .f32) (nw : FVec Ideal S1024 .f32) (b : Fin 4) (t : Fin 8192) (j : Fin 1024) :
    secondT y sc sh nw (ix3 b t j) = act (fun i => y (ix3 b t i)) j (nw (ix1 j)) (sc (ix3 b 0 j)) (sh (ix3 b 0 j)) := by
  unfold secondT
  refine (e_act y _ nw sc sh b t j).trans ?_
  rw [e_inv, e_sum]
  rfl

theorem first_eq (oa ob : FVec Ideal S4x8192x512 .f32) (h : FVec Ideal S4x8192x8704 .f32) (x : FVec Ideal S4x8192x1024 .f32) (g sc sh : FVec Ideal S4x1x1024 .f32) (nw : FVec Ideal S1024 .f32) (wa wb : FVec Ideal S512x1024 .f32) (wo : FVec Ideal S1024x1024 .f32) :
    (shapeCast S32768x1024 (firstT oa ob h x g wa wb wo) shapeCasts_S4x8192x1024_S32768x1024 : FVec Ideal S32768x1024 .f32) = rows (first (pack oa ob h x g sc sh nw wa wb wo)) := by
  funext i
  refine (congrArg (shapeCast S32768x1024 (firstT oa ob h x g wa wb wo) shapeCasts_S4x8192x1024_S32768x1024 : FVec Ideal S32768x1024 .f32) (eq_ix2 i)).trans ?_
  refine (e_rows _ (i 0) (i 1)).trans ((first_at oa ob h x g sc sh nw wa wb wo _ _ (i 1)).trans ?_)
  rfl

theorem second_eq (oa ob : FVec Ideal S4x8192x512 .f32) (h : FVec Ideal S4x8192x8704 .f32) (x : FVec Ideal S4x8192x1024 .f32) (g sc sh : FVec Ideal S4x1x1024 .f32) (nw : FVec Ideal S1024 .f32) (wa wb : FVec Ideal S512x1024 .f32) (wo : FVec Ideal S1024x1024 .f32) :
    (shapeCast S32768x1024 (secondT (firstT oa ob h x g wa wb wo) sc sh nw) shapeCasts_S4x8192x1024_S32768x1024 : FVec Ideal S32768x1024 .f32) = rows (second (pack oa ob h x g sc sh nw wa wb wo)) := by
  funext i
  refine (congrArg (shapeCast S32768x1024 (secondT (firstT oa ob h x g wa wb wo) sc sh nw) shapeCasts_S4x8192x1024_S32768x1024 : FVec Ideal S32768x1024 .f32) (eq_ix2 i)).trans ?_
  refine (e_rows _ (i 0) (i 1)).trans ((second_of _ sc sh nw _ _ (i 1)).trans ?_)
  exact congrArg (fun f => act f (i 1) (nw (ix1 (i 1))) (sc (ix3 _ 0 (i 1))) (sh (ix3 _ 0 (i 1)))) (funext fun k => first_at oa ob h x g sc sh nw wa wb wo _ _ k)

end Cert.Proof.OutRef

end
-- ==== Proof.lean ====
/- The proof of the claims: each is proved in the modules below and put in its place here. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Attn.Run
public import proofs.«01_k».proof.Proof.Attn.Same
public import proofs.«01_k».proof.Proof.Attn.Value
public import proofs.«01_k».proof.Proof.Attn.RefValue
public import proofs.«01_k».proof.Proof.Proj.Value
public import proofs.«01_k».proof.Proof.Proj.RefValue
public import proofs.«01_k».proof.Proof.Out.Value
public import proofs.«01_k».proof.Proof.Out.RefValue

@[expose] public section

set_option maxRecDepth 16384

noncomputable section

namespace Cert.Proof

open Idealize.ShloMosaic Idealize.SL.Sem Cert.Kernel

/-- The kernel and the kernel over the reals are the same text, so one run serves both frames. -/
theorem frame_kernel : Cert.quiescent_Kernel := fun m ρ _ => by
  have h := Cert.Proof.Attn.frame (F := Bits) m ρ
  rw [← Same.main, ← Same.defs] at h
  exact h

theorem frame_ideal : Cert.quiescent_KernelIdeal := fun m ρ _ => Cert.Proof.Attn.frame m ρ

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's array is the kernel's, when their arguments agree. -/
theorem same (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : AttnRef.qk V0 = Attn.arr0 m c) (h1 : AttnRef.hh V0 = Attn.arr1 m c)
    (R : Shape.Idx ⟨3, ![4, 8192, 512]⟩ → EReal)
    (hR : ∀ (b : Fin 4) (t : Fin 8192) (k : Fin 512), R (ix3 b t k)
      = Attn.result (AttnRef.qk V0) (AttnRef.hh V0) b.val t.val (k.val / 128) ⟨k.val % 128, by omega⟩) :
    R = Attn.resultArr (Attn.arr0 m c) (Attn.arr1 m c) := by
  funext j
  refine (congrArg R (eq_ix3 j)).trans ((hR _ _ _).trans ?_)
  rw [h0, h1]
  rfl

theorem algebraic : Cert.algebraic_KernelIdeal_ReferenceIdeal := by
  intro m g m' g' _ hm
  refine ⟨fun c => Attn.resultArr (Attn.arr0 m c) (Attn.arr1 m c), Attn.run_value m g, ?_⟩
  refine (θ_run Cert.ReferenceIdeal.defs _ _).mono (fun r h c => ⟨(h c).1.trans ?_, (h c).2⟩) (Cert.ReferenceIdeal.Value.run (F := Ideal) m' g')
  exact same m (StableHlo.launchContents m' c) c (hm c).1 (hm c).2 _
    (fun b t k => AttnRef.ref_at (StableHlo.launchContents m' c) b t k)

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The projection's array is a function of the arguments alone. -/
theorem same2 (m : (ℓ : Loc Cert.Kernel2Ideal.nD Cert.Kernel2Ideal.τ Cert.Kernel2Ideal.sig) → Buf (Elt Ideal) ℓ) (c : Dev Cert.Kernel2Ideal.nD)
    (x : Shape.Idx ⟨3, ![4, 8192, 1024]⟩ → EReal) (s h : Shape.Idx ⟨3, ![4, 1, 1024]⟩ → EReal) (nw : Shape.Idx ⟨1, ![1024]⟩ → EReal)
    (w : Shape.Idx ⟨2, ![1024, 8704]⟩ → EReal) (hx : x = Proj.ax m c) (hs : s = Proj.asc m c) (hh : h = Proj.ash m c) (hn : nw = Proj.anw m c)
    (hw : w = Proj.aw m c) : ProjRef.term x s h nw w = Proj.value m c := by
  rw [hx, hs, hh, hn, hw]
  exact ProjRef.term_eq _ _ _ _ _

theorem algebraic2 : Cert.algebraic_Kernel2Ideal_Reference2Ideal := by
  intro m g m' g' _ hm
  refine ⟨fun c => Proj.value m c, Proj.run_value m g, ?_⟩
  refine (θ_run Cert.Reference2Ideal.defs _ _).mono (fun r h c => ⟨(h c).1.trans ?_, (h c).2⟩) (Cert.Reference2Ideal.Value.run (F := Ideal) m' g')
  exact same2 m c _ _ _ _ _ (hm c).1 (hm c).2.1 (hm c).2.2.1 (hm c).2.2.2.1 (hm c).2.2.2.2

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_ref3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic3 : Cert.algebraic_Kernel3Ideal_Reference3Ideal := by
  intro m g m' g' _ hm
  refine ⟨fun c => Out.value1 m c, fun c => Out.value2 m c, Out.run_value m g, ?_⟩
  refine (θ_run Cert.Reference3Ideal.defs _ _).mono (fun r h c => ⟨(h c).1.trans ?_, (h c).2.1.trans ?_, (h c).2.2⟩) (Cert.Reference3Ideal.Value.run (F := Ideal) m' g')
  · refine (OutRef.first_eq _ _ _ _ _ (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6))
      (m' ((c.tc : Thread Cert.Reference3Ideal.nD Cert.Reference3Ideal.τ).loc Cert.Reference3Ideal.main_arg7)) _ _ _).trans ?_
    exact congrArg (fun A => Out.rows (Out.first A)) (Out.gather_eq (hm c).1 (hm c).2.1 (hm c).2.2.1 (hm c).2.2.2.1 (hm c).2.2.2.2.1 (hm c).2.2.2.2.2.1 (hm c).2.2.2.2.2.2.1 (hm c).2.2.2.2.2.2.2.1 (hm c).2.2.2.2.2.2.2.2.1 (hm c).2.2.2.2.2.2.2.2.2.1 (hm c).2.2.2.2.2.2.2.2.2.2)
  · refine (OutRef.second_eq _ _ _ _ _ _ _ _ _ _ _).trans ?_
    exact congrArg (fun A => Out.rows (Out.second A)) (Out.gather_eq (hm c).1 (hm c).2.1 (hm c).2.2.1 (hm c).2.2.2.1 (hm c).2.2.2.2.1 (hm c).2.2.2.2.2.1 (hm c).2.2.2.2.2.2.1 (hm c).2.2.2.2.2.2.2.1 (hm c).2.2.2.2.2.2.2.2.1 (hm c).2.2.2.2.2.2.2.2.2.1 (hm c).2.2.2.2.2.2.2.2.2.2)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_ideal, frame_ref, frame_kernel2, frame_ideal2, frame_ref2, frame_kernel3, frame_ideal3, frame_ref3,
  trivial, algebraic, trivial, algebraic2, trivial, algebraic3⟩

end Cert.Proof

end
